-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3)
      ∧ r.2.mem ((c.tc : Thread Cert.Mlstm.nD Cert.Mlstm.τ).loc Cert.Mlstm.main_arg4) = m ((c.tc : Thread Cert.Mlstm.nD Cert.Mlstm.τ).loc Cert.Mlstm.main_arg4)
      ∧ r.2.mem ((c.tc : Thread Cert.Mlstm.nD Cert.Mlstm.τ).loc Cert.Mlstm.main_arg5) = m ((c.tc : Thread Cert.Mlstm.nD Cert.Mlstm.τ).loc Cert.Mlstm.main_arg5)
      ∧ r.2.mem ((c.tc : Thread Cert.Mlstm.nD Cert.Mlstm.τ).loc Cert.Mlstm.main_arg6) = m ((c.tc : Thread Cert.Mlstm.nD Cert.Mlstm.τ).loc Cert.Mlstm.main_arg6))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
      ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5)
      ∧ r.2.mem ((c.tc : Thread Cert.MlstmIdeal.nD Cert.MlstmIdeal.τ).loc Cert.MlstmIdeal.main_arg6) = m ((c.tc : Thread Cert.MlstmIdeal.nD Cert.MlstmIdeal.τ).loc Cert.MlstmIdeal.main_arg6))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v15)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v15) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v57) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v58_0)) (v1 : (c : Dev Cert.MixIdeal.nD) → Buf (Elt Ideal) ((c.tc : Thread Cert.MixIdeal.nD Cert.MixIdeal.τ).loc Cert.MixIdeal.main_v58_1)) (v2 : (c : Dev Cert.MixIdeal.nD) → Buf (Elt Ideal) ((c.tc : Thread Cert.MixIdeal.nD Cert.MixIdeal.τ).loc Cert.MixIdeal.main_v58_2)) (v3 : (c : Dev Cert.MixIdeal.nD) → Buf (Elt Ideal) ((c.tc : Thread Cert.MixIdeal.nD Cert.MixIdeal.τ).loc Cert.MixIdeal.main_v58_3)) (v4 : (c : Dev Cert.MixIdeal.nD) → Buf (Elt Ideal) ((c.tc : Thread Cert.MixIdeal.nD Cert.MixIdeal.τ).loc Cert.MixIdeal.main_v58_4)) (v5 : (c : Dev Cert.MixIdeal.nD) → Buf (Elt Ideal) ((c.tc : Thread Cert.MixIdeal.nD Cert.MixIdeal.τ).loc Cert.MixIdeal.main_v58_5)) (v6 : (c : Dev Cert.MixIdeal.nD) → Buf (Elt Ideal) ((c.tc : Thread Cert.MixIdeal.nD Cert.MixIdeal.τ).loc Cert.MixIdeal.main_v58_6)) (v7 : (c : Dev Cert.MixIdeal.nD) → Buf (Elt Ideal) ((c.tc : Thread Cert.MixIdeal.nD Cert.MixIdeal.τ).loc Cert.MixIdeal.main_v58_7)) (v8 : (c : Dev Cert.MixIdeal.nD) → Buf (Elt Ideal) ((c.tc : Thread Cert.MixIdeal.nD Cert.MixIdeal.τ).loc Cert.MixIdeal.main_v58_8)) (v9 : (c : Dev Cert.MixIdeal.nD) → Buf (Elt Ideal) ((c.tc : Thread Cert.MixIdeal.nD Cert.MixIdeal.τ).loc Cert.MixIdeal.main_v58_9)) (v10 : (c : Dev Cert.MixIdeal.nD) → Buf (Elt Ideal) ((c.tc : Thread Cert.MixIdeal.nD Cert.MixIdeal.τ).loc Cert.MixIdeal.main_v58_10)) (v11 : (c : Dev Cert.MixIdeal.nD) → Buf (Elt Ideal) ((c.tc : Thread Cert.MixIdeal.nD Cert.MixIdeal.τ).loc Cert.MixIdeal.main_v58_11)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v58_0) = v0 c
          ∧ r.2.mem ((c.tc : Thread Cert.MixIdeal.nD Cert.MixIdeal.τ).loc Cert.MixIdeal.main_v58_1) = v1 c
          ∧ r.2.mem ((c.tc : Thread Cert.MixIdeal.nD Cert.MixIdeal.τ).loc Cert.MixIdeal.main_v58_2) = v2 c
          ∧ r.2.mem ((c.tc : Thread Cert.MixIdeal.nD Cert.MixIdeal.τ).loc Cert.MixIdeal.main_v58_3) = v3 c
          ∧ r.2.mem ((c.tc : Thread Cert.MixIdeal.nD Cert.MixIdeal.τ).loc Cert.MixIdeal.main_v58_4) = v4 c
          ∧ r.2.mem ((c.tc : Thread Cert.MixIdeal.nD Cert.MixIdeal.τ).loc Cert.MixIdeal.main_v58_5) = v5 c
          ∧ r.2.mem ((c.tc : Thread Cert.MixIdeal.nD Cert.MixIdeal.τ).loc Cert.MixIdeal.main_v58_6) = v6 c
          ∧ r.2.mem ((c.tc : Thread Cert.MixIdeal.nD Cert.MixIdeal.τ).loc Cert.MixIdeal.main_v58_7) = v7 c
          ∧ r.2.mem ((c.tc : Thread Cert.MixIdeal.nD Cert.MixIdeal.τ).loc Cert.MixIdeal.main_v58_8) = v8 c
          ∧ r.2.mem ((c.tc : Thread Cert.MixIdeal.nD Cert.MixIdeal.τ).loc Cert.MixIdeal.main_v58_9) = v9 c
          ∧ r.2.mem ((c.tc : Thread Cert.MixIdeal.nD Cert.MixIdeal.τ).loc Cert.MixIdeal.main_v58_10) = v10 c
          ∧ r.2.mem ((c.tc : Thread Cert.MixIdeal.nD Cert.MixIdeal.τ).loc Cert.MixIdeal.main_v58_11) = v11 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v160) = v0 c
          ∧ r.2.mem ((c.tc : Thread Cert.MixRefIdeal.nD Cert.MixRefIdeal.τ).loc Cert.MixRefIdeal.main_v161) = v1 c
          ∧ r.2.mem ((c.tc : Thread Cert.MixRefIdeal.nD Cert.MixRefIdeal.τ).loc Cert.MixRefIdeal.main_v100) = v2 c
          ∧ r.2.mem ((c.tc : Thread Cert.MixRefIdeal.nD Cert.MixRefIdeal.τ).loc Cert.MixRefIdeal.main_v162) = v3 c
          ∧ r.2.mem ((c.tc : Thread Cert.MixRefIdeal.nD Cert.MixRefIdeal.τ).loc Cert.MixRefIdeal.main_v163) = v4 c
          ∧ r.2.mem ((c.tc : Thread Cert.MixRefIdeal.nD Cert.MixRefIdeal.τ).loc Cert.MixRefIdeal.main_v164) = v5 c
          ∧ r.2.mem ((c.tc : Thread Cert.MixRefIdeal.nD Cert.MixRefIdeal.τ).loc Cert.MixRefIdeal.main_v165) = v6 c
          ∧ r.2.mem ((c.tc : Thread Cert.MixRefIdeal.nD Cert.MixRefIdeal.τ).loc Cert.MixRefIdeal.main_v166) = v7 c
          ∧ r.2.mem ((c.tc : Thread Cert.MixRefIdeal.nD Cert.MixRefIdeal.τ).loc Cert.MixRefIdeal.main_v167) = v8 c
          ∧ r.2.mem ((c.tc : Thread Cert.MixRefIdeal.nD Cert.MixRefIdeal.τ).loc Cert.MixRefIdeal.main_v168) = v9 c
          ∧ r.2.mem ((c.tc : Thread Cert.MixRefIdeal.nD Cert.MixRefIdeal.τ).loc Cert.MixRefIdeal.main_v155) = v10 c
          ∧ r.2.mem ((c.tc : Thread Cert.MixRefIdeal.nD Cert.MixRefIdeal.τ).loc Cert.MixRefIdeal.main_v153) = v11 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def preserves_Mlstm_MlstmIdeal : Prop :=
  True

def Claim : Prop :=
  ∃ (hMerge : Cert.Merge.Facts) (hMergeIdeal : Cert.MergeIdeal.Facts) (hMergeRefIdeal : Cert.MergeRefIdeal.Facts) (hMix : Cert.Mix.Facts) (hMixIdeal : Cert.MixIdeal.Facts) (hMixRefIdeal : Cert.MixRefIdeal.Facts) (hMlstm : Cert.Mlstm.Facts) (hMlstmIdeal : Cert.MlstmIdeal.Facts),
    quiescent_Merge (hMerge := hMerge)
    ∧ quiescent_MergeIdeal (hMergeIdeal := hMergeIdeal)
    ∧ quiescent_MergeRefIdeal (hMergeRefIdeal := hMergeRefIdeal)
    ∧ quiescent_Mix (hMix := hMix)
    ∧ quiescent_MixIdeal (hMixIdeal := hMixIdeal)
    ∧ quiescent_MixRefIdeal (hMixRefIdeal := hMixRefIdeal)
    ∧ quiescent_Mlstm (hMlstm := hMlstm)
    ∧ quiescent_MlstmIdeal (hMlstmIdeal := hMlstmIdeal)
    ∧ preserves_Merge_MergeIdeal
    ∧ algebraic_MergeIdeal_MergeRefIdeal (hMergeIdeal := hMergeIdeal) (hMergeRefIdeal := hMergeRefIdeal)
    ∧ preserves_Mix_MixIdeal
    ∧ algebraic_MixIdeal_MixRefIdeal (hMixIdeal := hMixIdeal) (hMixRefIdeal := hMixRefIdeal)
    ∧ preserves_Mlstm_MlstmIdeal
-- ==== Merge.lean ====
abbrev S8x4096x1024 : Shape := ⟨3, ![8, 4096, 1024]⟩
abbrev S8x4096x512 : Shape := ⟨3, ![8, 4096, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S1024x5632 : Shape := ⟨2, ![1024, 5632]⟩
abbrev S512x1024 : Shape := ⟨2, ![512, 1024]⟩
abbrev S1024x1024 : Shape := ⟨2, ![1024, 1024]⟩
abbrev S2816x1024 : Shape := ⟨2, ![2816, 1024]⟩
abbrev S1x512x512 : Shape := ⟨3, ![1, 512, 512]⟩
abbrev S512x2816 : Shape := ⟨2, ![512, 2816]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 28
  | .vmem => 22
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x4096x1024, .f32⟩
  | .hbm, ⟨4, _⟩ => ⟨S8x4096x1024, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x5632, .f32⟩
  | .hbm, ⟨10, _⟩ => ⟨S1x2816x1024, .f32⟩
  | .hbm, ⟨11, _⟩ => ⟨S1024, .f32⟩
  | .hbm, ⟨12, _⟩ => ⟨S1024x5632, .f32⟩
  | .hbm, ⟨13, _⟩ => ⟨S1024x5632, .bf16⟩
  | .hbm, ⟨14, _⟩ => ⟨S8x4096x512, .bf16⟩
  | .hbm, ⟨15, _⟩ => ⟨S8x4096x512, .bf16⟩
  | .hbm, ⟨16, _⟩ => ⟨S8x4096x1024, .bf16⟩
  | .hbm, ⟨17, _⟩ => ⟨S8x4096x1024, .bf16⟩
  | .hbm, ⟨18, _⟩ => ⟨S512x1024, .f32⟩
  | .hbm, ⟨19, _⟩ => ⟨S512x1024, .bf16⟩
  | .hbm, ⟨20, _⟩ => ⟨S512x1024, .f32⟩
  | .hbm, ⟨21, _⟩ => ⟨S512x1024, .bf16⟩
  | .hbm, ⟨22, _⟩ => ⟨S1024x1024, .f32⟩
  | .hbm, ⟨23, _⟩ => ⟨S1024x1024, .bf16⟩
  | .hbm, ⟨24, _⟩ => ⟨S2816x1024, .f32⟩
  | .hbm, ⟨25, _⟩ => ⟨S2816x1024, .bf16⟩
  | .hbm, ⟨26, _⟩ => ⟨S1x1024, .f32⟩
  | .hbm, ⟨27, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x5632, .bf16⟩
  | .local _ .vmem, ⟨15, _⟩ => ⟨S2816x1024, .bf16⟩
  | .local _ .vmem, ⟨16, _⟩ => ⟨S1x1024, .f32⟩
  | .local _ .vmem, ⟨17, _⟩ => ⟨S1x512x1024, .f32⟩
  | .local _ .vmem, ⟨18, _⟩ => ⟨S1x512x1024, .f32⟩
  | .local _ .vmem, ⟨19, _⟩ => ⟨S512x1024, .bf16⟩
  | .local _ .vmem, ⟨20, _⟩ => ⟨S512x1024, .f32⟩
  | .local _ .vmem, ⟨21, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeRefIdeal.lean ====
abbrev S8x4096x1024 : Shape := ⟨3, ![8, 4096, 1024]⟩
abbrev S8x4096x512 : Shape := ⟨3, ![8, 4096, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S512x1024 : Shape := ⟨2, ![512, 1024]⟩
abbrev S1024x1024 : Shape := ⟨2, ![1024, 1024]⟩
abbrev S8x4096 : Shape := ⟨2, ![8, 4096]⟩
abbrev S8x4096x1 : Shape := ⟨3, ![8, 4096, 1]⟩
abbrev S1x1x1024 : Shape := ⟨3, ![1, 1, 1024]⟩
abbrev S1024x5632 : Shape := ⟨2, ![1024, 5632]⟩
abbrev S8x4096x5632 : Shape := ⟨3, ![8, 4096, 5632]⟩
abbrev S8x4096x2816 : Shape := ⟨3, ![8, 4096, 2816]⟩
abbrev S2816x1024 : Shape := ⟨2, ![2816, 1024]⟩

abbrev nBuf : Space → Nat
  | .hbm => 88
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x4096x1024, .f32⟩
  | .hbm, ⟨4, _⟩ => ⟨S8x4096x1024, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x5632, .f32⟩
  | .hbm, ⟨10, _⟩ => ⟨S1x2816x1024, .f32⟩
  | .hbm, ⟨11, _⟩ => ⟨S1024, .f32⟩
  | .hbm, ⟨12, _⟩ => ⟨S8x4096x1024, .f32⟩
  | .hbm, ⟨13, _⟩ => ⟨S8x4096x1024, .f32⟩
  | .hbm, ⟨14, _⟩ => ⟨S_, .f32⟩
  | .hbm, ⟨15, _⟩ => ⟨S8x4096x1024, .f32⟩
  | .hbm, ⟨16, _⟩ => ⟨S8x4096x1024, .f32⟩
  | .hbm, ⟨17, _⟩ => ⟨S_, .f32⟩
  | .hbm, ⟨18, _⟩ => ⟨S8x4096x1024, .f32⟩
  | .hbm, ⟨19, _⟩ => ⟨S8x4096x1024, .f32⟩
  | .hbm, ⟨20, _⟩ => ⟨S512x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S_, .f32⟩
  | .hbm, ⟨26, _⟩ => ⟨S8x4096x1024, .f32⟩
  | .hbm, ⟨27, _⟩ => ⟨S8x4096x1024, .f32⟩
  | .hbm, ⟨28, _⟩ => ⟨S_, .f32⟩
  | .hbm, ⟨29, _⟩ => ⟨S8x4096x1024, .f32⟩
  | .hbm, ⟨30, _⟩ => ⟨S8x4096x1024, .f32⟩
  | .hbm, ⟨31, _⟩ => ⟨S512x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S1024x1024, .f32⟩
  | .hbm, ⟨36, _⟩ => ⟨S8x4096x1024, .f32⟩
  | .hbm, ⟨37, _⟩ => ⟨S8x4096x1024, .f32⟩
  | .hbm, ⟨38, _⟩ => ⟨S1024, .f32⟩
  | .hbm, ⟨39, _⟩ => ⟨S8x4096x1024, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S_, .f32⟩
  | .hbm, ⟨47, _⟩ => ⟨S8x4096x1, .f32⟩
  | .hbm, ⟨48, _⟩ => ⟨S8x4096x1, .f32⟩
  | .hbm, ⟨49, _⟩ => ⟨S8x4096x1, .f32⟩
  | .hbm, ⟨50, _⟩ => ⟨S8x4096x1024, .f32⟩
  | .hbm, ⟨51, _⟩ => ⟨S8x4096x1024, .f32⟩
  | .hbm, ⟨52, _⟩ => ⟨S1x1x1024, .f32⟩
  | .hbm, ⟨53, _⟩ => ⟨S8x4096x1024, .f32⟩
  | .hbm, ⟨54, _⟩ => ⟨S8x4096x1024, .f32⟩
  | .hbm, ⟨55, _⟩ => ⟨S1024x5632, .f32⟩
  | .hbm, ⟨56, _⟩ => ⟨S8x4096x5632, .f32⟩
  | .hbm, ⟨57, _⟩ => ⟨S8x4096x2816, .f32⟩
  | .hbm, ⟨58, _⟩ => ⟨S8x4096x2816, .f32⟩
  | .hbm, ⟨59, _⟩ => ⟨S8x4096x2816, .f32⟩
  | .hbm, ⟨60, _⟩ => ⟨S8x4096x2816, .f32⟩
  | .hbm, ⟨61, _⟩ => ⟨S_, .f32⟩
  | .hbm, ⟨62, _⟩ => ⟨S8x4096x2816, .f32⟩
  | .hbm, ⟨63, _⟩ => ⟨S8x4096x2816, .f32⟩
  | .hbm, ⟨64, _⟩ => ⟨S_, .f32⟩
  | .hbm, ⟨65, _⟩ => ⟨S8x4096x2816, .f32⟩
  | .hbm, ⟨66, _⟩ => ⟨S8x4096x2816, .f32⟩
  | .hbm, ⟨67, _⟩ => ⟨S8x4096x2816, .f32⟩
  | .hbm, ⟨68, _⟩ => ⟨S8x4096x2816, .f32⟩
  | .hbm, ⟨69, _⟩ => ⟨S2816x1024, .f32⟩
  | .hbm, ⟨70, _⟩ => ⟨S8x4096x1024, .f32⟩
  | .hbm, ⟨71, _⟩ => ⟨S8x4096x1024, .f32⟩
  | .hbm, ⟨72, _⟩ => ⟨S8x4096x1024, .f32⟩
  | .hbm, ⟨73, _⟩ => ⟨S_, .f32⟩
  | .hbm, ⟨74, _⟩ => ⟨S8x4096, .f32⟩
  | .hbm, ⟨75, _⟩ => ⟨S8x4096x1, .f32⟩
  | .hbm, ⟨76, _⟩ => ⟨S_, .f32⟩
  | .hbm, ⟨77, _⟩ => ⟨S8x4096x1, .f32⟩
  | .hbm, ⟨78, _⟩ => ⟨S8x4096x1, .f32⟩
  | .hbm, ⟨79, _⟩ => ⟨S_, .f32⟩
  | .hbm, ⟨80, _⟩ => ⟨S8x4096x1, .f32⟩
  | .hbm, ⟨81, _⟩ => ⟨S8x4096x1, .f32⟩
  | .hbm, ⟨82, _⟩ => ⟨S8x4096x1, .f32⟩
  | .hbm, ⟨83, _⟩ => ⟨S8x4096x1024, .f32⟩
  | .hbm, ⟨84, _⟩ => ⟨S8x4096x1024, .f32⟩
  | .hbm, ⟨85, _⟩ => ⟨S1x1x1024, .f32⟩
  | .hbm, ⟨86, _⟩ => ⟨S8x4096x1024, .f32⟩
  | .hbm, ⟨87, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_6 : Ref sig .tc := ⟨.hbm, 73, rfl⟩
abbrev main_v46 : Ref sig .tc := ⟨.hbm, 74, rfl⟩
abbrev main_v47 : Ref sig .tc := ⟨.hbm, 75, rfl⟩
abbrev main_cst_7 : Ref sig .tc := ⟨.hbm, 76, rfl⟩
abbrev main_v48 : Ref sig .tc := ⟨.hbm, 77, rfl⟩
abbrev main_v49 : Ref sig .tc := ⟨.hbm, 78, rfl⟩
abbrev main_cst_8 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩

abbrev nD : Nat := 1
abbrev τ : Topo := Topo.v7x

variable {F : FTy → Type} [FloatOps F]
-- ==== Mix.lean ====
abbrev S8x4096x1024 : Shape := ⟨3, ![8, 4096, 1024]⟩
abbrev S1x1024 : Shape := ⟨2, ![1, 1024]⟩
abbrev S1x1024x5640 : Shape := ⟨3, ![1, 1024, 5640]⟩
abbrev S1x4x1024 : Shape := ⟨3, ![1, 4, 1024]⟩
abbrev S1x4 : Shape := ⟨2, ![1, 4]⟩
abbrev S1024x5640 : Shape := ⟨2, ![1024, 5640]⟩
abbrev S1024x1024 : Shape := ⟨2, ![1024, 1024]⟩
abbrev S1024x512 : Shape := ⟨2, ![1024, 512]⟩
abbrev S1024x2048 : Shape := ⟨2, ![1024, 2048]⟩
abbrev S1024x4 : Shape := ⟨2, ![1024, 4]⟩
abbrev S1024x8 : Shape := ⟨2, ![1024, 8]⟩
abbrev S8x1024 : Shape := ⟨2, ![8, 1024]⟩
abbrev S4 : Shape := ⟨1, ![4]⟩
abbrev S8 : Shape := ⟨1, ![8]⟩
abbrev S1x8 : Shape := ⟨2, ![1, 8]⟩
abbrev S8x1 : Shape := ⟨2, ![8, 1]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S4096 : Shape := ⟨1, ![4096]⟩
abbrev S4096x1 : Shape := ⟨2, ![4096, 1]⟩
abbrev S4096x128 : Shape := ⟨2, ![4096, 128]⟩
abbrev S4096x768 : Shape := ⟨2, ![4096, 768]⟩
abbrev S4x1024 : Shape := ⟨2, ![4, 1024]⟩
abbrev S8x4096x512 : Shape := ⟨3, ![8, 4096, 512]⟩
abbrev S8x8x2x512 : Shape := ⟨4, ![8, 8, 2, 512]⟩
abbrev S8x16x640x256 : Shape := ⟨4, ![8, 16, 640, 256]⟩
abbrev S8x16x512x256 : Shape := ⟨4, ![8, 16, 512, 256]⟩
abbrev S8x16x8x256 : Shape := ⟨4, ![8, 16, 8, 256]⟩
abbrev S8x4096x8 : Shape := ⟨3, ![8, 4096, 8]⟩
abbrev S1x512x1024 : Shape := ⟨3, ![1, 512, 1024]⟩
abbrev S512x768 : Shape := ⟨2, ![512, 768]⟩
abbrev S1x512x512 : Shape := ⟨3, ![1, 512, 512]⟩
abbrev S1x1x2x512 : Shape := ⟨4, ![1, 1, 2, 512]⟩
abbrev S1x2x640x256 : Shape := ⟨4, ![1, 2, 640, 256]⟩
abbrev S1x2x512x256 : Shape := ⟨4, ![1, 2, 512, 256]⟩
abbrev S1x2x8x256 : Shape := ⟨4, ![1, 2, 8, 256]⟩
abbrev S1x512x8 : Shape := ⟨3, ![1, 512, 8]⟩
abbrev S512x1024 : Shape := ⟨2, ![512, 1024]⟩
abbrev S520x1024 : Shape := ⟨2, ![520, 1024]⟩
abbrev S512 : Shape := ⟨1, ![512]⟩
abbrev S512x1 : Shape := ⟨2, ![512, 1]⟩
abbrev S16x256 : Shape := ⟨2, ![16, 256]⟩
abbrev S1024x256 : Shape := ⟨2, ![1024, 256]⟩
abbrev S512x256 : Shape := ⟨2, ![512, 256]⟩
abbrev S512x128 : Shape := ⟨2, ![512, 128]⟩
abbrev S1x512x128 : Shape := ⟨3, ![1, 512, 128]⟩
abbrev S256x1024 : Shape := ⟨2, ![256, 1024]⟩
abbrev S256x512 : Shape := ⟨2, ![256, 512]⟩
abbrev S64x256 : Shape := ⟨2, ![64, 256]⟩
abbrev S1x1x64x256 : Shape := ⟨4, ![1, 1, 64, 256]⟩
abbrev S1x1x16x256 : Shape := ⟨4, ![1, 1, 16, 256]⟩
abbrev S256x128 : Shape := ⟨2, ![256, 128]⟩
abbrev S1x1x1x128 : Shape := ⟨4, ![1, 1, 1, 128]⟩
abbrev S256x256 : Shape := ⟨2, ![256, 256]⟩
abbrev S1x1x256x256 : Shape := ⟨4, ![1, 1, 256, 256]⟩
abbrev S1x256 : Shape := ⟨2, ![1, 256]⟩
abbrev S8x256 : Shape := ⟨2, ![8, 256]⟩
abbrev S1x512x256 : Shape := ⟨3, ![1, 512, 256]⟩
abbrev S512x8 : Shape := ⟨2, ![512, 8]⟩
abbrev S8x512 : Shape := ⟨2, ![8, 512]⟩
abbrev S256x8 : Shape := ⟨2, ![256, 8]⟩
abbrev S1x256x8 : Shape := ⟨3, ![1, 256, 8]⟩
abbrev S1x1x8x256 : Shape := ⟨4, ![1, 1, 8, 256]⟩

abbrev nBuf : Space → Nat
  | .hbm => 111
  | .vmem => 41
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5640, .f32⟩
  | .hbm, ⟨3, _⟩ => ⟨S1x4x1024, .f32⟩
  | .hbm, ⟨4, _⟩ => ⟨S1x4, .f32⟩
  | .hbm, ⟨5, _⟩ => ⟨S1x4, .f32⟩
  | .hbm, ⟨6, _⟩ => ⟨S1024x5640, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x512, .f32⟩
  | .hbm, ⟨12, _⟩ => ⟨S1024x512, .bf16⟩
  | .hbm, ⟨13, _⟩ => ⟨S1024x2048, .f32⟩
  | .hbm, ⟨14, _⟩ => ⟨S1024x2048, .bf16⟩
  | .hbm, ⟨15, _⟩ => ⟨S1024x4, .f32⟩
  | .hbm, ⟨16, _⟩ => ⟨S1024x4, .f32⟩
  | .hbm, ⟨17, _⟩ => ⟨S1024x8, .f32⟩
  | .hbm, ⟨18, _⟩ => ⟨S1024x8, .bf16⟩
  | .hbm, ⟨19, _⟩ => ⟨S8x1024, .f32⟩
  | .hbm, ⟨20, _⟩ => ⟨S8x1024, .bf16⟩
  | .hbm, ⟨21, _⟩ => ⟨S1024x512, .f32⟩
  | .hbm, ⟨22, _⟩ => ⟨S1024x512, .f32⟩
  | .hbm, ⟨23, _⟩ => ⟨S1024x1024, .f32⟩
  | .hbm, ⟨24, _⟩ => ⟨S1024x1024, .f32⟩
  | .hbm, ⟨25, _⟩ => ⟨S1024x1024, .bf16⟩
  | .hbm, ⟨26, _⟩ => ⟨S4, .f32⟩
  | .hbm, ⟨27, _⟩ => ⟨S4, .f32⟩
  | .hbm, ⟨28, _⟩ => ⟨S8, .f32⟩
  | .hbm, ⟨29, _⟩ => ⟨S1x8, .f32⟩
  | .hbm, ⟨30, _⟩ => ⟨S8x1, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S1x32, .f32⟩
  | .hbm, ⟨40, _⟩ => ⟨S4x32, .f32⟩
  | .hbm, ⟨41, _⟩ => ⟨S128, .f32⟩
  | .hbm, ⟨42, _⟩ => ⟨S1x128, .f32⟩
  | .hbm, ⟨43, _⟩ => ⟨S4096, .i32⟩
  | .hbm, ⟨44, _⟩ => ⟨S4096, .f32⟩
  | .hbm, ⟨45, _⟩ => ⟨S4096x1, .f32⟩
  | .hbm, ⟨46, _⟩ => ⟨S4096x128, .f32⟩
  | .hbm, ⟨47, _⟩ => ⟨S4096x128, .f32⟩
  | .hbm, ⟨48, _⟩ => ⟨S4096x128, .f32⟩
  | .hbm, ⟨49, _⟩ => ⟨S128, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i1⟩
  | .hbm, ⟨54, _⟩ => ⟨S_, .i32⟩
  | .hbm, ⟨55, _⟩ => ⟨S_, .i32⟩
  | .hbm, ⟨56, _⟩ => ⟨S128, .i32⟩
  | .hbm, ⟨57, _⟩ => ⟨S128, .i32⟩
  | .hbm, ⟨58, _⟩ => ⟨S_, .i32⟩
  | .hbm, ⟨59, _⟩ => ⟨S128, .i32⟩
  | .hbm, ⟨60, _⟩ => ⟨S128, .i1⟩
  | .hbm, ⟨61, _⟩ => ⟨S_, .i32⟩
  | .hbm, ⟨62, _⟩ => ⟨S128, .i32⟩
  | .hbm, ⟨63, _⟩ => ⟨S128, .i1⟩
  | .hbm, ⟨64, _⟩ => ⟨S_, .i32⟩
  | .hbm, ⟨65, _⟩ => ⟨S_, .i1⟩
  | .hbm, ⟨66, _⟩ => ⟨S128, .i1⟩
  | .hbm, ⟨67, _⟩ => ⟨S128, .i1⟩
  | .hbm, ⟨68, _⟩ => ⟨S128, .i1⟩
  | .hbm, ⟨69, _⟩ => ⟨S128, .i32⟩
  | .hbm, ⟨70, _⟩ => ⟨S128, .i32⟩
  | .hbm, ⟨71, _⟩ => ⟨S128, .i32⟩
  | .hbm, ⟨72, _⟩ => ⟨S_, .i32⟩
  | .hbm, ⟨73, _⟩ => ⟨S128, .i32⟩
  | .hbm, ⟨74, _⟩ => ⟨S128, .i1⟩
  | .hbm, ⟨75, _⟩ => ⟨S4096x128, .f32⟩
  | .hbm, ⟨76, _⟩ => ⟨S4096x128, .f32⟩
  | .hbm, ⟨77, _⟩ => ⟨S4096x128, .f32⟩
  | .hbm, ⟨78, _⟩ => ⟨S_, .f32⟩
  | .hbm, ⟨79, _⟩ => ⟨S_, .f32⟩
  | .hbm, ⟨80, _⟩ => ⟨S4096x128, .i1⟩
  | .hbm, ⟨81, _⟩ => ⟨S4096x128, .f32⟩
  | .hbm, ⟨82, _⟩ => ⟨S4096x128, .f32⟩
  | .hbm, ⟨83, _⟩ => ⟨S_, .f32⟩
  | .hbm, ⟨84, _⟩ => ⟨S_, .f32⟩
  | .hbm, ⟨85, _⟩ => ⟨S4096x128, .i1⟩
  | .hbm, ⟨86, _⟩ => ⟨S4096x128, .f32⟩
  | .hbm, ⟨87, _⟩ => ⟨S4096x128, .f32⟩
  | .hbm, ⟨88, _⟩ => ⟨S_, .f32⟩
  | .hbm, ⟨89, _⟩ => ⟨S4096x128, .f32⟩
  | .hbm, ⟨90, _⟩ => ⟨S4096x128, .f32⟩
  | .hbm, ⟨91, _⟩ => ⟨S_, .f32⟩
  | .hbm, ⟨92, _⟩ => ⟨S4096x128, .f32⟩
  | .hbm, ⟨93, _⟩ => ⟨S4096x128, .f32⟩
  | .hbm, ⟨94, _⟩ => ⟨S_, .f32⟩
  | .hbm, ⟨95, _⟩ => ⟨S4096x128, .f32⟩
  | .hbm, ⟨96, _⟩ => ⟨S4096x128, .f32⟩
  | .hbm, ⟨97, _⟩ => ⟨S4096x768, .f32⟩
  | .hbm, ⟨98, _⟩ => ⟨S4x1024, .f32⟩
  | .hbm, ⟨99, _⟩ => ⟨S8x4096x512, .bf16⟩
  | .hbm, ⟨100, _⟩ => ⟨S8x4096x512, .bf16⟩
  | .hbm, ⟨101, _⟩ => ⟨S8x8x2x512, .f32⟩
  | .hbm, ⟨102, _⟩ => ⟨S8x16x640x256, .bf16⟩
  | .hbm, ⟨103, _⟩ => ⟨S8x16x512x256, .bf16⟩
  | .hbm, ⟨104, _⟩ => ⟨S8x4096x512, .bf16⟩
  | .hbm, ⟨105, _⟩ => ⟨S8x4096x512, .bf16⟩
  | .hbm, ⟨106, _⟩ => ⟨S8x4096x512, .bf16⟩
  | .hbm, ⟨107, _⟩ => ⟨S8x4096x1024, .bf16⟩
  | .hbm, ⟨108, _⟩ => ⟨S8x4096x1024, .bf16⟩
  | .hbm, ⟨109, _⟩ => ⟨S8x16x8x256, .f32⟩
  | .hbm, ⟨110, _⟩ => ⟨S8x4096x8, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S512x768, .f32⟩
  | .local _ .vmem, ⟨4, _⟩ => ⟨S512x768, .f32⟩
  | .local _ .vmem, ⟨5, _⟩ => ⟨S4x1024, .f32⟩
  | .local _ .vmem, ⟨6, _⟩ => ⟨S1x8, .f32⟩
  | .local _ .vmem, ⟨7, _⟩ => ⟨S8x1, .f32⟩
  | .local _ .vmem, ⟨8, _⟩ => ⟨S1024x1024, .bf16⟩
  | .local _ .vmem, ⟨9, _⟩ => ⟨S1024x1024, .bf16⟩
  | .local _ .vmem, ⟨10, _⟩ => ⟨S1024x512, .bf16⟩
  | .local _ .vmem, ⟨11, _⟩ => ⟨S1024x2048, .bf16⟩
  | .local _ .vmem, ⟨12, _⟩ => ⟨S1024x8, .bf16⟩
  | .local _ .vmem, ⟨13, _⟩ => ⟨S1024x1024, .bf16⟩
  | .local _ .vmem, ⟨14, _⟩ => ⟨S8x1024, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x1x2x512, .f32⟩
  | .local _ .vmem, ⟨20, _⟩ => ⟨S1x1x2x512, .f32⟩
  | .local _ .vmem, ⟨21, _⟩ => ⟨S1x2x640x256, .bf16⟩
  | .local _ .vmem, ⟨22, _⟩ => ⟨S1x2x640x256, .bf16⟩
  | .local _ .vmem, ⟨23, _⟩ => ⟨S1x2x512x256, .bf16⟩
  | .local _ .vmem, ⟨24, _⟩ => ⟨S1x2x512x256, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x512x512, .bf16⟩
  | .local _ .vmem, ⟨29, _⟩ => ⟨S1x512x512, .bf16⟩
  | .local _ .vmem, ⟨30, _⟩ => ⟨S1x512x512, .bf16⟩
  | .local _ .vmem, ⟨31, _⟩ => ⟨S1x512x1024, .bf16⟩
  | .local _ .vmem, ⟨32, _⟩ => ⟨S1x512x1024, .bf16⟩
  | .local _ .vmem, ⟨33, _⟩ => ⟨S1x512x1024, .bf16⟩
  | .local _ .vmem, ⟨34, _⟩ => ⟨S1x512x1024, .bf16⟩
  | .local _ .vmem, ⟨35, _⟩ => ⟨S1x2x8x256, .f32⟩
  | .local _ .vmem, ⟨36, _⟩ => ⟨S1x2x8x256, .f32⟩
  | .local _ .vmem, ⟨37, _⟩ => ⟨S1x512x8, .f32⟩
  | .local _ .vmem, ⟨38, _⟩ => ⟨S1x512x8, .f32⟩
  | .local _ .vmem, ⟨39, _⟩ => ⟨S512x1024, .bf16⟩
  | .local _ .vmem, ⟨40, _⟩ => ⟨S520x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst : Ref sig .tc := ⟨.hbm, 33, rfl⟩
abbrev main_v27 : Ref sig .tc := ⟨.hbm, 34, rfl⟩
abbrev main_v28 : Ref sig .tc := ⟨.hbm, 35, rfl⟩
abbrev main_cst_0 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_c : Ref sig .tc := ⟨.hbm, 50, rfl⟩
abbrev main_call0_v0 : Ref sig .tc := ⟨.hbm, 51, rfl⟩
abbrev main_call0_c : Ref sig .tc := ⟨.hbm, 52, rfl⟩
abbrev main_call0_v1 : Ref sig .tc := ⟨.hbm, 53, rfl⟩
abbrev main_call0_c_0 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_c_1 : Ref sig .tc := ⟨.hbm, 58, rfl⟩
abbrev main_call0_v5 : Ref sig .tc := ⟨.hbm, 59, rfl⟩
abbrev main_call0_v6 : Ref sig .tc := ⟨.hbm, 60, rfl⟩
abbrev main_call0_c_2 : Ref sig .tc := ⟨.hbm, 61, rfl⟩
abbrev main_call0_v7 : Ref sig .tc := ⟨.hbm, 62, rfl⟩
abbrev main_call0_v8 : Ref sig .tc := ⟨.hbm, 63, rfl⟩
abbrev main_call0_c_3 : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_call0_v12 : Ref sig .tc := ⟨.hbm, 68, rfl⟩
abbrev main_call0_v13 : Ref sig .tc := ⟨.hbm, 69, rfl⟩
abbrev main_call0_v14 : Ref sig .tc := ⟨.hbm, 70, rfl⟩
abbrev main_v42 : Ref sig .tc := ⟨.hbm, 71, rfl⟩
abbrev main_c_1 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_2 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_v48 : Ref sig .tc := ⟨.hbm, 82, rfl⟩
abbrev main_cst_3 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_v49 : Ref sig .tc := ⟨.hbm, 87, rfl⟩
abbrev main_cst_4 : Ref sig .tc := ⟨.hbm, 88, rfl⟩
abbrev main_v50 : Ref sig .tc := ⟨.hbm, 89, rfl⟩
abbrev main_v51 : Ref sig .tc := ⟨.hbm, 90, rfl⟩
abbrev main_cst_5 : Ref sig .tc := ⟨.hbm, 91, rfl⟩
abbrev main_v52 : Ref sig .tc := ⟨.hbm, 92, rfl⟩
abbrev main_v53 : Ref sig .tc := ⟨.hbm, 93, rfl⟩
abbrev main_cst_6 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58_0 : Ref sig .tc := ⟨.hbm, 99, rfl⟩
abbrev main_v58_1 : Ref sig .tc := ⟨.hbm, 100, rfl⟩
abbrev main_v58_2 : Ref sig .tc := ⟨.hbm, 101, rfl⟩
abbrev main_v58_3 : Ref sig .tc := ⟨.hbm, 102, rfl⟩
abbrev main_v58_4 : Ref sig .tc := ⟨.hbm, 103, rfl⟩
abbrev main_v58_5 : Ref sig .tc := ⟨.hbm, 104, rfl⟩
abbrev main_v58_6 : Ref sig .tc := ⟨.hbm, 105, rfl⟩
abbrev main_v58_7 : Ref sig .tc := ⟨.hbm, 106, rfl⟩
abbrev main_v58_8 : Ref sig .tc := ⟨.hbm, 107, rfl⟩
abbrev main_v58_9 : Ref sig .tc := ⟨.hbm, 108, rfl⟩
abbrev main_v58_10 : Ref sig .tc := ⟨.hbm, 109, rfl⟩
abbrev main_v58_11 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_stg24_1 : Ref sig .tc := ⟨.vmem, 38, rfl⟩
abbrev cc0_scratch0 : Ref sig .tc := ⟨.vmem, 39, rfl⟩
abbrev cc0_scratch1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36
abbrev cc0_sem24_0 : DmaSem sig := 37
abbrev cc0_sem24_1 : DmaSem sig := 38

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x8 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S8x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x2x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x2x640x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x2x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x2x8x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x512x8 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]
-- ==== MixRefIdeal.lean ====
abbrev S8x4096x1024 : Shape := ⟨3, ![8, 4096, 1024]⟩
abbrev S1x1024 : Shape := ⟨2, ![1, 1024]⟩
abbrev S1x1024x5640 : Shape := ⟨3, ![1, 1024, 5640]⟩
abbrev S1x4x1024 : Shape := ⟨3, ![1, 4, 1024]⟩
abbrev S1x4 : Shape := ⟨2, ![1, 4]⟩
abbrev S4096 : Shape := ⟨1, ![4096]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x5640 : Shape := ⟨2, ![1024, 5640]⟩
abbrev S8x4096x5640 : Shape := ⟨3, ![8, 4096, 5640]⟩
abbrev S8x4096x512 : Shape := ⟨3, ![8, 4096, 512]⟩
abbrev S8x4096x4 : Shape := ⟨3, ![8, 4096, 4]⟩
abbrev S8x4096x8x64 : Shape := ⟨4, ![8, 4096, 8, 64]⟩
abbrev S8x8x4096x64 : Shape := ⟨4, ![8, 8, 4096, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S8x8x4096x32 : Shape := ⟨4, ![8, 8, 4096, 32]⟩
abbrev S1x1x4096x32 : Shape := ⟨4, ![1, 1, 4096, 32]⟩
abbrev S8x8x2x256x512 : Shape := ⟨5, ![8, 8, 2, 256, 512]⟩
abbrev S8x8x2x512 : Shape := ⟨4, ![8, 8, 2, 512]⟩
abbrev S8x16x256x8x64 : Shape := ⟨5, ![8, 16, 256, 8, 64]⟩
abbrev S8x16x8x64x256 : Shape := ⟨5, ![8, 16, 8, 64, 256]⟩
abbrev S8x16x8x1x256 : Shape := ⟨5, ![8, 16, 8, 1, 256]⟩
abbrev S8x16x8x15x256 : Shape := ⟨5, ![8, 16, 8, 15, 256]⟩
abbrev S8x16x8x80x256 : Shape := ⟨5, ![8, 16, 8, 80, 256]⟩
abbrev S8x16x640x256 : Shape := ⟨4, ![8, 16, 640, 256]⟩
abbrev S8x16x256x512 : Shape := ⟨4, ![8, 16, 256, 512]⟩
abbrev S8x16x512x256 : Shape := ⟨4, ![8, 16, 512, 256]⟩
abbrev S4x1024 : Shape := ⟨2, ![4, 1024]⟩
abbrev S8x4099x1024 : Shape := ⟨3, ![8, 4099, 1024]⟩
abbrev S4 : Shape := ⟨1, ![4]⟩
abbrev S1x1x4 : Shape := ⟨3, ![1, 1, 4]⟩
abbrev S8x16x256x4 : Shape := ⟨4, ![8, 16, 256, 4]⟩
abbrev S8x4096x8 : Shape := ⟨3, ![8, 4096, 8]⟩
abbrev S8x16x256x8 : Shape := ⟨4, ![8, 16, 256, 8]⟩
abbrev S8x16x8x256 : Shape := ⟨4, ![8, 16, 8, 256]⟩

abbrev nBuf : Space → Nat
  | .hbm => 215
  | .vmem => 0
  | .smem => 0
  | _ => 0

abbrev hbmTy0_0 (i : Nat) : BufTy := match i % 128 with
  | 0 => ⟨S8x4096x1024, .f32⟩
  | 1 => ⟨S1x1024, .f32⟩
  | 2 => ⟨S1x1024x5640, .f32⟩
  | 3 => ⟨S1x4x1024, .f32⟩
  | 4 => ⟨S1x4, .f32⟩
  | 5 => ⟨S1x4, .f32⟩
  | 6 => ⟨S4096, .i32⟩
  | 7 => ⟨S1024, .f32⟩
  | 8 => ⟨S8x4096x1024, .f32⟩
  | 9 => ⟨S_, .f32⟩
  | 10 => ⟨S8x4096, .f32⟩
  | 11 => ⟨S8x4096x1, .f32⟩
  | 12 => ⟨S_, .f32⟩
  | 13 => ⟨S8x4096x1, .f32⟩
  | 14 => ⟨S8x4096x1, .f32⟩
  | 15 => ⟨S_, .f32⟩
  | 16 => ⟨S8x4096x1, .f32⟩
  | 17 => ⟨S8x4096x1, .f32⟩
  | 18 => ⟨S8x4096x1, .f32⟩
  | 19 => ⟨S8x4096x1024, .f32⟩
  | 20 => ⟨S8x4096x1024, .f32⟩
  | 21 => ⟨S1x1x1024, .f32⟩
  | 22 => ⟨S8x4096x1024, .f32⟩
  | 23 => ⟨S8x4096x1024, .f32⟩
  | 24 => ⟨S1024x5640, .f32⟩
  | 25 => ⟨S8x4096x5640, .f32⟩
  | 26 => ⟨S8x4096x512, .f32⟩
  | 27 => ⟨S8x4096x512, .f32⟩
  | 28 => ⟨S8x4096x512, .f32⟩
  | 29 => ⟨S8x4096x1024, .f32⟩
  | 30 => ⟨S8x4096x512, .f32⟩
  | 31 => ⟨S8x4096x512, .f32⟩
  | 32 => ⟨S8x4096x4, .f32⟩
  | 33 => ⟨S8x4096x4, .f32⟩
  | 34 => ⟨S8x4096x1024, .f32⟩
  | 35 => ⟨S8x4096x1024, .f32⟩
  | 36 => ⟨S8x4096x8x64, .f32⟩
  | 37 => ⟨S8x8x4096x64, .f32⟩
  | 38 => ⟨S32, .f32⟩
  | 39 => ⟨S32, .f32⟩
  | 40 => ⟨S_, .f32⟩
  | 41 => ⟨S32, .f32⟩
  | 42 => ⟨S32, .f32⟩
  | 43 => ⟨S_, .f32⟩
  | 44 => ⟨S32, .f32⟩
  | 45 => ⟨S32, .f32⟩
  | 46 => ⟨S4096, .f32⟩
  | 47 => ⟨S4096x1, .f32⟩
  | 48 => ⟨S1x32, .f32⟩
  | 49 => ⟨S4096x32, .f32⟩
  | 50 => ⟨S4096x32, .f32⟩
  | 51 => ⟨S4096x32, .f32⟩
  | 52 => ⟨S4096x32, .f32⟩
  | 53 => ⟨S4096x32, .f32⟩
  | 54 => ⟨S8x8x4096x32, .f32⟩
  | 55 => ⟨S8x8x4096x32, .f32⟩
  | 56 => ⟨S1x1x4096x32, .f32⟩
  | 57 => ⟨S8x8x4096x32, .f32⟩
  | 58 => ⟨S8x8x4096x32, .f32⟩
  | 59 => ⟨S1x1x4096x32, .f32⟩
  | 60 => ⟨S8x8x4096x32, .f32⟩
  | 61 => ⟨S8x8x4096x32, .f32⟩
  | 62 => ⟨S8x8x4096x32, .f32⟩
  | 63 => ⟨S1x1x4096x32, .f32⟩
  | 64 => ⟨S8x8x4096x32, .f32⟩
  | 65 => ⟨S8x8x4096x32, .f32⟩
  | 66 => ⟨S1x1x4096x32, .f32⟩
  | 67 => ⟨S8x8x4096x32, .f32⟩
  | 68 => ⟨S8x8x4096x32, .f32⟩
  | 69 => ⟨S8x8x4096x32, .f32⟩
  | 70 => ⟨S8x8x4096x64, .f32⟩
  | 71 => ⟨S8x4096x8x64, .f32⟩
  | 72 => ⟨S8x4096x512, .f32⟩
  | 73 => ⟨S8x4096x8x64, .f32⟩
  | 74 => ⟨S8x8x4096x64, .f32⟩
  | 75 => ⟨S32, .f32⟩
  | 76 => ⟨S32, .f32⟩
  | 77 => ⟨S_, .f32⟩
  | 78 => ⟨S32, .f32⟩
  | 79 => ⟨S32, .f32⟩
  | 80 => ⟨S_, .f32⟩
  | 81 => ⟨S32, .f32⟩
  | 82 => ⟨S32, .f32⟩
  | 83 => ⟨S4096, .f32⟩
  | 84 => ⟨S4096x1, .f32⟩
  | 85 => ⟨S1x32, .f32⟩
  | 86 => ⟨S4096x32, .f32⟩
  | 87 => ⟨S4096x32, .f32⟩
  | 88 => ⟨S4096x32, .f32⟩
  | 89 => ⟨S4096x32, .f32⟩
  | 90 => ⟨S4096x32, .f32⟩
  | 91 => ⟨S8x8x4096x32, .f32⟩
  | 92 => ⟨S8x8x4096x32, .f32⟩
  | 93 => ⟨S1x1x4096x32, .f32⟩
  | 94 => ⟨S8x8x4096x32, .f32⟩
  | 95 => ⟨S8x8x4096x32, .f32⟩
  | 96 => ⟨S1x1x4096x32, .f32⟩
  | 97 => ⟨S8x8x4096x32, .f32⟩
  | 98 => ⟨S8x8x4096x32, .f32⟩
  | 99 => ⟨S8x8x4096x32, .f32⟩
  | 100 => ⟨S1x1x4096x32, .f32⟩
  | 101 => ⟨S8x8x4096x32, .f32⟩
  | 102 => ⟨S8x8x4096x32, .f32⟩
  | 103 => ⟨S1x1x4096x32, .f32⟩
  | 104 => ⟨S8x8x4096x32, .f32⟩
  | 105 => ⟨S8x8x4096x32, .f32⟩
  | 106 => ⟨S8x8x4096x32, .f32⟩
  | 107 => ⟨S8x8x4096x64, .f32⟩
  | 108 => ⟨S8x4096x8x64, .f32⟩
  | 109 => ⟨S8x4096x512, .f32⟩
  | 110 => ⟨S8x8x2x256x512, .f32⟩
  | 111 => ⟨S_, .f32⟩
  | 112 => ⟨S8x8x2x512, .f32⟩
  | 113 => ⟨S_, .f32⟩
  | 114 => ⟨S8x8x2x512, .f32⟩
  | 115 => ⟨S8x8x2x512, .f32⟩
  | 116 => ⟨S8x16x256x8x64, .f32⟩
  | 117 => ⟨S8x16x8x64x256, .f32⟩
  | 118 => ⟨S_, .f32⟩
  | 119 => ⟨S8x16x8x1x256, .f32⟩
  | 120 => ⟨S_, .f32⟩
  | 121 => ⟨S8x16x8x15x256, .f32⟩
  | 122 => ⟨S8x16x8x80x256, .f32⟩
  | 123 => ⟨S8x16x640x256, .f32⟩
  | 124 => ⟨S8x16x256x512, .f32⟩
  | 125 => ⟨S8x16x512x256, .f32⟩
  | 126 => ⟨S4x1024, .f32⟩
  | 127 => ⟨S_, .i32⟩
  | _ => ⟨S8x4096x1024, .f32⟩

abbrev hbmTy0_1 (i : Nat) : BufTy := match i % 128 with
  | 0 => ⟨S_, .f32⟩
  | 1 => ⟨S8x4099x1024, .f32⟩
  | 2 => ⟨S8x4096x1024, .f32⟩
  | 3 => ⟨S1x1024, .f32⟩
  | 4 => ⟨S1024, .f32⟩
  | 5 => ⟨S1x1x1024, .f32⟩
  | 6 => ⟨S8x4096x1024, .f32⟩
  | 7 => ⟨S8x4096x1024, .f32⟩
  | 8 => ⟨S8x4096x1024, .f32⟩
  | 9 => ⟨S1x1024, .f32⟩
  | 10 => ⟨S1024, .f32⟩
  | 11 => ⟨S1x1x1024, .f32⟩
  | 12 => ⟨S8x4096x1024, .f32⟩
  | 13 => ⟨S8x4096x1024, .f32⟩
  | 14 => ⟨S8x4096x1024, .f32⟩
  | 15 => ⟨S8x4096x1024, .f32⟩
  | 16 => ⟨S1x1024, .f32⟩
  | 17 => ⟨S1024, .f32⟩
  | 18 => ⟨S1x1x1024, .f32⟩
  | 19 => ⟨S8x4096x1024, .f32⟩
  | 20 => ⟨S8x4096x1024, .f32⟩
  | 21 => ⟨S8x4096x1024, .f32⟩
  | 22 => ⟨S8x4096x1024, .f32⟩
  | 23 => ⟨S1x1024, .f32⟩
  | 24 => ⟨S1024, .f32⟩
  | 25 => ⟨S1x1x1024, .f32⟩
  | 26 => ⟨S8x4096x1024, .f32⟩
  | 27 => ⟨S8x4096x1024, .f32⟩
  | 28 => ⟨S8x4096x1024, .f32⟩
  | 29 => ⟨S8x4096x1024, .f32⟩
  | 30 => ⟨S8x4096x1024, .f32⟩
  | 31 => ⟨S_, .f32⟩
  | 32 => ⟨S8x4096x1024, .f32⟩
  | 33 => ⟨S8x4096x1024, .f32⟩
  | 34 => ⟨S_, .f32⟩
  | 35 => ⟨S8x4096x1024, .f32⟩
  | 36 => ⟨S8x4096x1024, .f32⟩
  | 37 => ⟨S8x4096x1024, .f32⟩
  | 38 => ⟨S8x4096x512, .f32⟩
  | 39 => ⟨S8x4096x512, .f32⟩
  | 40 => ⟨S4, .f32⟩
  | 41 => ⟨S1x1x4, .f32⟩
  | 42 => ⟨S8x4096x4, .f32⟩
  | 43 => ⟨S8x4096x4, .f32⟩
  | 44 => ⟨S4, .f32⟩
  | 45 => ⟨S1x1x4, .f32⟩
  | 46 => ⟨S8x4096x4, .f32⟩
  | 47 => ⟨S8x4096x4, .f32⟩
  | 48 => ⟨S8x4096x4, .f32⟩
  | 49 => ⟨S_, .f32⟩
  | 50 => ⟨S8x4096x4, .f32⟩
  | 51 => ⟨S8x4096x4, .f32⟩
  | 52 => ⟨S8x4096x4, .f32⟩
  | 53 => ⟨S8x4096x4, .f32⟩
  | 54 => ⟨S8x4096x4, .i1⟩
  | 55 => ⟨S8x4096x4, .f32⟩
  | 56 => ⟨S8x4096x4, .f32⟩
  | 57 => ⟨S8x4096x4, .f32⟩
  | 58 => ⟨S8x4096x4, .f32⟩
  | 59 => ⟨S8x4096x4, .f32⟩
  | 60 => ⟨S8x4096x4, .f32⟩
  | 61 => ⟨S8x4096x4, .f32⟩
  | 62 => ⟨S8x4096x4, .f32⟩
  | 63 => ⟨S8x4096x4, .f32⟩
  | 64 => ⟨S8x16x256x4, .f32⟩
  | 65 => ⟨S_, .f32⟩
  | 66 => ⟨S_, .f32⟩
  | 67 => ⟨S8x16x256x4, .f32⟩
  | 68 => ⟨S8x4096x4, .f32⟩
  | 69 => ⟨S8x4096x8, .f32⟩
  | 70 => ⟨S8x16x256x8, .f32⟩
  | 71 => ⟨S8x16x8x256, .f32⟩
  | 72 => ⟨S_, .f32⟩
  | 73 => ⟨S8x4096x512, .f32⟩
  | 74 => ⟨S8x4096x512, .f32⟩
  | 75 => ⟨S_, .f32⟩
  | 76 => ⟨S8x4096x512, .f32⟩
  | 77 => ⟨S8x4096x512, .f32⟩
  | 78 => ⟨S8x4096x512, .bf16⟩
  | 79 => ⟨S8x4096x512, .bf16⟩
  | 80 => ⟨S8x16x640x256, .bf16⟩
  | 81 => ⟨S8x16x512x256, .bf16⟩
  | 82 => ⟨S8x4096x512, .bf16⟩
  | 83 => ⟨S8x4096x512, .bf16⟩
  | 84 => ⟨S8x4096x512, .bf16⟩
  | 85 => ⟨S8x4096x1024, .bf16⟩
  | 86 => ⟨S8x4096x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_cst_4 : Ref sig .tc := ⟨.hbm, 77, rfl⟩
abbrev main_v66 : Ref sig .tc := ⟨.hbm, 78, rfl⟩
abbrev main_v67 : Ref sig .tc := ⟨.hbm, 79, rfl⟩
abbrev main_cst_5 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_cst_6 : Ref sig .tc := ⟨.hbm, 111, rfl⟩
abbrev main_v98 : Ref sig .tc := ⟨.hbm, 112, rfl⟩
abbrev main_cst_7 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_cst_8 : Ref sig .tc := ⟨.hbm, 118, rfl⟩
abbrev main_v103 : Ref sig .tc := ⟨.hbm, 119, rfl⟩
abbrev main_cst_9 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_c : Ref sig .tc := ⟨.hbm, 127, rfl⟩
abbrev main_call0_v0 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_call1_v0 : Ref sig .tc := ⟨.hbm, 157, rfl⟩
abbrev main_call1_v1 : Ref sig .tc := ⟨.hbm, 158, rfl⟩
abbrev main_call1_cst : Ref sig .tc := ⟨.hbm, 159, rfl⟩
abbrev main_call1_v2 : Ref sig .tc := ⟨.hbm, 160, rfl⟩
abbrev main_call1_v3 : Ref sig .tc := ⟨.hbm, 161, rfl⟩
abbrev main_call1_cst_0 : Ref sig .tc := ⟨.hbm, 162, rfl⟩
abbrev main_call1_v4 : Ref sig .tc := ⟨.hbm, 163, rfl⟩
abbrev main_call1_v5 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_call2_v0 : Ref sig .tc := ⟨.hbm, 176, rfl⟩
abbrev main_call2_call0_cst : Ref sig .tc := ⟨.hbm, 177, rfl⟩
abbrev main_call2_call0_v0 : Ref sig .tc := ⟨.hbm, 178, rfl⟩
abbrev main_call2_call0_v1 : Ref sig .tc := ⟨.hbm, 179, rfl⟩
abbrev main_call2_call0_v2 : Ref sig .tc := ⟨.hbm, 180, rfl⟩
abbrev main_call2_call0_v3 : Ref sig .tc := ⟨.hbm, 181, rfl⟩
abbrev main_call2_call0_v4 : Ref sig .tc := ⟨.hbm, 182, rfl⟩
abbrev main_call2_call0_v5 : Ref sig .tc := ⟨.hbm, 183, rfl⟩
abbrev main_call2_call0_v6 : Ref sig .tc := ⟨.hbm, 184, rfl⟩
abbrev main_call2_call0_v7 : Ref sig .tc := ⟨.hbm, 185, rfl⟩
abbrev main_call2_call0_v8 : Ref sig .tc := ⟨.hbm, 186, rfl⟩
abbrev main_call2_call0_v9 : Ref sig .tc := ⟨.hbm, 187, rfl⟩
abbrev main_call2_call0_v10 : Ref sig .tc := ⟨.hbm, 188, rfl⟩
abbrev main_call2_call0_v11 : Ref sig .tc := ⟨.hbm, 189, rfl⟩
abbrev main_call2_v1 : Ref sig .tc := ⟨.hbm, 190, rfl⟩
abbrev main_v149 : Ref sig .tc := ⟨.hbm, 191, rfl⟩
abbrev main_v150 : Ref sig .tc := ⟨.hbm, 192, rfl⟩
abbrev main_call3_call0_cst : Ref sig .tc := ⟨.hbm, 193, rfl⟩
abbrev main_call3_call0_v0 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_cst_10 : Ref sig .tc := ⟨.hbm, 200, rfl⟩
abbrev main_v156 : Ref sig .tc := ⟨.hbm, 201, rfl⟩
abbrev main_v157 : Ref sig .tc := ⟨.hbm, 202, rfl⟩
abbrev main_cst_11 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩

abbrev nD : Nat := 1
abbrev τ : Topo := Topo.v7x

variable {F : FTy → Type} [FloatOps F]
-- ==== Mlstm.lean ====
abbrev S8x4096x512 : Shape := ⟨3, ![8, 4096, 512]⟩
abbrev S8x16x512x256 : Shape := ⟨4, ![8, 16, 512, 256]⟩
abbrev S8x16x8x256 : Shape := ⟨4, ![8, 16, 8, 256]⟩
abbrev S8x4096x8 : Shape := ⟨3, ![8, 4096, 8]⟩
abbrev S1x512 : Shape := ⟨2, ![1, 512]⟩
abbrev S1x2048x512 : Shape := ⟨3, ![1, 2048, 512]⟩
abbrev S1x8x512x256 : Shape := ⟨4, ![1, 8, 512, 256]⟩
abbrev S1x8x8x256 : Shape := ⟨4, ![1, 8, 8, 256]⟩
abbrev S1x2048x8 : Shape := ⟨3, ![1, 2048, 8]⟩
abbrev S4x144x128 : Shape := ⟨3, ![4, 144, 128]⟩
abbrev S4x8x256 : Shape := ⟨3, ![4, 8, 256]⟩
abbrev S256x256 : Shape := ⟨2, ![256, 256]⟩
abbrev S16x256 : Shape := ⟨2, ![16, 256]⟩
abbrev S1x1x8x256 : Shape := ⟨4, ![1, 1, 8, 256]⟩
abbrev S8x256 : Shape := ⟨2, ![8, 256]⟩
abbrev S1x256x8 : Shape := ⟨3, ![1, 256, 8]⟩
abbrev S256x8 : Shape := ⟨2, ![256, 8]⟩
abbrev S1x256x128 : Shape := ⟨3, ![1, 256, 128]⟩
abbrev S256x128 : Shape := ⟨2, ![256, 128]⟩
abbrev S1x1x128x256 : Shape := ⟨4, ![1, 1, 128, 256]⟩
abbrev S128x256 : Shape := ⟨2, ![128, 256]⟩
abbrev S1x256 : Shape := ⟨2, ![1, 256]⟩
abbrev S256x1 : Shape := ⟨2, ![256, 1]⟩
abbrev S1x1x256 : Shape := ⟨3, ![1, 1, 256]⟩
abbrev S256 : Shape := ⟨1, ![256]⟩
abbrev S144x256 : Shape := ⟨2, ![144, 256]⟩
abbrev S1x144x128 : Shape := ⟨3, ![1, 144, 128]⟩
abbrev S144x128 : Shape := ⟨2, ![144, 128]⟩
abbrev S1x128 : Shape := ⟨2, ![1, 128]⟩
abbrev S1x1 : Shape := ⟨2, ![1, 1]⟩
abbrev S1 : Shape := ⟨1, ![1]⟩
abbrev S1x8x256 : Shape := ⟨3, ![1, 8, 256]⟩

abbrev nBuf : Space → Nat
  | .hbm => 8
  | .vmem => 17
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x16x512x256, .bf16⟩
  | .hbm, ⟨3, _⟩ => ⟨S8x4096x512, .bf16⟩
  | .hbm, ⟨4, _⟩ => ⟨S8x16x8x256, .f32⟩
  | .hbm, ⟨5, _⟩ => ⟨S8x4096x8, .f32⟩
  | .hbm, ⟨6, _⟩ => ⟨S1x512, .f32⟩
  | .hbm, ⟨7, _⟩ => ⟨S8x4096x512, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x8x512x256, .bf16⟩
  | .local _ .vmem, ⟨5, _⟩ => ⟨S1x8x512x256, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x8x8x256, .f32⟩
  | .local _ .vmem, ⟨9, _⟩ => ⟨S1x8x8x256, .f32⟩
  | .local _ .vmem, ⟨10, _⟩ => ⟨S1x2048x8, .f32⟩
  | .local _ .vmem, ⟨11, _⟩ => ⟨S1x2048x8, .f32⟩
  | .local _ .vmem, ⟨12, _⟩ => ⟨S1x512, .f32⟩
  | .local _ .vmem, ⟨13, _⟩ => ⟨S1x2048x512, .bf16⟩
  | .local _ .vmem, ⟨14, _⟩ => ⟨S1x2048x512, .bf16⟩
  | .local _ .vmem, ⟨15, _⟩ => ⟨S4x144x128, .f32⟩
  | .local _ .vmem, ⟨16, _⟩ => ⟨S4x8x256, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Proof.MergeSpec.lean ====
/- One token's row of the merge and feed-forward stage, as a function of that row's inputs and of the
   weights. Both programs are read against it. -/
module

public import Idealize.ShloMosaic.Lib.Pointwise

@[expose] public section

noncomputable section

namespace Cert.Row

open Idealize.ShloMosaic
open scoped BigOperators

/-- A row divided by its root mean square (1024 entries, the printed `eps`) and scaled by a gain. -/
def rms (h g : Fin 1024 → EReal) (n : Fin 1024) : EReal :=
  h n * Ideal.rsqrt (Ideal.div (∑ k : Fin 1024, h k * h k) (Ideal.ofBits .f32 0x44800000#32) + Ideal.ofBits .f32 0x358637BD#32) * g n

/-- The two projections, each under its own gate, added. -/
def merged (ya yb : Fin 512 → EReal) (ga gb : Fin 1024 → EReal) (wa wb : Fin 512 → Fin 1024 → EReal) (n : Fin 1024) : EReal :=
  Ideal.logistic (ga n) * (∑ k : Fin 512, ya k * wa k n) + Ideal.logistic (gb n) * (∑ k : Fin 512, yb k * wb k n)

/-- A row added to a product of another row with a matrix. -/
def resid {K : Nat} (x : Fin 1024 → EReal) (a : Fin K → EReal) (w : Fin K → Fin 1024 → EReal) (n : Fin 1024) : EReal :=
  x n + ∑ k : Fin K, a k * w k n

/-- Column `n` of the gated feed-forward layer: the gate's column times its own logistic, times the value's column. -/
def act (u : Fin 1024 → EReal) (w : Fin 1024 → Fin 5632 → EReal) (n : Fin 2816) : EReal :=
  (∑ k : Fin 1024, u k * w k ⟨n.val, by omega⟩) * Ideal.logistic (∑ k : Fin 1024, u k * w k ⟨n.val, by omega⟩)
    * (∑ k : Fin 1024, u k * w k ⟨2816 + n.val, by omega⟩)

/-- The layer's last row: normalised sum of the merged residual and the feed-forward layer over it. -/
def out (x : Fin 1024 → EReal) (ya yb : Fin 512 → EReal) (ga gb : Fin 1024 → EReal) (wa wb : Fin 512 → Fin 1024 → EReal)
    (wo : Fin 1024 → Fin 1024 → EReal) (gf : Fin 1024 → EReal) (wg : Fin 1024 → Fin 5632 → EReal)
    (wd : Fin 2816 → Fin 1024 → EReal) (gl : Fin 1024 → EReal) : Fin 1024 → EReal :=
  let h := resid x (merged ya yb ga gb wa wb) wo
  rms (resid h (act (rms h gf) wg) wd) gl

end Cert.Row

end
-- ==== Proof.MergeBlock.lean ====
/- What one grid point of the merge and feed-forward kernel leaves in its output block: every row is `Row.out`
   of the rows of the input blocks. -/
module

public import proofs.«01_k».proof.Proof.Gen.MergeIdeal.Value
public import proofs.«01_k».proof.Proof.MergeSpec
public import Idealize.ShloMosaic.Lib.Pipeline.ValueKit
public import Idealize.ShloMosaic.Lib.Pointwise
public import Idealize.ShloMosaic.Lib.VecWindow

@[expose] public section
set_option maxRecDepth 16384
noncomputable section
namespace Cert.MergeIdeal.Block
open Cert.MergeIdeal Cert.MergeIdeal.Gen Idealize.ShloMosaic Idealize.ShloMosaic.TcCoe Idealize.ShloMosaic.Tactic Idealize.SL.Sem
open Idealize.ShloMosaic.Pipeline (Dat)

theorem h_at (X0 : FVec Ideal S1x512x1024 .f32) (X1 X2 : FVec Ideal S1x512x512 .bf16) (X3 X4 : FVec Ideal S1x512x1024 .bf16)
   (X5 X6 : FVec Ideal S512x1024 .bf16) (X7 : FVec Ideal S1024x1024 .bf16) (r : Fin 512) (n : Fin 1024) :
   k0_pay2 (F := Ideal) X3 X1 X5 X4 X2 X6 X0 X7 (ix2 r n) = Row.resid (fun n => X0 (ix3 0 r n)) (Row.merged (fun k => X1 (ix3 0 r k)) (fun k => X2 (ix3 0 r k)) (fun k => X3 (ix3 0 r k)) (fun k => X4 (ix3 0 r k)) (fun k n => X5 (ix2 k n)) (fun k n => X6 (ix2 k n))) (fun k n => X7 (ix2 k n)) n := by
  pointwise [k0_pay2, Row.resid, Row.merged]

theorem u_at (X0 : FVec Ideal S1x512x1024 .f32) (X1 X2 : FVec Ideal S1x512x512 .bf16) (X3 X4 : FVec Ideal S1x512x1024 .bf16)
   (X5 X6 : FVec Ideal S512x1024 .bf16) (X7 : FVec Ideal S1024x1024 .bf16) (X8 : FVec Ideal S1x1024 .f32) (r : Fin 512) (n : Fin 1024) :
   k0_pay5 (F := Ideal) (k0_pay2 X3 X1 X5 X4 X2 X6 X0 X7) (k0_pay3 (F := Ideal) X3 X1 X5 X4 X2 X6 X0 X7) k0_pay4 X8 (ix2 r n) = Row.rms (fun n => k0_pay2 (F := Ideal) X3 X1 X5 X4 X2 X6 X0 X7 (ix2 r n)) (fun n => X8 (ix2 0 n)) n := by
  pointwise [k0_pay5, k0_pay3, k0_pay4, Row.rms]

theorem act_at (U : FVec Ideal S512x1024 .bf16) (W V : FVec Ideal S1024x256 .bf16) (r : Fin 512) (n : Fin 256) :
   k0_pay7 U W U V (ix2 r n) = (∑ k : Fin 1024, U (ix2 r k) * W (ix2 k n)) * Ideal.logistic (∑ k : Fin 1024, U (ix2 r k) * W (ix2 k n)) * (∑ k : Fin 1024, U (ix2 r k) * V (ix2 k n)) := by
  pointwise [k0_pay7]

theorem last_at (H : FVec Ideal S512x1024 .f32) (A : FVec Ideal S512x2816 .bf16) (X10 : FVec Ideal S2816x1024 .bf16) (X11 : FVec Ideal S1x1024 .f32) (r : Fin 512) (n : Fin 1024) :
   k0_pay1 (F := Ideal) (k0_pay25 H A X10) X11 (ix3 0 r n) = Row.rms (Row.resid (fun n => H (ix2 r n)) (fun k => A (ix2 r k)) (fun k n => X10 (ix2 k n))) (fun n => X11 (ix2 0 n)) n := by
  pointwise [k0_pay1, k0_pay25, Row.rms, Row.resid]

theorem block (m : (ℓ : Loc nD τ sig) → Buf (Elt Ideal) ℓ) (c : Dev nD) (t : Fin cfg0.N) (r : Fin 512) (n : Fin 1024) :
    outsAt0 m c t (ix3 0 r n) = Row.out (fun n => iblk m c 0 t (ix3 0 r n)) (fun k => iblk m c 1 t (ix3 0 r k)) (fun k => iblk m c 2 t (ix3 0 r k))
      (fun k => iblk m c 3 t (ix3 0 r k)) (fun k => iblk m c 4 t (ix3 0 r k)) (fun k n => iblk m c 5 t (ix2 k n)) (fun k n => iblk m c 6 t (ix2 k n))
      (fun k n => iblk m c 7 t (ix2 k n)) (fun n => iblk m c 8 t (ix2 0 n)) (fun k n => iblk m c 9 t (ix2 k n)) (fun k n => iblk m c 10 t (ix2 k n))
      (fun n => iblk m c 11 t (ix2 0 n)) n := by
  unfold outsAt0 out0_A_12
  rw [View.read_writes_eq_canon _ _ _ (cover0_A_12 c _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread]
  simp (disch := decide) only [View.ld_unit_lit', View.canon_cons_unit_lit', View.readCov_unit_lit']
  generalize hH : k0_pay2 (F := Ideal) (iblk m c 3 t) (iblk m c 1 t) (iblk m c 5 t) (iblk m c 4 t) (iblk m c 2 t) (iblk m c 6 t) (iblk m c 0 t) (iblk m c 7 t) = H
  generalize hU : k0_pay5 (F := Ideal) H (k0_pay3 (iblk m c 3 t) (iblk m c 1 t) (iblk m c 5 t) (iblk m c 4 t) (iblk m c 2 t) (iblk m c 6 t) (iblk m c 0 t) (iblk m c 7 t)) k0_pay4 (iblk m c 8 t) = U
  have eH : ∀ r n, H (ix2 r n) = _ := fun r n => by rw [← hH, h_at]
  have eU : ∀ r n, U (ix2 r n) = Row.rms (fun n => H (ix2 r n)) (fun n => iblk m c 8 t (ix2 0 n)) n := fun r n => by rw [← hU, ← hH]; exact u_at _ _ _ _ _ _ _ _ _ r n
  rw [last_at, View.readCov_eq_canon']
  unfold Row.out
  simp only [show ∀ r n, k0_pay6 (F := Ideal) H (ix2 r n) = H (ix2 r n) from fun r n => by pointwise [k0_pay6], eH]
  congr 2
  funext k
  refine (View.canon_apply_of_pieces (Val := Elt Ideal) (S := S512x2816) (e := .bf16) (fun i => Row.act (fun n => U (ix2 (i 0) n)) (fun k n => iblk m c 9 t (ix2 k n)) (i 1)) _ ?_ _ ?_).trans ?_
  · simp only [List.forall_mem_cons, List.not_mem_nil, false_imp_iff, implies_true, and_true]
    refine ⟨?_, ?_, ?_, ?_, ?_, ?_, ?_, ?_, ?_, ?_, ?_⟩ <;> intro x
    all_goals idx_vars x
    all_goals pointwise [Row.act, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
    all_goals blk_point []
  · exact View.cover_of_tiledL _ ![512, 256] (by sl_kernel_rfl) _
  · have e : (Rect.unit (s := S512x2816) ![0, 0] S512x2816.size inb_S512x2816_S512x2816_0_0).idx (ix2 r k) = ix2 r k :=
      Rect.emb_unit_full (s := S512x2816) inb_S512x2816_S512x2816_0_0 (ix2 r k)
    refine (congrArg (fun i : S512x2816.Idx => Row.act (fun n => U (ix2 (i 0) n)) (fun k n => iblk m c 9 t (ix2 k n)) (i 1)) e).trans ?_
    show Row.act (fun n => U (ix2 r n)) (fun k n => iblk m c 9 t (ix2 k n)) k = _
    simp only [eU, eH]

end Cert.MergeIdeal.Block

end
-- ==== Proof.MergeArray.lean ====
/- What the merge and feed-forward kernel's result array holds after the run: every row is `Row.out` of the
   argument arrays' rows. -/
module

public import proofs.«01_k».proof.Proof.MergeBlock
public import Idealize.ShloMosaic.Lib.Claim

@[expose] public section
set_option maxRecDepth 16384
noncomputable section
namespace Cert.MergeIdeal.Array
open Cert.MergeIdeal Cert.MergeIdeal.Gen Idealize.ShloMosaic Idealize.ShloMosaic.TcCoe Idealize.ShloMosaic.Tactic Idealize.SL.Sem
open Idealize.ShloMosaic.Pipeline (Dat)

/-- The result array as a function of the argument arrays. -/
def result (x : FVec Ideal S8x4096x1024 .f32) (ya yb : FVec Ideal S8x4096x512 .f32) (ga gb : FVec Ideal S8x4096x1024 .f32)
    (wa wb : FVec Ideal S1x512x1024 .f32) (wo : FVec Ideal S1x1024x1024 .f32) (gf : FVec Ideal S1x1024 .f32)
    (wg : FVec Ideal S1x1024x5632 .f32) (wd : FVec Ideal S1x2816x1024 .f32) (gl : FVec Ideal S1024 .f32) :
    FVec Ideal S8x4096x1024 .f32 := fun i =>
  Row.out (fun n => x (ix3 (i 0) (i 1) n)) (fun k => ya (ix3 (i 0) (i 1) k)) (fun k => yb (ix3 (i 0) (i 1) k))
    (fun n => ga (ix3 (i 0) (i 1) n)) (fun n => gb (ix3 (i 0) (i 1) n)) (fun k n => wa (ix3 0 k n)) (fun k n => wb (ix3 0 k n))
    (fun k n => wo (ix3 0 k n)) (fun n => gf (ix2 0 n)) (fun k n => wg (ix3 0 k n)) (fun k n => wd (ix3 0 k n))
    (fun n => gl (ix1 n)) (i 2)

variable (m : (ℓ : Loc nD τ sig) → Buf (Elt Ideal) ℓ)

/-- The windows' block indices: the rows' windows follow the grid point, the weights' windows stay at the origin. -/
theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, t.val % 8, 0]
    ∧ win0_4.index t = ![t.val / 8, t.val % 8, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![t.val / 8, t.val % 8, 0] :=
  (by decide +kernel : ∀ t : Fin grid0.N, _)

/-! The arrays the host code prepares: casts of the arguments, a leading unit axis dropped from the weights. -/

theorem v2 (c : Dev nD) : V m c main_v2 = (truncf (F := Ideal) (φ := .f32) .bf16 (m ((c : Thread nD τ).loc main_arg1)) bitsLt_bf16_f32) := by
  entry_read
  rfl

theorem v3 (c : Dev nD) : V m c main_v3 = (truncf (F := Ideal) (φ := .f32) .bf16 (m ((c : Thread nD τ).loc main_arg2)) bitsLt_bf16_f32) := by
  entry_read
  rfl

theorem v4 (c : Dev nD) : V m c main_v4 = (truncf (F := Ideal) (φ := .f32) .bf16 (m ((c : Thread nD τ).loc main_arg3)) bitsLt_bf16_f32) := by
  entry_read
  rfl

theorem v5 (c : Dev nD) : V m c main_v5 = (truncf (F := Ideal) (φ := .f32) .bf16 (m ((c : Thread nD τ).loc main_arg4)) bitsLt_bf16_f32) := by
  entry_read
  rfl

theorem v7 (c : Dev nD) : V m c main_v7 = (truncf (F := Ideal) (φ := .f32) .bf16 (shapeCast S512x1024 (m ((c : Thread nD τ).loc main_arg5)) shapeCasts_S1x512x1024_S512x1024) bitsLt_bf16_f32) := by
  entry_read
  rfl

theorem v9 (c : Dev nD) : V m c main_v9 = (truncf (F := Ideal) (φ := .f32) .bf16 (shapeCast S512x1024 (m ((c : Thread nD τ).loc main_arg6)) shapeCasts_S1x512x1024_S512x1024) bitsLt_bf16_f32) := by
  entry_read
  rfl

theorem v11 (c : Dev nD) : V m c main_v11 = (truncf (F := Ideal) (φ := .f32) .bf16 (shapeCast S1024x1024 (m ((c : Thread nD τ).loc main_arg7)) shapeCasts_S1x1024x1024_S1024x1024) bitsLt_bf16_f32) := by
  entry_read
  rfl

theorem v1 (c : Dev nD) : V m c main_v1 = (truncf (F := Ideal) (φ := .f32) .bf16 (shapeCast S1024x5632 (m ((c : Thread nD τ).loc main_arg9)) shapeCasts_S1x1024x5632_S1024x5632) bitsLt_bf16_f32) := by
  entry_read
  rfl

theorem v13 (c : Dev nD) : V m c main_v13 = (truncf (F := Ideal) (φ := .f32) .bf16 (shapeCast S2816x1024 (m ((c : Thread nD τ).loc main_arg10)) shapeCasts_S1x2816x1024_S2816x1024) bitsLt_bf16_f32) := by
  entry_read
  rfl

theorem v14 (c : Dev nD) : V m c main_v14 = (broadcastInDim S1x1024 ![1] bcast_S1024_S1x1024_1 (m ((c : Thread nD τ).loc main_arg11))) := by
  entry_read
  rfl

/-- The sequence a grid point works on. -/
def seq (t : Fin cfg0.N) : Fin 8 := ⟨t.val / 8, by have h : t.val < 64 := t.isLt; omega⟩
/-- The row of the sequence that row `r` of a grid point's block is. -/
def row (t : Fin cfg0.N) (r : Fin 512) : Fin 4096 := ⟨t.val % 8 * 512 + r.val, by omega⟩

theorem drop512x1024 (X : FVec Ideal S1x512x1024 .f32) (k : Fin 512) (n : Fin 1024) :
    truncf (F := Ideal) (φ := .f32) .bf16 (shapeCast S512x1024 X shapeCasts_S1x512x1024_S512x1024) bitsLt_bf16_f32 (ix2 k n) = X (ix3 0 k n) := by
  pointwise

theorem drop1024x1024 (X : FVec Ideal S1x1024x1024 .f32) (k : Fin 1024) (n : Fin 1024) :
    truncf (F := Ideal) (φ := .f32) .bf16 (shapeCast S1024x1024 X shapeCasts_S1x1024x1024_S1024x1024) bitsLt_bf16_f32 (ix2 k n) = X (ix3 0 k n) := by
  pointwise

theorem drop1024x5632 (X : FVec Ideal S1x1024x5632 .f32) (k : Fin 1024) (n : Fin 5632) :
    truncf (F := Ideal) (φ := .f32) .bf16 (shapeCast S1024x5632 X shapeCasts_S1x1024x5632_S1024x5632) bitsLt_bf16_f32 (ix2 k n) = X (ix3 0 k n) := by
  pointwise

theorem drop2816x1024 (X : FVec Ideal S1x2816x1024 .f32) (k : Fin 2816) (n : Fin 1024) :
    truncf (F := Ideal) (φ := .f32) .bf16 (shapeCast S2816x1024 X shapeCasts_S1x2816x1024_S2816x1024) bitsLt_bf16_f32 (ix2 k n) = X (ix3 0 k n) := by
  pointwise

/-! The input blocks at a row `r` of grid point `t`: the arguments at row `t % 8 * 512 + r` of sequence `t / 8`. -/

theorem b0 (c : Dev nD) (t : Fin cfg0.N) (r : Fin 512) (k : Fin 1024) : iblk m c 0 t (ix3 0 r k) = m ((c : Thread nD τ).loc main_arg0) (ix3 (seq t) (row t r) k) := by
  blk_ext [iblk, V, idx t, seq, row]

theorem b1 (c : Dev nD) (t : Fin cfg0.N) (r : Fin 512) (k : Fin 512) : iblk m c 1 t (ix3 0 r k) = m ((c : Thread nD τ).loc main_arg1) (ix3 (seq t) (row t r) k) := by
  show V m c main_v2 (((cfg0.win 1).blk t).view.emb (ix3 0 r k)) = _
  rw [v2]
  pointwise
  blk_ext [idx t, seq, row]

theorem b2 (c : Dev nD) (t : Fin cfg0.N) (r : Fin 512) (k : Fin 512) : iblk m c 2 t (ix3 0 r k) = m ((c : Thread nD τ).loc main_arg2) (ix3 (seq t) (row t r) k) := by
  show V m c main_v3 (((cfg0.win 2).blk t).view.emb (ix3 0 r k)) = _
  rw [v3]
  pointwise
  blk_ext [idx t, seq, row]

theorem b3 (c : Dev nD) (t : Fin cfg0.N) (r : Fin 512) (k : Fin 1024) : iblk m c 3 t (ix3 0 r k) = m ((c : Thread nD τ).loc main_arg3) (ix3 (seq t) (row t r) k) := by
  show V m c main_v4 (((cfg0.win 3).blk t).view.emb (ix3 0 r k)) = _
  rw [v4]
  pointwise
  blk_ext [idx t, seq, row]

theorem b4 (c : Dev nD) (t : Fin cfg0.N) (r : Fin 512) (k : Fin 1024) : iblk m c 4 t (ix3 0 r k) = m ((c : Thread nD τ).loc main_arg4) (ix3 (seq t) (row t r) k) := by
  show V m c main_v5 (((cfg0.win 4).blk t).view.emb (ix3 0 r k)) = _
  rw [v5]
  pointwise
  blk_ext [idx t, seq, row]

theorem b5 (c : Dev nD) (t : Fin cfg0.N) (k : Fin 512) (n : Fin 1024) : iblk m c 5 t (ix2 k n) = m ((c : Thread nD τ).loc main_arg5) (ix3 0 k n) := by
  have e : (((cfg0.win 5).blk t).view.emb (ix2 k n) : S512x1024.Idx) = ix2 k n := by blk_ext [idx t]
  refine (congrArg (V m c main_v7) e).trans ?_
  rw [v7]
  exact drop512x1024 _ k n

theorem b6 (c : Dev nD) (t : Fin cfg0.N) (k : Fin 512) (n : Fin 1024) : iblk m c 6 t (ix2 k n) = m ((c : Thread nD τ).loc main_arg6) (ix3 0 k n) := by
  have e : (((cfg0.win 6).blk t).view.emb (ix2 k n) : S512x1024.Idx) = ix2 k n := by blk_ext [idx t]
  refine (congrArg (V m c main_v9) e).trans ?_
  rw [v9]
  exact drop512x1024 _ k n

theorem b7 (c : Dev nD) (t : Fin cfg0.N) (k : Fin 1024) (n : Fin 1024) : iblk m c 7 t (ix2 k n) = m ((c : Thread nD τ).loc main_arg7) (ix3 0 k n) := by
  have e : (((cfg0.win 7).blk t).view.emb (ix2 k n) : S1024x1024.Idx) = ix2 k n := by blk_ext [idx t]
  refine (congrArg (V m c main_v11) e).trans ?_
  rw [v11]
  exact drop1024x1024 _ k n

theorem b8 (c : Dev nD) (t : Fin cfg0.N) (n : Fin 1024) : iblk m c 8 t (ix2 0 n) = m ((c : Thread nD τ).loc main_arg8) (ix2 0 n) := by
  blk_ext [iblk, V, idx t, seq, row]

theorem b9 (c : Dev nD) (t : Fin cfg0.N) (k : Fin 1024) (n : Fin 5632) : iblk m c 9 t (ix2 k n) = m ((c : Thread nD τ).loc main_arg9) (ix3 0 k n) := by
  have e : (((cfg0.win 9).blk t).view.emb (ix2 k n) : S1024x5632.Idx) = ix2 k n := by blk_ext [idx t]
  refine (congrArg (V m c main_v1) e).trans ?_
  rw [v1]
  exact drop1024x5632 _ k n

theorem b10 (c : Dev nD) (t : Fin cfg0.N) (k : Fin 2816) (n : Fin 1024) : iblk m c 10 t (ix2 k n) = m ((c : Thread nD τ).loc main_arg10) (ix3 0 k n) := by
  have e : (((cfg0.win 10).blk t).view.emb (ix2 k n) : S2816x1024.Idx) = ix2 k n := by blk_ext [idx t]
  refine (congrArg (V m c main_v13) e).trans ?_
  rw [v13]
  exact drop2816x1024 _ k n

theorem b11 (c : Dev nD) (t : Fin cfg0.N) (n : Fin 1024) : iblk m c 11 t (ix2 0 n) = m ((c : Thread nD τ).loc main_arg11) (ix1 n) := by
  show V m c main_v14 (((cfg0.win 11).blk t).view.emb (ix2 0 n)) = _
  rw [v14]
  pointwise
  blk_ext [idx t, seq, row]

theorem final (c : Dev nD) : (dats m 0 c).arrAt 12 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) := by
  refine (dats m 0 c).arrAt_eq_of_covers 12 _ (by decide +kernel) fun t _ y => ?_
  blk_simp
  rw [after0_12]
  idx_vars y
  obtain rfl : y0 = 0 := Subsingleton.elim _ _
  rw [Block.block]
  have e : (((cfg0.win 12).blk t).view.emb (ix3 0 y1 y2) : S8x4096x1024.Idx) = ix3 (seq t) (row t y1) y2 := by
    blk_ext [idx t, seq, row]
  simp only [b0, b1, b2, b3, b4, b5, b6, b7, b8, b9, b10, b11]
  exact (congrArg (result _ _ _ _ _ _ _ _ _ _ _ _) e).symm

end Cert.MergeIdeal.Array

end
-- ==== Proof.MergeRows.lean ====
/- What the reference of the merge and feed-forward stage computes: every row of its result is `Row.out` of the
   argument arrays' rows. -/
module

public import proofs.«01_k».proof.Proof.Gen.MergeRefIdeal.Read
public import proofs.«01_k».proof.Proof.MergeSpec
public import Idealize.ShloMosaic.Lib.Pointwise

@[expose] public section
set_option maxRecDepth 16384
noncomputable section
namespace Cert.MergeRefIdeal.Rows
open Cert.MergeRefIdeal Cert.MergeRefIdeal.Gen Idealize.ShloMosaic Idealize.ShloMosaic.TcCoe Idealize.SL.Sem

variable (x0 : FVec Ideal S8x4096x1024 .f32) (x1 x2 : FVec Ideal S8x4096x512 .f32) (x3 x4 : FVec Ideal S8x4096x1024 .f32) (x5 x6 : FVec Ideal S1x512x1024 .f32) (x7 : FVec Ideal S1x1024x1024 .f32) (x8 : FVec Ideal S1x1024 .f32)
    (x9 : FVec Ideal S1x1024x5632 .f32) (x10 : FVec Ideal S1x2816x1024 .f32) (x11 : FVec Ideal S1024 .f32) (b : Fin 8) (s : Fin 4096)

/-- The residual row after the merge. -/
theorem merge_row (n : Fin 1024) : Read.val_main_v21 (F := Ideal) x0 x1 x2 x3 x4 x5 x6 x7 (ix3 b s n)
    = Row.resid (fun n => x0 (ix3 b s n)) (Row.merged (fun k => x1 (ix3 b s k)) (fun k => x2 (ix3 b s k)) (fun n => x3 (ix3 b s n))
        (fun n => x4 (ix3 b s n)) (fun k n => x5 (ix3 0 k n)) (fun k n => x6 (ix3 0 k n))) (fun k n => x7 (ix3 0 k n)) n := by
  pointwise [Read.val_main_v0, Read.val_main_v1, Read.val_main_v2, Read.val_main_v3, Read.val_main_v4, Read.val_main_v5, Read.val_main_v6, Read.val_main_v7, Read.val_main_v8, Read.val_main_v9, Read.val_main_v10, Read.val_main_v11, Read.val_main_v12, Read.val_main_v13, Read.val_main_v14, Read.val_main_v15, Read.val_main_v16, Read.val_main_v17, Read.val_main_v18, Read.val_main_v19, Read.val_main_v20, Read.val_main_v21, Read.val_main_cst, Read.val_main_cst_0, Read.val_main_cst_1, Read.val_main_cst_2, Row.resid, Row.merged, Ideal.logistic]

/-- The row normalised for the feed-forward layer. -/
theorem norm_row (n : Fin 1024) : Read.val_main_v35 (F := Ideal) x0 x1 x2 x3 x4 x5 x6 x7 x8 (ix3 b s n)
    = Row.rms (fun n => Read.val_main_v21 (F := Ideal) x0 x1 x2 x3 x4 x5 x6 x7 (ix3 b s n)) (fun n => x8 (ix2 0 n)) n := by
  pointwise [Read.val_main_v22, Read.val_main_v23, Read.val_main_v24, Read.val_main_v25, Read.val_main_v26, Read.val_main_v27, Read.val_main_v28, Read.val_main_v29, Read.val_main_v30, Read.val_main_v31, Read.val_main_v32, Read.val_main_v33, Read.val_main_v34, Read.val_main_v35, Read.val_main_cst_3, Read.val_main_cst_4, Read.val_main_cst_5, Row.rms]

/-- The gated feed-forward layer's row. -/
theorem act_row (n : Fin 2816) : Read.val_main_v41 (F := Ideal) x0 x1 x2 x3 x4 x5 x6 x7 x8 x9 (ix3 b s n)
    = Row.act (fun n => Read.val_main_v35 (F := Ideal) x0 x1 x2 x3 x4 x5 x6 x7 x8 (ix3 b s n)) (fun k n => x9 (ix3 0 k n)) n := by
  pointwise [Read.val_main_v36, Read.val_main_v37, Read.val_main_v38, Read.val_main_v39, Read.val_main_v40, Read.val_main_v41, Read.val_main_call0_v0, Read.val_main_call0_v1, Read.val_main_call0_v2, Read.val_main_call0_v3, Read.val_main_call0_v4, Read.val_main_call0_v5, Read.val_main_call0_cst, Read.val_main_call0_cst_0, Row.act, Ideal.logistic]

/-- The last row. -/
theorem last_row (n : Fin 1024) : Read.val_main_v57 (F := Ideal) x0 x1 x2 x3 x4 x5 x6 x7 x8 x9 x10 x11 (ix3 b s n)
    = Row.rms (Row.resid (fun n => Read.val_main_v21 (F := Ideal) x0 x1 x2 x3 x4 x5 x6 x7 (ix3 b s n)) (fun k => Read.val_main_v41 (F := Ideal) x0 x1 x2 x3 x4 x5 x6 x7 x8 x9 (ix3 b s k))
        (fun k n => x10 (ix3 0 k n))) (fun n => x11 (ix1 n)) n := by
  pointwise [Read.val_main_v42, Read.val_main_v43, Read.val_main_v44, Read.val_main_v45, Read.val_main_v46, Read.val_main_v47, Read.val_main_v48, Read.val_main_v49, Read.val_main_v50, Read.val_main_v51, Read.val_main_v52, Read.val_main_v53, Read.val_main_v54, Read.val_main_v55, Read.val_main_v56, Read.val_main_v57, Read.val_main_cst_6, Read.val_main_cst_7, Read.val_main_cst_8, Row.rms, Row.resid]

theorem row (n : Fin 1024) : Read.val_main_v57 (F := Ideal) x0 x1 x2 x3 x4 x5 x6 x7 x8 x9 x10 x11 (ix3 b s n)
    = Row.out (fun n => x0 (ix3 b s n)) (fun k => x1 (ix3 b s k)) (fun k => x2 (ix3 b s k)) (fun n => x3 (ix3 b s n))
        (fun n => x4 (ix3 b s n)) (fun k n => x5 (ix3 0 k n)) (fun k n => x6 (ix3 0 k n)) (fun k n => x7 (ix3 0 k n))
        (fun n => x8 (ix2 0 n)) (fun k n => x9 (ix3 0 k n)) (fun k n => x10 (ix3 0 k n)) (fun n => x11 (ix1 n)) n := by
  simp only [last_row, act_row, norm_row, merge_row]
  rfl

end Cert.MergeRefIdeal.Rows

end
-- ==== Proof.MergeClaim.lean ====
/- The merge and feed-forward call: the reference's array equals the array the kernel leaves, and the claims
   about the three programs. -/
module

public import proofs.«01_k».proof.Defs
public import proofs.«01_k».proof.Proof.MergeArray
public import proofs.«01_k».proof.Proof.MergeRows
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import Idealize.ShloMosaic.Adequacy
public import Idealize.ShloMosaic.Init
public import Idealize.ShloMosaic.Lib.Claim

@[expose] public section
set_option maxRecDepth 16384
noncomputable section
namespace Cert.MergeClaim
open Idealize.ShloMosaic Idealize.ShloMosaic.TcCoe Idealize.ShloMosaic.Tactic Idealize.SL.Sem

/-- The reference's composed array is the array of rows. -/
theorem ref_eq (x0 : FVec Ideal MergeRefIdeal.S8x4096x1024 .f32) (x1 x2 : FVec Ideal MergeRefIdeal.S8x4096x512 .f32)
    (x3 x4 : FVec Ideal MergeRefIdeal.S8x4096x1024 .f32) (x5 x6 : FVec Ideal MergeRefIdeal.S1x512x1024 .f32)
    (x7 : FVec Ideal MergeRefIdeal.S1x1024x1024 .f32) (x8 : FVec Ideal MergeRefIdeal.S1x1024 .f32)
    (x9 : FVec Ideal MergeRefIdeal.S1x1024x5632 .f32) (x10 : FVec Ideal MergeRefIdeal.S1x2816x1024 .f32)
    (x11 : FVec Ideal MergeRefIdeal.S1024 .f32) :
    MergeRefIdeal.Read.val_main_v57 (F := Ideal) x0 x1 x2 x3 x4 x5 x6 x7 x8 x9 x10 x11
      = MergeIdeal.Array.result x0 x1 x2 x3 x4 x5 x6 x7 x8 x9 x10 x11 := by
  funext i
  idx_vars i
  exact MergeRefIdeal.Rows.row x0 x1 x2 x3 x4 x5 x6 x7 x8 x9 x10 x11 _ _ _

instance : Cert.Merge.Facts := Cert.Merge.Gen.facts
instance : Cert.MergeIdeal.Facts := Cert.MergeIdeal.Gen.facts
instance : Cert.MergeRefIdeal.Facts := Cert.MergeRefIdeal.Gen.facts

theorem frame : Cert.quiescent_Merge := fun m g _ => Cert.Merge.Gen.frame m g

theorem frame_ideal : Cert.quiescent_MergeIdeal := fun m g _ => Cert.MergeIdeal.Gen.frame m g

theorem frame_ref : Cert.quiescent_MergeRefIdeal := by
  intro m g _
  refine (Cert.MergeRefIdeal.Value.run (F := Ideal) m g).mono ?_
  intro r h
  refine ⟨fun c => (h c).2, ?_⟩
  exact Idealize.ShloMosaic.sem_eq_zero_of_no_sems (by decide) r

set_option maxHeartbeats 1600000 in
/-- At the ideal instance the kernel and the reference leave equal arrays. -/
theorem algebraic : Cert.algebraic_MergeIdeal_MergeRefIdeal := by
  pair_intro
  · run_from Cert.MergeIdeal.Gen.run_main m g
  · run_from Cert.MergeRefIdeal.Value.run m' g'
    rw [MergeRefIdeal.Read.val_main_v57_eq]
    refine Eq.trans ?_ (MergeIdeal.Array.final m _).symm
    rw [ref_eq]
    simp only [hagree]

end Cert.MergeClaim

end
-- ==== Proof.MixPoint.lean ====
/- What one grid point of the input projection leaves in each of its twelve output blocks and in the scratch it hands on. -/
module

public import proofs.«01_k».proof.Proof.Gen.MixIdeal.Frame.RunB
public import Idealize.ShloMosaic.Lib.Claim

@[expose] public section

set_option maxRecDepth 16384

noncomputable section

namespace Cert.MixRun

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at point `t`, the first of its sequence. -/
def runA (c : Dev nD) (t : Fin cfg0.N) (h0 : t.val % 8 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _)
    ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
theorem covA_13 (c : Dev nD) (t : Fin cfg0.N) (h0 : t.val % 8 = 0) (y : S1x512x512.Idx) :
    ∃ pc ∈ (runA m c t h0).1, y ∈ pc.1.set :=
  View.cover_of_tiledL (runA m c t h0).1 S1x512x128.size (by sl_kernel_rfl) y

def leftA_13 (c : Dev nD) (t : Fin cfg0.N) (h0 : t.val % 8 = 0) : Vec F S1x512x512 .bf16 :=
  VO0_13.read (Elt F) (VO0_13.writes (Elt F) VO0_13.junk (runA m c t h0).1)
theorem covA_14 (c : Dev nD) (t : Fin cfg0.N) (h0 : t.val % 8 = 0) (y : S1x512x512.Idx) :
    ∃ pc ∈ (runA m c t h0).2.1, y ∈ pc.1.set :=
  View.cover_of_tiledL (runA m c t h0).2.1 S1x512x128.size (by sl_kernel_rfl) y

def leftA_14 (c : Dev nD) (t : Fin cfg0.N) (h0 : t.val % 8 = 0) : Vec F S1x512x512 .bf16 :=
  VO0_14.read (Elt F) (VO0_14.writes (Elt F) VO0_14.junk (runA m c t h0).2.1)
theorem covA_15 (c : Dev nD) (t : Fin cfg0.N) (h0 : t.val % 8 = 0) (y : S1x1x2x512.Idx) :
    ∃ pc ∈ (runA m c t h0).2.2.1, y ∈ pc.1.set :=
  View.cover_of_tiledL (runA m c t h0).2.2.1 S1x1x1x128.size (by sl_kernel_rfl) y

def leftA_15 (c : Dev nD) (t : Fin cfg0.N) (h0 : t.val % 8 = 0) : Vec F S1x1x2x512 .f32 :=
  VO0_15.read (Elt F) (VO0_15.writes (Elt F) VO0_15.junk (runA m c t h0).2.2.1)
theorem covA_16 (c : Dev nD) (t : Fin cfg0.N) (h0 : t.val % 8 = 0) (y : S1x2x640x256.Idx) :
    ∃ pc ∈ (runA m c t h0).2.2.2.1, y ∈ pc.1.set :=
  View.cover_of_tiledBy (runA m c t h0).2.2.2.1 ![1, 1, 16, 256] (by sl_kernel_rfl) y

def leftA_16 (c : Dev nD) (t : Fin cfg0.N) (h0 : t.val % 8 = 0) : Vec F S1x2x640x256 .bf16 :=
  VO0_16.read (Elt F) (VO0_16.writes (Elt F) VO0_16.junk (runA m c t h0).2.2.2.1)
theorem covA_17 (c : Dev nD) (t : Fin cfg0.N) (h0 : t.val % 8 = 0) (y : S1x2x512x256.Idx) :
    ∃ pc ∈ (runA m c t h0).2.2.2.2.1, y ∈ pc.1.set :=
  View.cover_of_tiledL (runA m c t h0).2.2.2.2.1 S1x1x256x256.size (by sl_kernel_rfl) y

def leftA_17 (c : Dev nD) (t : Fin cfg0.N) (h0 : t.val % 8 = 0) : Vec F S1x2x512x256 .bf16 :=
  VO0_17.read (Elt F) (VO0_17.writes (Elt F) VO0_17.junk (runA m c t h0).2.2.2.2.1)
theorem covA_18 (c : Dev nD) (t : Fin cfg0.N) (h0 : t.val % 8 = 0) (y : S1x512x512.Idx) :
    ∃ pc ∈ (runA m c t h0).2.2.2.2.2.1, y ∈ pc.1.set :=
  View.cover_of_tiledL (runA m c t h0).2.2.2.2.2.1 S1x512x256.size (by sl_kernel_rfl) y

def leftA_18 (c : Dev nD) (t : Fin cfg0.N) (h0 : t.val % 8 = 0) : Vec F S1x512x512 .bf16 :=
  VO0_18.read (Elt F) (VO0_18.writes (Elt F) VO0_18.junk (runA m c t h0).2.2.2.2.2.1)
theorem covA_19 (c : Dev nD) (t : Fin cfg0.N) (h0 : t.val % 8 = 0) (y : S1x512x512.Idx) :
    ∃ pc ∈ (runA m c t h0).2.2.2.2.2.2.1, y ∈ pc.1.set :=
  View.cover_of_tiledL (runA m c t h0).2.2.2.2.2.2.1 S1x512x256.size (by sl_kernel_rfl) y

def leftA_19 (c : Dev nD) (t : Fin cfg0.N) (h0 : t.val % 8 = 0) : Vec F S1x512x512 .bf16 :=
  VO0_19.read (Elt F) (VO0_19.writes (Elt F) VO0_19.junk (runA m c t h0).2.2.2.2.2.2.1)
theorem covA_20 (c : Dev nD) (t : Fin cfg0.N) (h0 : t.val % 8 = 0) (y : S1x512x512.Idx) :
    ∃ pc ∈ (runA m c t h0).2.2.2.2.2.2.2.1, y ∈ pc.1.set :=
  View.cover_of_tiledL (runA m c t h0).2.2.2.2.2.2.2.1 S1x512x256.size (by sl_kernel_rfl) y

def leftA_20 (c : Dev nD) (t : Fin cfg0.N) (h0 : t.val % 8 = 0) : Vec F S1x512x512 .bf16 :=
  VO0_20.read (Elt F) (VO0_20.writes (Elt F) VO0_20.junk (runA m c t h0).2.2.2.2.2.2.2.1)
theorem covA_21 (c : Dev nD) (t : Fin cfg0.N) (h0 : t.val % 8 = 0) (y : S1x512x1024.Idx) :
    ∃ pc ∈ (runA m c t h0).2.2.2.2.2.2.2.2.1, y ∈ pc.1.set :=
  View.cover_of_tiledL (runA m c t h0).2.2.2.2.2.2.2.2.1 S1x512x256.size (by sl_kernel_rfl) y

def leftA_21 (c : Dev nD) (t : Fin cfg0.N) (h0 : t.val % 8 = 0) : Vec F S1x512x1024 .bf16 :=
  VO0_21.read (Elt F) (VO0_21.writes (Elt F) VO0_21.junk (runA m c t h0).2.2.2.2.2.2.2.2.1)
theorem covA_22 (c : Dev nD) (t : Fin cfg0.N) (h0 : t.val % 8 = 0) (y : S1x512x1024.Idx) :
    ∃ pc ∈ (runA m c t h0).2.2.2.2.2.2.2.2.2.1, y ∈ pc.1.set :=
  View.cover_of_tiledL (runA m c t h0).2.2.2.2.2.2.2.2.2.1 S1x512x256.size (by sl_kernel_rfl) y

def leftA_22 (c : Dev nD) (t : Fin cfg0.N) (h0 : t.val % 8 = 0) : Vec F S1x512x1024 .bf16 :=
  VO0_22.read (Elt F) (VO0_22.writes (Elt F) VO0_22.junk (runA m c t h0).2.2.2.2.2.2.2.2.2.1)
theorem covA_23 (c : Dev nD) (t : Fin cfg0.N) (h0 : t.val % 8 = 0) (y : S1x2x8x256.Idx) :
    ∃ pc ∈ (runA m c t h0).2.2.2.2.2.2.2.2.2.2.1, y ∈ pc.1.set :=
  View.cover_of_tiledL (runA m c t h0).2.2.2.2.2.2.2.2.2.2.1 S1x1x8x256.size (by sl_kernel_rfl) y

def leftA_23 (c : Dev nD) (t : Fin cfg0.N) (h0 : t.val % 8 = 0) : Vec F S1x2x8x256 .f32 :=
  VO0_23.read (Elt F) (VO0_23.writes (Elt F) VO0_23.junk (runA m c t h0).2.2.2.2.2.2.2.2.2.2.1)
theorem covA_24 (c : Dev nD) (t : Fin cfg0.N) (h0 : t.val % 8 = 0) (y : S1x512x8.Idx) :
    ∃ pc ∈ (runA m c t h0).2.2.2.2.2.2.2.2.2.2.2.1, y ∈ pc.1.set :=
  View.cover_of_tiledL (runA m c t h0).2.2.2.2.2.2.2.2.2.2.2.1 S1x256x8.size (by sl_kernel_rfl) y

def leftA_24 (c : Dev nD) (t : Fin cfg0.N) (h0 : t.val % 8 = 0) : Vec F S1x512x8 .f32 :=
  VO0_24.read (Elt F) (VO0_24.writes (Elt F) VO0_24.junk (runA m c t h0).2.2.2.2.2.2.2.2.2.2.2.1)
theorem covA_s (c : Dev nD) (t : Fin cfg0.N) (h0 : t.val % 8 = 0) (y : S520x1024.Idx) :
    ∃ pc ∈ (runA m c t h0).2.2.2.2.2.2.2.2.2.2.2.2.1, y ∈ pc.1.set :=
  View.cover_of_tiledBy (runA m c t h0).2.2.2.2.2.2.2.2.2.2.2.2.1 ![8, 256] (by sl_kernel_rfl) y

def leftA_s (c : Dev nD) (t : Fin cfg0.N) (h0 : t.val % 8 = 0) : Vec F S520x1024 .f32 :=
  VS0_1.read (Elt F) (VS0_1.writes (Elt F) VS0_1.junk (runA m c t h0).2.2.2.2.2.2.2.2.2.2.2.2.1)
/-- All that such a point leaves. -/
def allA (c : Dev nD) (t : Fin cfg0.N) (h0 : t.val % 8 = 0) : Vec F S1x512x512 .bf16 × Vec F S1x512x512 .bf16 × Vec F S1x1x2x512 .f32 × Vec F S1x2x640x256 .bf16 × Vec F S1x2x512x256 .bf16 × Vec F S1x512x512 .bf16 × Vec F S1x512x512 .bf16 × Vec F S1x512x512 .bf16 × Vec F S1x512x1024 .bf16 × Vec F S1x512x1024 .bf16 × Vec F S1x2x8x256 .f32 × Vec F S1x512x8 .f32 × Vec F S520x1024 .f32 :=
  (leftA_13 m c t h0, leftA_14 m c t h0, leftA_15 m c t h0, leftA_16 m c t h0, leftA_17 m c t h0, leftA_18 m c t h0, leftA_19 m c t h0, leftA_20 m c t h0, leftA_21 m c t h0, leftA_22 m c t h0, leftA_23 m c t h0, leftA_24 m c t h0, leftA_s m c t h0)

/-- The body's run at point `t`, a later one of its sequence, over what the scratch holds. -/
def runB (c : Dev nD) (t : Fin cfg0.N) (h0 : ¬t.val % 8 = 0) (xs : Vec F S520x1024 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _)
    (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) xs
theorem covB_13 (c : Dev nD) (t : Fin cfg0.N) (h0 : ¬t.val % 8 = 0) (xs : Vec F S520x1024 .f32) (y : S1x512x512.Idx) :
    ∃ pc ∈ (runB m c t h0 xs).1, y ∈ pc.1.set :=
  View.cover_of_tiledL (runB m c t h0 xs).1 S1x512x128.size (by sl_kernel_rfl) y

def leftB_13 (c : Dev nD) (t : Fin cfg0.N) (h0 : ¬t.val % 8 = 0) (xs : Vec F S520x1024 .f32) : Vec F S1x512x512 .bf16 :=
  VO0_13.read (Elt F) (VO0_13.writes (Elt F) VO0_13.junk (runB m c t h0 xs).1)
theorem covB_14 (c : Dev nD) (t : Fin cfg0.N) (h0 : ¬t.val % 8 = 0) (xs : Vec F S520x1024 .f32) (y : S1x512x512.Idx) :
    ∃ pc ∈ (runB m c t h0 xs).2.1, y ∈ pc.1.set :=
  View.cover_of_tiledL (runB m c t h0 xs).2.1 S1x512x128.size (by sl_kernel_rfl) y

def leftB_14 (c : Dev nD) (t : Fin cfg0.N) (h0 : ¬t.val % 8 = 0) (xs : Vec F S520x1024 .f32) : Vec F S1x512x512 .bf16 :=
  VO0_14.read (Elt F) (VO0_14.writes (Elt F) VO0_14.junk (runB m c t h0 xs).2.1)
theorem covB_15 (c : Dev nD) (t : Fin cfg0.N) (h0 : ¬t.val % 8 = 0) (xs : Vec F S520x1024 .f32) (y : S1x1x2x512.Idx) :
    ∃ pc ∈ (runB m c t h0 xs).2.2.1, y ∈ pc.1.set :=
  View.cover_of_tiledL (runB m c t h0 xs).2.2.1 S1x1x1x128.size (by sl_kernel_rfl) y

def leftB_15 (c : Dev nD) (t : Fin cfg0.N) (h0 : ¬t.val % 8 = 0) (xs : Vec F S520x1024 .f32) : Vec F S1x1x2x512 .f32 :=
  VO0_15.read (Elt F) (VO0_15.writes (Elt F) VO0_15.junk (runB m c t h0 xs).2.2.1)
theorem covB_16 (c : Dev nD) (t : Fin cfg0.N) (h0 : ¬t.val % 8 = 0) (xs : Vec F S520x1024 .f32) (y : S1x2x640x256.Idx) :
    ∃ pc ∈ (runB m c t h0 xs).2.2.2.1, y ∈ pc.1.set :=
  View.cover_of_tiledBy (runB m c t h0 xs).2.2.2.1 ![1, 1, 16, 256] (by sl_kernel_rfl) y

def leftB_16 (c : Dev nD) (t : Fin cfg0.N) (h0 : ¬t.val % 8 = 0) (xs : Vec F S520x1024 .f32) : Vec F S1x2x640x256 .bf16 :=
  VO0_16.read (Elt F) (VO0_16.writes (Elt F) VO0_16.junk (runB m c t h0 xs).2.2.2.1)
theorem covB_17 (c : Dev nD) (t : Fin cfg0.N) (h0 : ¬t.val % 8 = 0) (xs : Vec F S520x1024 .f32) (y : S1x2x512x256.Idx) :
    ∃ pc ∈ (runB m c t h0 xs).2.2.2.2.1, y ∈ pc.1.set :=
  View.cover_of_tiledL (runB m c t h0 xs).2.2.2.2.1 S1x1x256x256.size (by sl_kernel_rfl) y

def leftB_17 (c : Dev nD) (t : Fin cfg0.N) (h0 : ¬t.val % 8 = 0) (xs : Vec F S520x1024 .f32) : Vec F S1x2x512x256 .bf16 :=
  VO0_17.read (Elt F) (VO0_17.writes (Elt F) VO0_17.junk (runB m c t h0 xs).2.2.2.2.1)
theorem covB_18 (c : Dev nD) (t : Fin cfg0.N) (h0 : ¬t.val % 8 = 0) (xs : Vec F S520x1024 .f32) (y : S1x512x512.Idx) :
    ∃ pc ∈ (runB m c t h0 xs).2.2.2.2.2.1, y ∈ pc.1.set :=
  View.cover_of_tiledL (runB m c t h0 xs).2.2.2.2.2.1 S1x512x256.size (by sl_kernel_rfl) y

def leftB_18 (c : Dev nD) (t : Fin cfg0.N) (h0 : ¬t.val % 8 = 0) (xs : Vec F S520x1024 .f32) : Vec F S1x512x512 .bf16 :=
  VO0_18.read (Elt F) (VO0_18.writes (Elt F) VO0_18.junk (runB m c t h0 xs).2.2.2.2.2.1)
theorem covB_19 (c : Dev nD) (t : Fin cfg0.N) (h0 : ¬t.val % 8 = 0) (xs : Vec F S520x1024 .f32) (y : S1x512x512.Idx) :
    ∃ pc ∈ (runB m c t h0 xs).2.2.2.2.2.2.1, y ∈ pc.1.set :=
  View.cover_of_tiledL (runB m c t h0 xs).2.2.2.2.2.2.1 S1x512x256.size (by sl_kernel_rfl) y

def leftB_19 (c : Dev nD) (t : Fin cfg0.N) (h0 : ¬t.val % 8 = 0) (xs : Vec F S520x1024 .f32) : Vec F S1x512x512 .bf16 :=
  VO0_19.read (Elt F) (VO0_19.writes (Elt F) VO0_19.junk (runB m c t h0 xs).2.2.2.2.2.2.1)
theorem covB_20 (c : Dev nD) (t : Fin cfg0.N) (h0 : ¬t.val % 8 = 0) (xs : Vec F S520x1024 .f32) (y : S1x512x512.Idx) :
    ∃ pc ∈ (runB m c t h0 xs).2.2.2.2.2.2.2.1, y ∈ pc.1.set :=
  View.cover_of_tiledL (runB m c t h0 xs).2.2.2.2.2.2.2.1 S1x512x256.size (by sl_kernel_rfl) y

def leftB_20 (c : Dev nD) (t : Fin cfg0.N) (h0 : ¬t.val % 8 = 0) (xs : Vec F S520x1024 .f32) : Vec F S1x512x512 .bf16 :=
  VO0_20.read (Elt F) (VO0_20.writes (Elt F) VO0_20.junk (runB m c t h0 xs).2.2.2.2.2.2.2.1)
theorem covB_21 (c : Dev nD) (t : Fin cfg0.N) (h0 : ¬t.val % 8 = 0) (xs : Vec F S520x1024 .f32) (y : S1x512x1024.Idx) :
    ∃ pc ∈ (runB m c t h0 xs).2.2.2.2.2.2.2.2.1, y ∈ pc.1.set :=
  View.cover_of_tiledL (runB m c t h0 xs).2.2.2.2.2.2.2.2.1 S1x512x256.size (by sl_kernel_rfl) y

def leftB_21 (c : Dev nD) (t : Fin cfg0.N) (h0 : ¬t.val % 8 = 0) (xs : Vec F S520x1024 .f32) : Vec F S1x512x1024 .bf16 :=
  VO0_21.read (Elt F) (VO0_21.writes (Elt F) VO0_21.junk (runB m c t h0 xs).2.2.2.2.2.2.2.2.1)
theorem covB_22 (c : Dev nD) (t : Fin cfg0.N) (h0 : ¬t.val % 8 = 0) (xs : Vec F S520x1024 .f32) (y : S1x512x1024.Idx) :
    ∃ pc ∈ (runB m c t h0 xs).2.2.2.2.2.2.2.2.2.1, y ∈ pc.1.set :=
  View.cover_of_tiledL (runB m c t h0 xs).2.2.2.2.2.2.2.2.2.1 S1x512x256.size (by sl_kernel_rfl) y

def leftB_22 (c : Dev nD) (t : Fin cfg0.N) (h0 : ¬t.val % 8 = 0) (xs : Vec F S520x1024 .f32) : Vec F S1x512x1024 .bf16 :=
  VO0_22.read (Elt F) (VO0_22.writes (Elt F) VO0_22.junk (runB m c t h0 xs).2.2.2.2.2.2.2.2.2.1)
theorem covB_23 (c : Dev nD) (t : Fin cfg0.N) (h0 : ¬t.val % 8 = 0) (xs : Vec F S520x1024 .f32) (y : S1x2x8x256.Idx) :
    ∃ pc ∈ (runB m c t h0 xs).2.2.2.2.2.2.2.2.2.2.1, y ∈ pc.1.set :=
  View.cover_of_tiledL (runB m c t h0 xs).2.2.2.2.2.2.2.2.2.2.1 S1x1x8x256.size (by sl_kernel_rfl) y

def leftB_23 (c : Dev nD) (t : Fin cfg0.N) (h0 : ¬t.val % 8 = 0) (xs : Vec F S520x1024 .f32) : Vec F S1x2x8x256 .f32 :=
  VO0_23.read (Elt F) (VO0_23.writes (Elt F) VO0_23.junk (runB m c t h0 xs).2.2.2.2.2.2.2.2.2.2.1)
theorem covB_24 (c : Dev nD) (t : Fin cfg0.N) (h0 : ¬t.val % 8 = 0) (xs : Vec F S520x1024 .f32) (y : S1x512x8.Idx) :
    ∃ pc ∈ (runB m c t h0 xs).2.2.2.2.2.2.2.2.2.2.2.1, y ∈ pc.1.set :=
  View.cover_of_tiledL (runB m c t h0 xs).2.2.2.2.2.2.2.2.2.2.2.1 S1x256x8.size (by sl_kernel_rfl) y

def leftB_24 (c : Dev nD) (t : Fin cfg0.N) (h0 : ¬t.val % 8 = 0) (xs : Vec F S520x1024 .f32) : Vec F S1x512x8 .f32 :=
  VO0_24.read (Elt F) (VO0_24.writes (Elt F) VO0_24.junk (runB m c t h0 xs).2.2.2.2.2.2.2.2.2.2.2.1)
theorem covB_s (c : Dev nD) (t : Fin cfg0.N) (h0 : ¬t.val % 8 = 0) (xs : Vec F S520x1024 .f32) (y : S520x1024.Idx) :
    ∃ pc ∈ (runB m c t h0 xs).2.2.2.2.2.2.2.2.2.2.2.2.1, y ∈ pc.1.set :=
  View.cover_of_tiledBy (runB m c t h0 xs).2.2.2.2.2.2.2.2.2.2.2.2.1 ![8, 256] (by sl_kernel_rfl) y

def leftB_s (c : Dev nD) (t : Fin cfg0.N) (h0 : ¬t.val % 8 = 0) (xs : Vec F S520x1024 .f32) : Vec F S520x1024 .f32 :=
  VS0_1.read (Elt F) (VS0_1.writes (Elt F) VS0_1.junk (runB m c t h0 xs).2.2.2.2.2.2.2.2.2.2.2.2.1)
/-- All that such a point leaves. -/
def allB (c : Dev nD) (t : Fin cfg0.N) (h0 : ¬t.val % 8 = 0) (xs : Vec F S520x1024 .f32) : Vec F S1x512x512 .bf16 × Vec F S1x512x512 .bf16 × Vec F S1x1x2x512 .f32 × Vec F S1x2x640x256 .bf16 × Vec F S1x2x512x256 .bf16 × Vec F S1x512x512 .bf16 × Vec F S1x512x512 .bf16 × Vec F S1x512x512 .bf16 × Vec F S1x512x1024 .bf16 × Vec F S1x512x1024 .bf16 × Vec F S1x2x8x256 .f32 × Vec F S1x512x8 .f32 × Vec F S520x1024 .f32 :=
  (leftB_13 m c t h0 xs, leftB_14 m c t h0 xs, leftB_15 m c t h0 xs, leftB_16 m c t h0 xs, leftB_17 m c t h0 xs, leftB_18 m c t h0 xs, leftB_19 m c t h0 xs, leftB_20 m c t h0 xs, leftB_21 m c t h0 xs, leftB_22 m c t h0 xs, leftB_23 m c t h0 xs, leftB_24 m c t h0 xs, leftB_s m c t h0 xs)

/-- What each point leaves, point by point: a later point of a sequence runs over the scratch of the point before. -/
def leaves (c : Dev nD) : (n : ℕ) → n < cfg0.N → Vec F S1x512x512 .bf16 × Vec F S1x512x512 .bf16 × Vec F S1x1x2x512 .f32 × Vec F S1x2x640x256 .bf16 × Vec F S1x2x512x256 .bf16 × Vec F S1x512x512 .bf16 × Vec F S1x512x512 .bf16 × Vec F S1x512x512 .bf16 × Vec F S1x512x1024 .bf16 × Vec F S1x512x1024 .bf16 × Vec F S1x2x8x256 .f32 × Vec F S1x512x8 .f32 × Vec F S520x1024 .f32
  | 0, hn => allA m c ⟨0, hn⟩ (Nat.zero_mod _)
  | n + 1, hn =>
    if h0 : (n + 1) % 8 = 0 then allA m c ⟨n + 1, hn⟩ h0
    else allB m c ⟨n + 1, hn⟩ h0 (leaves c n (Nat.lt_of_succ_lt hn)).2.2.2.2.2.2.2.2.2.2.2.2

theorem leaves_A (c : Dev nD) (t : Fin cfg0.N) (h0 : t.val % 8 = 0) :
    leaves m c t.val t.isLt = allA m c t h0 := by
  obtain ⟨n, hn⟩ := t
  cases n with
  | zero => exact rfl
  | succ n => exact dif_pos h0

theorem leaves_B (c : Dev nD) (t : Fin cfg0.N) (h0 : ¬t.val % 8 = 0) :
    leaves m c t.val t.isLt
      = allB m c t h0 (leaves m c (t.val - 1) (Nat.lt_of_le_of_lt (Nat.sub_le _ _) t.isLt)).2.2.2.2.2.2.2.2.2.2.2.2 := by
  obtain ⟨n, hn⟩ := t
  cases n with
  | zero => exact absurd (Nat.zero_mod _) h0
  | succ n => exact dif_neg h0

end Cert.MixRun

end
-- ==== Proof.MixBody.lean ====
/- The body of the input projection at every grid point, between what the region holds before the point and after it. -/
module

public import proofs.«01_k».proof.Proof.MixPoint

@[expose] public section

set_option maxRecDepth 16384

noncomputable section

namespace Cert.MixRun

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((leaves m c n hn).2.2.2.2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((leaves m c n hn).2.2.2.2.2.2.2.2.2.2.2.2)) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((leaves m c (n - 1) (by omega)).2.2.2.2.2.2.2.2.2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (leaves m c t.val t.isLt).1
    | ⟨14, _⟩ => (leaves m c t.val t.isLt).2.1
    | ⟨15, _⟩ => (leaves m c t.val t.isLt).2.2.1
    | ⟨16, _⟩ => (leaves m c t.val t.isLt).2.2.2.1
    | ⟨17, _⟩ => (leaves m c t.val t.isLt).2.2.2.2.1
    | ⟨18, _⟩ => (leaves m c t.val t.isLt).2.2.2.2.2.1
    | ⟨19, _⟩ => (leaves m c t.val t.isLt).2.2.2.2.2.2.1
    | ⟨20, _⟩ => (leaves m c t.val t.isLt).2.2.2.2.2.2.2.1
    | ⟨21, _⟩ => (leaves m c t.val t.isLt).2.2.2.2.2.2.2.2.1
    | ⟨22, _⟩ => (leaves m c t.val t.isLt).2.2.2.2.2.2.2.2.2.1
    | ⟨23, _⟩ => (leaves m c t.val t.isLt).2.2.2.2.2.2.2.2.2.2.1
    | ⟨24, _⟩ => (leaves m c t.val t.isLt).2.2.2.2.2.2.2.2.2.2.2.1
    | ⟨_ + 25, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (leaves m c t.val t.isLt).1 := by dsimp only [dats]
theorem after0_14 (c : Dev nD) (t : Fin cfg0.N) : (dats m 0 c).after 14 t = (leaves m c t.val t.isLt).2.1 := by dsimp only [dats]
theorem after0_15 (c : Dev nD) (t : Fin cfg0.N) : (dats m 0 c).after 15 t = (leaves m c t.val t.isLt).2.2.1 := by dsimp only [dats]
theorem after0_16 (c : Dev nD) (t : Fin cfg0.N) : (dats m 0 c).after 16 t = (leaves m c t.val t.isLt).2.2.2.1 := by dsimp only [dats]
theorem after0_17 (c : Dev nD) (t : Fin cfg0.N) : (dats m 0 c).after 17 t = (leaves m c t.val t.isLt).2.2.2.2.1 := by dsimp only [dats]
theorem after0_18 (c : Dev nD) (t : Fin cfg0.N) : (dats m 0 c).after 18 t = (leaves m c t.val t.isLt).2.2.2.2.2.1 := by dsimp only [dats]
theorem after0_19 (c : Dev nD) (t : Fin cfg0.N) : (dats m 0 c).after 19 t = (leaves m c t.val t.isLt).2.2.2.2.2.2.1 := by dsimp only [dats]
theorem after0_20 (c : Dev nD) (t : Fin cfg0.N) : (dats m 0 c).after 20 t = (leaves m c t.val t.isLt).2.2.2.2.2.2.2.1 := by dsimp only [dats]
theorem after0_21 (c : Dev nD) (t : Fin cfg0.N) : (dats m 0 c).after 21 t = (leaves m c t.val t.isLt).2.2.2.2.2.2.2.2.1 := by dsimp only [dats]
theorem after0_22 (c : Dev nD) (t : Fin cfg0.N) : (dats m 0 c).after 22 t = (leaves m c t.val t.isLt).2.2.2.2.2.2.2.2.2.1 := by dsimp only [dats]
theorem after0_23 (c : Dev nD) (t : Fin cfg0.N) : (dats m 0 c).after 23 t = (leaves m c t.val t.isLt).2.2.2.2.2.2.2.2.2.2.1 := by dsimp only [dats]
theorem after0_24 (c : Dev nD) (t : Fin cfg0.N) : (dats m 0 c).after 24 t = (leaves m c t.val t.isLt).2.2.2.2.2.2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t))

set_option maxHeartbeats 19200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases hz : t.val = 0
    · rw [PhiS_castSucc m c t, PhiS_zero m c _ _ hz, PhiA0_eq]
      rw [leaves_A m c t h0]
      unfold allA leftA_13 leftA_14 leftA_15 leftA_16 leftA_17 leftA_18 leftA_19 leftA_20 leftA_21 leftA_22 leftA_23 leftA_24 leftA_s; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
      iapply ((runA m c t h0).2.2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [HS0]; · iexact HS0
      isplitl [HS1]; · iexact HS1
      iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%fT0, HS0⟩, ⟨%es1, HS1⟩⟩
      isplitl [HS0 HS1 Hg]
      · isplitl [HS0 HS1]
        · isplitl [HS0]
          · iexists _; unfold owns; iexists _; isplitr
            swap; · iexact HS0
            ipureintro; rfl
          unfold owns; iexists _; isplitr
          swap; · iexact HS1
          ipureintro; exact View.read_writes_of_cover _ _ _ _ _ (covA_s m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (covA_13 m c t h0)
      isplitl [H14]
      · unfold owns; iexists _; isplitr
        swap; · iexact H14
        ipureintro; exact View.read_writes_of_cover _ _ _ _ _ (covA_14 m c t h0)
      isplitl [H15]
      · unfold owns; iexists _; isplitr
        swap; · iexact H15
        ipureintro; exact View.read_writes_of_cover _ _ _ _ _ (covA_15 m c t h0)
      isplitl [H16]
      · unfold owns; iexists _; isplitr
        swap; · iexact H16
        ipureintro; exact View.read_writes_of_cover _ _ _ _ _ (covA_16 m c t h0)
      isplitl [H17]
      · unfold owns; iexists _; isplitr
        swap; · iexact H17
        ipureintro; exact View.read_writes_of_cover _ _ _ _ _ (covA_17 m c t h0)
      isplitl [H18]
      · unfold owns; iexists _; isplitr
        swap; · iexact H18
        ipureintro; exact View.read_writes_of_cover _ _ _ _ _ (covA_18 m c t h0)
      isplitl [H19]
      · unfold owns; iexists _; isplitr
        swap; · iexact H19
        ipureintro; exact View.read_writes_of_cover _ _ _ _ _ (covA_19 m c t h0)
      isplitl [H20]
      · unfold owns; iexists _; isplitr
        swap; · iexact H20
        ipureintro; exact View.read_writes_of_cover _ _ _ _ _ (covA_20 m c t h0)
      isplitl [H21]
      · unfold owns; iexists _; isplitr
        swap; · iexact H21
        ipureintro; exact View.read_writes_of_cover _ _ _ _ _ (covA_21 m c t h0)
      isplitl [H22]
      · unfold owns; iexists _; isplitr
        swap; · iexact H22
        ipureintro; exact View.read_writes_of_cover _ _ _ _ _ (covA_22 m c t h0)
      isplitl [H23]
      · unfold owns; iexists _; isplitr
        swap; · iexact H23
        ipureintro; exact View.read_writes_of_cover _ _ _ _ _ (covA_23 m c t h0)
      unfold owns; iexists _; isplitr
      swap; · iexact H24
      ipureintro; exact View.read_writes_of_cover _ _ _ _ _ (covA_24 m c t h0)
    · rw [PhiS_castSucc m c t, PhiS_pos m c _ _ hz]
      rw [leaves_A m c t h0]
      unfold allA leftA_13 leftA_14 leftA_15 leftA_16 leftA_17 leftA_18 leftA_19 leftA_20 leftA_21 leftA_22 leftA_23 leftA_24 leftA_s; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
      iapply ((runA m c t h0).2.2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [HS0]; · iexact HS0
      isplitl [HS1]; · iexists _; iexact HS1
      iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%fT0, HS0⟩, ⟨%es1, HS1⟩⟩
      isplitl [HS0 HS1 Hg]
      · isplitl [HS0 HS1]
        · isplitl [HS0]
          · iexists _; unfold owns; iexists _; isplitr
            swap; · iexact HS0
            ipureintro; rfl
          unfold owns; iexists _; isplitr
          swap; · iexact HS1
          ipureintro; exact View.read_writes_of_cover _ _ _ _ _ (covA_s m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (covA_13 m c t h0)
      isplitl [H14]
      · unfold owns; iexists _; isplitr
        swap; · iexact H14
        ipureintro; exact View.read_writes_of_cover _ _ _ _ _ (covA_14 m c t h0)
      isplitl [H15]
      · unfold owns; iexists _; isplitr
        swap; · iexact H15
        ipureintro; exact View.read_writes_of_cover _ _ _ _ _ (covA_15 m c t h0)
      isplitl [H16]
      · unfold owns; iexists _; isplitr
        swap; · iexact H16
        ipureintro; exact View.read_writes_of_cover _ _ _ _ _ (covA_16 m c t h0)
      isplitl [H17]
      · unfold owns; iexists _; isplitr
        swap; · iexact H17
        ipureintro; exact View.read_writes_of_cover _ _ _ _ _ (covA_17 m c t h0)
      isplitl [H18]
      · unfold owns; iexists _; isplitr
        swap; · iexact H18
        ipureintro; exact View.read_writes_of_cover _ _ _ _ _ (covA_18 m c t h0)
      isplitl [H19]
      · unfold owns; iexists _; isplitr
        swap; · iexact H19
        ipureintro; exact View.read_writes_of_cover _ _ _ _ _ (covA_19 m c t h0)
      isplitl [H20]
      · unfold owns; iexists _; isplitr
        swap; · iexact H20
        ipureintro; exact View.read_writes_of_cover _ _ _ _ _ (covA_20 m c t h0)
      isplitl [H21]
      · unfold owns; iexists _; isplitr
        swap; · iexact H21
        ipureintro; exact View.read_writes_of_cover _ _ _ _ _ (covA_21 m c t h0)
      isplitl [H22]
      · unfold owns; iexists _; isplitr
        swap; · iexact H22
        ipureintro; exact View.read_writes_of_cover _ _ _ _ _ (covA_22 m c t h0)
      isplitl [H23]
      · unfold owns; iexists _; isplitr
        swap; · iexact H23
        ipureintro; exact View.read_writes_of_cover _ _ _ _ _ (covA_23 m c t h0)
      unfold owns; iexists _; isplitr
      swap; · iexact H24
      ipureintro; exact View.read_writes_of_cover _ _ _ _ _ (covA_24 m c t h0)
  · by_cases hz : t.val = 0
    · exfalso; have hN : t.val < 64 := lt_of_lt_of_eq t.isLt (show cfg0.N = 64 from N_0); omega
    · rw [PhiS_castSucc m c t, PhiS_pos m c _ _ hz]
      rw [leaves_B m c t h0]
      unfold allB leftB_13 leftB_14 leftB_15 leftB_16 leftB_17 leftB_18 leftB_19 leftB_20 leftB_21 leftB_22 leftB_23 leftB_24 leftB_s; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
      iapply ((runB m c t h0 _).2.2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [HS0]; · iexact HS0
      isplitl [HS1]; · iexact HS1
      iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%fT0, HS0⟩, ⟨%es1, HS1⟩⟩
      isplitl [HS0 HS1 Hg]
      · isplitl [HS0 HS1]
        · isplitl [HS0]
          · iexists _; unfold owns; iexists _; isplitr
            swap; · iexact HS0
            ipureintro; rfl
          unfold owns; iexists _; isplitr
          swap; · iexact HS1
          ipureintro; exact View.read_writes_of_cover _ _ _ _ _ (covB_s m c t h0 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (covB_13 m c t h0 _)
      isplitl [H14]
      · unfold owns; iexists _; isplitr
        swap; · iexact H14
        ipureintro; exact View.read_writes_of_cover _ _ _ _ _ (covB_14 m c t h0 _)
      isplitl [H15]
      · unfold owns; iexists _; isplitr
        swap; · iexact H15
        ipureintro; exact View.read_writes_of_cover _ _ _ _ _ (covB_15 m c t h0 _)
      isplitl [H16]
      · unfold owns; iexists _; isplitr
        swap; · iexact H16
        ipureintro; exact View.read_writes_of_cover _ _ _ _ _ (covB_16 m c t h0 _)
      isplitl [H17]
      · unfold owns; iexists _; isplitr
        swap; · iexact H17
        ipureintro; exact View.read_writes_of_cover _ _ _ _ _ (covB_17 m c t h0 _)
      isplitl [H18]
      · unfold owns; iexists _; isplitr
        swap; · iexact H18
        ipureintro; exact View.read_writes_of_cover _ _ _ _ _ (covB_18 m c t h0 _)
      isplitl [H19]
      · unfold owns; iexists _; isplitr
        swap; · iexact H19
        ipureintro; exact View.read_writes_of_cover _ _ _ _ _ (covB_19 m c t h0 _)
      isplitl [H20]
      · unfold owns; iexists _; isplitr
        swap; · iexact H20
        ipureintro; exact View.read_writes_of_cover _ _ _ _ _ (covB_20 m c t h0 _)
      isplitl [H21]
      · unfold owns; iexists _; isplitr
        swap; · iexact H21
        ipureintro; exact View.read_writes_of_cover _ _ _ _ _ (covB_21 m c t h0 _)
      isplitl [H22]
      · unfold owns; iexists _; isplitr
        swap; · iexact H22
        ipureintro; exact View.read_writes_of_cover _ _ _ _ _ (covB_22 m c t h0 _)
      isplitl [H23]
      · unfold owns; iexists _; isplitr
        swap; · iexact H23
        ipureintro; exact View.read_writes_of_cover _ _ _ _ _ (covB_23 m c t h0 _)
      unfold owns; iexists _; isplitr
      swap; · iexact H24
      ipureintro; exact View.read_writes_of_cover _ _ _ _ _ (covB_24 m c t h0 _)

end Cert.MixRun

end
-- ==== Proof.MixSpec.lean ====
/- One token's entries of the input projection's results, as functions of the token's row, of the rows before it
   and of the weights. Both programs are read against them. -/
module

public import proofs.«01_k».proof.Proof.MergeSpec

@[expose] public section

noncomputable section

namespace Cert.MixRow

open Idealize.ShloMosaic
open scoped BigOperators

/-- Column `n` of the normalised row's product with the input weights. -/
def proj (x g : Fin 1024 → EReal) (w : Fin 1024 → Fin 5640 → EReal) (n : Fin 5640) : EReal :=
  ∑ k : Fin 1024, Row.rms x g k * w k n

/-- The angle of position `s` at rate `j`. -/
def angle (s : Fin 4096) (j : Fin 32) : EReal :=
  FloatOps.sitofp (F := Ideal) FTy.f32 (BitVec.ofNat 32 s.val) *
    Ideal.pow (Ideal.ofBits FTy.f32 0x461C4000#32)
      (Ideal.div (-FloatOps.sitofp (F := Ideal) FTy.f32 (BitVec.ofNat 32 j.val)) (Ideal.ofBits FTy.f32 0x42000000#32))

/-- Heads of 64 entries, each rotated: entries `j` and `j + 32` by the angle at rate `j`. -/
def rope (z : Fin 512 → EReal) (s : Fin 4096) (n : Fin 512) : EReal :=
  if h : n.val % 64 < 32 then
    z n * Ideal.cos (angle s ⟨n.val % 64, h⟩) - z ⟨n.val / 64 * 64 + (32 + n.val % 64), by omega⟩ * Ideal.sin (angle s ⟨n.val % 64, h⟩)
  else
    z ⟨n.val / 64 * 64 + (32 + (n.val % 64 - 32)), by omega⟩ * Ideal.cos (angle s ⟨n.val % 64 - 32, by omega⟩)
      + z ⟨n.val / 64 * 64 + (n.val % 64 - 32), by omega⟩ * Ideal.sin (angle s ⟨n.val % 64 - 32, by omega⟩)

/-- A column of a sequence with three zeros before it. -/
def padded (z : Fin 4096 → EReal) (i : ℕ) : EReal :=
  if h : 3 ≤ i ∧ i - 3 < 4096 then z ⟨i - 3, h.2⟩ else 0

/-- The causal convolution of width four at position `s` of a column. -/
def conv (z : Fin 4096 → EReal) (w : Fin 4 → EReal) (s : ℕ) : EReal :=
  padded z s * w 0 + padded z (1 + s) * w 1 + padded z (2 + s) * w 2 + padded z (3 + s) * w 3

/-- A value times its own logistic. -/
def silu (y : EReal) : EReal := y * Ideal.logistic y

/-- The logarithm of the logistic, as a minimum with zero less a small correction. -/
def logSig (y : EReal) : EReal :=
  min y 0 - Ideal.log (1 + Ideal.exp (0 - FloatOps.absf (F := Ideal) (φ := .f32) y))

/-- The sum of a block of 256 entries up to and with entry `j`. -/
def cum (p : Fin 256 → EReal) (j : Fin 256) : EReal := ∑ x : Fin 256, if x.val ≤ j.val then p x else 0

section
variable (x : Fin 8 → Fin 4096 → Fin 1024 → EReal) (g : Fin 1024 → EReal) (w : Fin 1024 → Fin 5640 → EReal)
  (cw : Fin 4 → Fin 1024 → EReal) (bi bf : Fin 4 → EReal)

def z (b : Fin 8) (s : Fin 4096) (n : Fin 5640) : EReal := proj (x b s) g w n

def ka (b : Fin 8) (s : Fin 4096) (n : Fin 512) : EReal := rope (fun n => z x g w b s ⟨512 + n.val, by omega⟩) s n

def qa (b : Fin 8) (s : Fin 4096) (n : Fin 512) : EReal :=
  rope (fun n => z x g w b s ⟨n.val, by omega⟩) s n * Ideal.ofBits .f32 0x3E38AA3B#32

def kmean (b : Fin 8) (t : Fin 8) (h : Fin 2) (n : Fin 512) : EReal :=
  Ideal.div (∑ r : Fin 256, ka x g w b ⟨t.val * 512 + h.val * 256 + r.val, by omega⟩ n) (Ideal.ofBits .f32 0x43800000#32)

def vat (b : Fin 8) (c : Fin 16) (i : Fin 640) (j : Fin 256) : EReal :=
  if i.val % 80 < 64 then z x g w b ⟨c.val * 256 + j.val, by omega⟩ ⟨1024 + (i.val / 80 * 64 + i.val % 80 % 64), by omega⟩
  else if i.val % 80 < 65 then 1 else 0

def vbt (b : Fin 8) (c : Fin 16) (i : Fin 512) (j : Fin 256) : EReal :=
  z x g w b ⟨c.val * 256 + j.val, by omega⟩ ⟨2560 + i.val, by omega⟩

def act (b : Fin 8) (s : Fin 4096) (n : Fin 1024) : EReal :=
  silu (conv (fun s => z x g w b s ⟨1536 + n.val, by omega⟩) (fun j => cw j n) s.val)

def qb (b : Fin 8) (s : Fin 4096) (n : Fin 512) : EReal := act x g w cw b s ⟨n.val, by omega⟩

def kb (b : Fin 8) (s : Fin 4096) (n : Fin 512) : EReal :=
  act x g w cw b s ⟨512 + n.val, by omega⟩ * Ideal.ofBits .f32 0x3DB504F3#32

def ob (b : Fin 8) (s : Fin 4096) (n : Fin 512) : EReal := z x g w b s ⟨3072 + n.val, by omega⟩

def ga (b : Fin 8) (s : Fin 4096) (n : Fin 1024) : EReal := z x g w b s ⟨3592 + n.val, by omega⟩

def gb (b : Fin 8) (s : Fin 4096) (n : Fin 1024) : EReal := z x g w b s ⟨4616 + n.val, by omega⟩

/-- The recurrence's gates: the running sum of the forget gate's logarithms over a block of 256, then the input gate. -/
def gate (b : Fin 8) (c : Fin 16) (j : Fin 256) (n : Fin 8) : EReal :=
  if h : n.val < 4 then
    cum (fun r => logSig (z x g w b ⟨c.val * 256 + r.val, by omega⟩ ⟨3588 + n.val, by omega⟩ + bf ⟨n.val, h⟩)) j
  else z x g w b ⟨c.val * 256 + j.val, by omega⟩ ⟨3584 + (n.val - 4), by omega⟩ + bi ⟨n.val - 4, by omega⟩
end

end Cert.MixRow

end
-- ==== Proof.MixHost.lean ====
/- The arrays the projection's host code prepares: slices of the weights, and the table of rotations. -/
module

public import proofs.«01_k».proof.Proof.MixBody
public import proofs.«01_k».proof.Proof.MixSpec
public import Idealize.ShloMosaic.Lib.Pipeline.ValueKit
public import Idealize.ShloMosaic.Lib.Pointwise
public import Idealize.ShloMosaic.Lib.VecWindow
public import Idealize.ShloMosaic.Lib.StableHlo.RunRead
public import Idealize.ShloMosaic.Lib.Claim

@[expose] public section
set_option maxRecDepth 16384
noncomputable section
namespace Cert.MixIdeal.Host
open Cert.MixIdeal Cert.MixIdeal.Gen Idealize.ShloMosaic Idealize.ShloMosaic.TcCoe Idealize.ShloMosaic.Tactic Idealize.SL.Sem
open Idealize.ShloMosaic.Pipeline (Dat)
variable (m : (ℓ : Loc nD τ sig) → Buf (Elt Ideal) ℓ)

/-! The contents after each stretch of the host code, and what each stretch writes. -/

abbrev S0 (c : Dev nD) : Valuation τ sig (Elt Ideal) := StableHlo.after hostOps0 fun b => m (c, b)
abbrev S1 (c : Dev nD) : Valuation τ sig (Elt Ideal) := StableHlo.after hostOps0_1 (S0 m c)
abbrev S2 (c : Dev nD) : Valuation τ sig (Elt Ideal) := StableHlo.after hostOps0_2 (S1 m c)
abbrev S3 (c : Dev nD) : Valuation τ sig (Elt Ideal) := StableHlo.after hostOps0_3 (S2 m c)
abbrev S4 (c : Dev nD) : Valuation τ sig (Elt Ideal) := StableHlo.after hostOps0_4 (S3 m c)
abbrev S5 (c : Dev nD) : Valuation τ sig (Elt Ideal) := StableHlo.after hostOps0_5 (S4 m c)

abbrev W1 : List (Ref sig .tc) := [main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v42]

abbrev W2 : List (Ref sig .tc) := [main_c_1, main_v43, main_v44, main_v45, main_v46, main_v47, main_cst_2]

abbrev W3 : List (Ref sig .tc) := [main_call1_v0, main_call1_v1, main_call1_v2, main_v48]

abbrev W4 : List (Ref sig .tc) := [main_cst_3]

abbrev W5 : List (Ref sig .tc) := [main_call2_v0, main_call2_v1, main_call2_v2, main_v49]

abbrev W6 : List (Ref sig .tc) := [main_cst_4, main_v50, main_v51, main_cst_5, main_v52, main_v53, main_cst_6, main_v54, main_v55, main_v56, main_v57]

theorem stretches (c : Dev nD) (r : Ref sig .tc) : V m c r = StableHlo.after hostOps0_6 (S5 m c) (Proc.devRef .tc r) := by
  have e : V m c r = StableHlo.after (hostOps0 ++ (hostOps0_1 ++ (hostOps0_2 ++ (hostOps0_3 ++ (hostOps0_4 ++ (hostOps0_5 ++ hostOps0_6)))))) (fun b => m (c, b)) (Proc.devRef .tc r) := rfl
  rw [e]
  simp only [StableHlo.after_append]

theorem keep1 (σ : Valuation τ sig (Elt Ideal)) (r : Ref sig .tc) (h : r ∉ W1) :
    StableHlo.after hostOps0_1 σ (Proc.devRef .tc r) = σ (Proc.devRef .tc r) := StableHlo.after_unwritten W1 rfl h σ

theorem keep2 (σ : Valuation τ sig (Elt Ideal)) (r : Ref sig .tc) (h : r ∉ W2) :
    StableHlo.after hostOps0_2 σ (Proc.devRef .tc r) = σ (Proc.devRef .tc r) := StableHlo.after_unwritten W2 rfl h σ

theorem keep3 (σ : Valuation τ sig (Elt Ideal)) (r : Ref sig .tc) (h : r ∉ W3) :
    StableHlo.after hostOps0_3 σ (Proc.devRef .tc r) = σ (Proc.devRef .tc r) := StableHlo.after_unwritten W3 rfl h σ

theorem keep4 (σ : Valuation τ sig (Elt Ideal)) (r : Ref sig .tc) (h : r ∉ W4) :
    StableHlo.after hostOps0_4 σ (Proc.devRef .tc r) = σ (Proc.devRef .tc r) := StableHlo.after_unwritten W4 rfl h σ

theorem keep5 (σ : Valuation τ sig (Elt Ideal)) (r : Ref sig .tc) (h : r ∉ W5) :
    StableHlo.after hostOps0_5 σ (Proc.devRef .tc r) = σ (Proc.devRef .tc r) := StableHlo.after_unwritten W5 rfl h σ

theorem keep6 (σ : Valuation τ sig (Elt Ideal)) (r : Ref sig .tc) (h : r ∉ W6) :
    StableHlo.after hostOps0_6 σ (Proc.devRef .tc r) = σ (Proc.devRef .tc r) := StableHlo.after_unwritten W6 rfl h σ

/-- What the first stretch writes stays. -/
theorem peel (c : Dev nD) (r : Ref sig .tc) (h1 : r ∉ W1) (h2 : r ∉ W2) (h3 : r ∉ W3) (h4 : r ∉ W4) (h5 : r ∉ W5) (h6 : r ∉ W6) :
    V m c r = S0 m c (Proc.devRef .tc r) := by
  rw [stretches]
  exact (keep6 _ r h6).trans ((keep5 _ r h5).trans ((keep4 _ r h4).trans ((keep3 _ r h3).trans ((keep2 _ r h2).trans (keep1 _ r h1)))))

theorem v2 (c : Dev nD) (a : Fin 1024) (n : Fin 1024) : (V m c main_v2 : FVec Ideal S1024x1024 .bf16) (ix2 a n) = (m ((c : Thread nD τ).loc main_arg2) : FVec Ideal S1x1024x5640 .f32) (ix3 0 a ⟨n.val, by omega⟩) := by
  rw [show V m c main_v2 = S0 m c main_v2 from peel m c main_v2 (by decide) (by decide) (by decide) (by decide) (by decide) (by decide)]
  unfold S0
  entry_read
  pointwise

theorem v4 (c : Dev nD) (a : Fin 1024) (n : Fin 1024) : (V m c main_v4 : FVec Ideal S1024x1024 .bf16) (ix2 a n) = (m ((c : Thread nD τ).loc main_arg2) : FVec Ideal S1x1024x5640 .f32) (ix3 0 a ⟨1536 + n.val, by omega⟩) := by
  rw [show V m c main_v4 = S0 m c main_v4 from peel m c main_v4 (by decide) (by decide) (by decide) (by decide) (by decide) (by decide)]
  unfold S0
  entry_read
  pointwise

theorem v6 (c : Dev nD) (a : Fin 1024) (n : Fin 512) : (V m c main_v6 : FVec Ideal S1024x512 .bf16) (ix2 a n) = (m ((c : Thread nD τ).loc main_arg2) : FVec Ideal S1x1024x5640 .f32) (ix3 0 a ⟨3072 + n.val, by omega⟩) := by
  rw [show V m c main_v6 = S0 m c main_v6 from peel m c main_v6 (by decide) (by decide) (by decide) (by decide) (by decide) (by decide)]
  unfold S0
  entry_read
  pointwise

theorem v8 (c : Dev nD) (a : Fin 1024) (n : Fin 2048) : (V m c main_v8 : FVec Ideal S1024x2048 .bf16) (ix2 a n) = (m ((c : Thread nD τ).loc main_arg2) : FVec Ideal S1x1024x5640 .f32) (ix3 0 a ⟨3592 + n.val, by omega⟩) := by
  rw [show V m c main_v8 = S0 m c main_v8 from peel m c main_v8 (by decide) (by decide) (by decide) (by decide) (by decide) (by decide)]
  unfold S0
  entry_read
  pointwise

theorem f_lt (n : Fin 8) (h : n.val < 4) : 3588 + n.val < 5640 := by omega
theorem i_lt (n : Fin 8) : 3584 + (n.val - 4) < 5640 := by omega
theorem a_lt (n : Fin 1024) (h : n.val < 512) : 1024 + n.val < 5640 := by omega
theorem b_lt (n : Fin 1024) : 2560 + (n.val - 512) < 5640 := by omega
theorem q_lt (n : Fin 8) : n.val - 4 < 4 := by omega

theorem v12 (c : Dev nD) (a : Fin 1024) (n : Fin 8) : (V m c main_v12 : FVec Ideal S1024x8 .bf16) (ix2 a n) = if h : n.val < 4 then (m ((c : Thread nD τ).loc main_arg2) : FVec Ideal S1x1024x5640 .f32) (ix3 0 a ⟨3588 + n.val, f_lt n h⟩) else (m ((c : Thread nD τ).loc main_arg2) : FVec Ideal S1x1024x5640 .f32) (ix3 0 a ⟨3584 + (n.val - 4), i_lt n⟩) := by
  rw [show V m c main_v12 = S0 m c main_v12 from peel m c main_v12 (by decide) (by decide) (by decide) (by decide) (by decide) (by decide)]
  unfold S0
  entry_read
  pointwise

theorem v14 (c : Dev nD) (a : Fin 8) (n : Fin 1024) : (V m c main_v14 : FVec Ideal S8x1024 .bf16) (ix2 a n) = if h : a.val < 4 then (m ((c : Thread nD τ).loc main_arg2) : FVec Ideal S1x1024x5640 .f32) (ix3 0 n ⟨3588 + a.val, f_lt a h⟩) else (m ((c : Thread nD τ).loc main_arg2) : FVec Ideal S1x1024x5640 .f32) (ix3 0 n ⟨3584 + (a.val - 4), i_lt a⟩) := by
  rw [show V m c main_v14 = S0 m c main_v14 from peel m c main_v14 (by decide) (by decide) (by decide) (by decide) (by decide) (by decide)]
  unfold S0
  entry_read
  pointwise

theorem v19 (c : Dev nD) (a : Fin 1024) (n : Fin 1024) : (V m c main_v19 : FVec Ideal S1024x1024 .bf16) (ix2 a n) = if h : a.val < 512 then (m ((c : Thread nD τ).loc main_arg2) : FVec Ideal S1x1024x5640 .f32) (ix3 0 n ⟨1024 + a.val, a_lt a h⟩) else (m ((c : Thread nD τ).loc main_arg2) : FVec Ideal S1x1024x5640 .f32) (ix3 0 n ⟨2560 + (a.val - 512), b_lt a⟩) := by
  rw [show V m c main_v19 = S0 m c main_v19 from peel m c main_v19 (by decide) (by decide) (by decide) (by decide) (by decide) (by decide)]
  unfold S0
  entry_read
  pointwise

theorem v23 (c : Dev nD) (a : Fin 1) (n : Fin 8) : (V m c main_v23 : FVec Ideal S1x8 .f32) (ix2 a n) = if h : n.val < 4 then (m ((c : Thread nD τ).loc main_arg5) : FVec Ideal S1x4 .f32) (ix2 0 ⟨n.val, h⟩) else (m ((c : Thread nD τ).loc main_arg4) : FVec Ideal S1x4 .f32) (ix2 0 ⟨n.val - 4, q_lt n⟩) := by
  rw [show V m c main_v23 = S0 m c main_v23 from peel m c main_v23 (by decide) (by decide) (by decide) (by decide) (by decide) (by decide)]
  unfold S0
  entry_read
  pointwise

theorem v24 (c : Dev nD) (a : Fin 8) (n : Fin 1) : (V m c main_v24 : FVec Ideal S8x1 .f32) (ix2 a n) = if h : a.val < 4 then (m ((c : Thread nD τ).loc main_arg5) : FVec Ideal S1x4 .f32) (ix2 0 ⟨a.val, h⟩) else (m ((c : Thread nD τ).loc main_arg4) : FVec Ideal S1x4 .f32) (ix2 0 ⟨a.val - 4, q_lt a⟩) := by
  rw [show V m c main_v24 = S0 m c main_v24 from peel m c main_v24 (by decide) (by decide) (by decide) (by decide) (by decide) (by decide)]
  unfold S0
  entry_read
  pointwise

theorem v57 (c : Dev nD) (j : Fin 4) (n : Fin 1024) : (V m c main_v57 : FVec Ideal S4x1024 .f32) (ix2 j n) = (m ((c : Thread nD τ).loc main_arg3) : FVec Ideal S1x4x1024 .f32) (ix3 0 j n) := by
  rw [show V m c main_v57 = StableHlo.after hostOps0_6 (S5 m c) main_v57 from stretches m c _]
  entry_read
  pointwise

/-! The table of rotations: cosines, sines with sign, and both scaled. -/

theorem ang_lt (l : Fin 128) : l.val % 32 < 32 := by omega

/-- Lane `l` is in the first half of its head. -/
def first (l : Fin 128) : BitVec 1 := if l.val % 64 < 32 then 1#1 else 0#1

theorem v40 (c : Dev nD) (s : Fin 4096) (l : Fin 128) : (S0 m c main_v40 : FVec Ideal S4096x128 .f32) (ix2 s l) = MixRow.angle s ⟨l.val % 32, ang_lt l⟩ := by
  unfold S0
  entry_read
  pointwise [MixRow.angle]

theorem v42 (c : Dev nD) (l : Fin 128) : (S1 m c main_v42 : IVec S128 32) (ix1 l) = BitVec.ofNat 32 (l.val % 64) := by
  have e1 : S0 m c main_v41 = (iotaInDim S128 32 0 : IVec S128 32) := by
    unfold S0
    entry_read
    rfl
  have e2 : S0 m c main_c = (constantI S_ 32 64#32 : IVec S_ 32) := by
    unfold S0
    entry_read
    rfl
  show (StableHlo.after hostOps0_1 (S0 m c) main_v42 : IVec S128 32) (ix1 l) = _
  generalize S0 m c = σ at e1 e2
  entry_read
  rw [e1, e2]
  revert l
  decide +kernel

theorem v44 (c : Dev nD) (l : Fin 128) : (S2 m c main_v44 : IVec S128 1) (ix1 l) = first l := by
  show (StableHlo.after hostOps0_2 (S1 m c) main_v44 : IVec S128 1) (ix1 l) = first l
  have e := v42 m c l
  generalize S1 m c = σ at e
  entry_read
  have f : ∀ X : IVec S128 32, X (ix1 l) = BitVec.ofNat 32 (l.val % 64) → cmpi .slt X (broadcastInDim S128 ![] bcast_S_S128 (constantI S_ 32 32#32)) (ix1 l) = first l := by
    intro X h
    show IntOp.cmpi .slt (X (ix1 l)) 32#32 = first l
    rw [h]
    clear h e
    revert l
    decide +kernel
  exact f _ e

theorem v46 (c : Dev nD) (s : Fin 4096) (l : Fin 128) : (S2 m c main_v46 : FVec Ideal S4096x128 .f32) (ix2 s l) = Ideal.sin (MixRow.angle s ⟨l.val % 32, ang_lt l⟩) := by
  rw [← v40 m c s l, ← show S1 m c main_v40 = S0 m c main_v40 from keep1 _ main_v40 (by decide)]
  show (StableHlo.after hostOps0_2 (S1 m c) main_v46 : FVec Ideal S4096x128 .f32) (ix2 s l) = _
  generalize S1 m c = σ
  entry_read
  rfl

theorem v47 (c : Dev nD) (s : Fin 4096) (l : Fin 128) : (S2 m c main_v47 : FVec Ideal S4096x128 .f32) (ix2 s l) = -Ideal.sin (MixRow.angle s ⟨l.val % 32, ang_lt l⟩) := by
  rw [← v40 m c s l, ← show S1 m c main_v40 = S0 m c main_v40 from keep1 _ main_v40 (by decide)]
  show (StableHlo.after hostOps0_2 (S1 m c) main_v47 : FVec Ideal S4096x128 .f32) (ix2 s l) = _
  generalize S1 m c = σ
  entry_read
  rfl

theorem v45 (c : Dev nD) (s : Fin 4096) (l : Fin 128) : (S5 m c main_v45 : FVec Ideal S4096x128 .f32) (ix2 s l) = Ideal.cos (MixRow.angle s ⟨l.val % 32, ang_lt l⟩) := by
  rw [show S5 m c main_v45 = S2 m c main_v45 from (keep5 _ main_v45 (by decide)).trans ((keep4 _ main_v45 (by decide)).trans (keep3 _ main_v45 (by decide)))]
  rw [← v40 m c s l, ← show S1 m c main_v40 = S0 m c main_v40 from keep1 _ main_v40 (by decide)]
  show (StableHlo.after hostOps0_2 (S1 m c) main_v45 : FVec Ideal S4096x128 .f32) (ix2 s l) = _
  generalize S1 m c = σ
  entry_read
  rfl

theorem v48 (c : Dev nD) (s : Fin 4096) (l : Fin 128) : (S5 m c main_v48 : FVec Ideal S4096x128 .f32) (ix2 s l) = Scalar.select (first l) (-Ideal.sin (MixRow.angle s ⟨l.val % 32, ang_lt l⟩)) (Ideal.ofBits .f32 0x00000000#32) := by
  rw [show S5 m c main_v48 = S3 m c main_v48 from (keep5 _ main_v48 (by decide)).trans (keep4 _ main_v48 (by decide))]
  rw [← v44 m c l, ← v47 m c s l]
  have e : S2 m c main_cst_2 = (constant S_ .f32 0x00000000#32 : FVec Ideal S_ .f32) := by
    show StableHlo.after hostOps0_2 (S1 m c) main_cst_2 = _
    generalize S1 m c = σ
    entry_read
    rfl
  show (StableHlo.after hostOps0_3 (S2 m c) main_v48 : FVec Ideal S4096x128 .f32) (ix2 s l) = _
  generalize S2 m c = σ at e
  entry_read
  rw [e]
  change select (broadcastInDim S4096x128 ![1] bcast_S128_S4096x128_1 (σ main_v44 : IVec S128 1)) (σ main_v47 : FVec Ideal S4096x128 .f32) (broadcastInDim S4096x128 ![] bcast_S_S4096x128 (constant S_ .f32 0x00000000#32 : FVec Ideal S_ .f32)) (ix2 s l) = Scalar.select ((σ main_v44 : IVec S128 1) (ix1 l)) ((σ main_v47 : FVec Ideal S4096x128 .f32) (ix2 s l)) (Ideal.ofBits .f32 0x00000000#32)
  pointwise

theorem v49 (c : Dev nD) (s : Fin 4096) (l : Fin 128) : (S5 m c main_v49 : FVec Ideal S4096x128 .f32) (ix2 s l) = Scalar.select (first l) (Ideal.ofBits .f32 0x00000000#32) (Ideal.sin (MixRow.angle s ⟨l.val % 32, ang_lt l⟩)) := by
  rw [← v44 m c l, ← v46 m c s l]
  rw [← show S4 m c main_v44 = S2 m c main_v44 from (keep4 _ main_v44 (by decide)).trans (keep3 _ main_v44 (by decide))]
  rw [← show S4 m c main_v46 = S2 m c main_v46 from (keep4 _ main_v46 (by decide)).trans (keep3 _ main_v46 (by decide))]
  have e : S4 m c main_cst_3 = (constant S_ .f32 0x00000000#32 : FVec Ideal S_ .f32) := by
    show StableHlo.after hostOps0_4 (S3 m c) main_cst_3 = _
    generalize S3 m c = σ
    entry_read
    rfl
  show (StableHlo.after hostOps0_5 (S4 m c) main_v49 : FVec Ideal S4096x128 .f32) (ix2 s l) = _
  generalize S4 m c = σ at e
  entry_read
  rw [e]
  change select (broadcastInDim S4096x128 ![1] bcast_S128_S4096x128_1 (σ main_v44 : IVec S128 1)) (broadcastInDim S4096x128 ![] bcast_S_S4096x128 (constant S_ .f32 0x00000000#32 : FVec Ideal S_ .f32)) (σ main_v46 : FVec Ideal S4096x128 .f32) (ix2 s l) = Scalar.select ((σ main_v44 : IVec S128 1) (ix1 l)) (Ideal.ofBits .f32 0x00000000#32) ((σ main_v46 : FVec Ideal S4096x128 .f32) (ix2 s l))
  pointwise

abbrev scaled (X : FVec Ideal S4096x128 .f32) : FVec Ideal S4096x128 .f32 :=
  mulf X (broadcastInDim S4096x128 ![] bcast_S_S4096x128 (constant S_ .f32 0x3E38AA3B#32 : FVec Ideal S_ .f32))

abbrev six (A B C D E G : FVec Ideal S4096x128 .f32) : FVec Ideal S4096x768 .f32 :=
  concatenate S4096x768 1 [⟨S4096x128, A⟩, ⟨S4096x128, B⟩, ⟨S4096x128, C⟩, ⟨S4096x128, D⟩, ⟨S4096x128, E⟩, ⟨S4096x128, G⟩] concatenates_S4096x128_S4096x128_S4096x128_S4096x128_S4096x128_S4096x128_S4096x768_d1

/-- The stretch before the table is put together. -/
abbrev part (σ : Valuation τ sig (Elt Ideal)) : Valuation τ sig (Elt Ideal) := StableHlo.upto hostOps0_6 σ 9

theorem part_keep (σ : Valuation τ sig (Elt Ideal)) (r : Ref sig .tc) (h : r ∉ W6) : part σ (Proc.devRef .tc r) = σ (Proc.devRef .tc r) :=
  StableHlo.upto_unwritten (W6.take 9) rfl (fun h' => h (List.mem_of_mem_take h')) σ

theorem part51 (σ : Valuation τ sig (Elt Ideal)) : part σ main_v51 = scaled (σ main_v45) := by
  show StableHlo.after (hostOps0_6.take 9) σ main_v51 = _
  simp only [hostOps0_6, List.take_succ_cons, List.take_zero]
  entry_read
  rfl

theorem part53 (σ : Valuation τ sig (Elt Ideal)) : part σ main_v53 = scaled (σ main_v48) := by
  show StableHlo.after (hostOps0_6.take 9) σ main_v53 = _
  simp only [hostOps0_6, List.take_succ_cons, List.take_zero]
  entry_read
  rfl

theorem part55 (σ : Valuation τ sig (Elt Ideal)) : part σ main_v55 = scaled (σ main_v49) := by
  show StableHlo.after (hostOps0_6.take 9) σ main_v55 = _
  simp only [hostOps0_6, List.take_succ_cons, List.take_zero]
  entry_read
  rfl

theorem v56 (σ : Valuation τ sig (Elt Ideal)) : StableHlo.after hostOps0_6 σ main_v56
    = six (σ main_v45) (σ main_v48) (σ main_v49) (scaled (σ main_v45)) (scaled (σ main_v48)) (scaled (σ main_v49)) := by
  rw [StableHlo.after_last_write (i := 9) [main_v57] rfl rfl (by decide) σ, StableHlo.nary_result']
  rw [← part51, ← part53, ← part55, ← part_keep σ main_v45 (by decide), ← part_keep σ main_v48 (by decide), ← part_keep σ main_v49 (by decide)]
  rfl

theorem six0 (A B C D E G : FVec Ideal S4096x128 .f32) (s : Fin 4096) (l : Fin 128) : six A B C D E G (ix2 s ⟨0 + l.val, by omega⟩) = A (ix2 s l) := by
  unfold six
  pointwise

theorem six128 (A B C D E G : FVec Ideal S4096x128 .f32) (s : Fin 4096) (l : Fin 128) : six A B C D E G (ix2 s ⟨128 + l.val, by omega⟩) = B (ix2 s l) := by
  unfold six
  pointwise

theorem six256 (A B C D E G : FVec Ideal S4096x128 .f32) (s : Fin 4096) (l : Fin 128) : six A B C D E G (ix2 s ⟨256 + l.val, by omega⟩) = C (ix2 s l) := by
  unfold six
  pointwise
  rw [dif_neg (by omega)]; rw [dif_neg (by omega)]; rw [dif_pos (by omega)]
  exact congrArg (fun q => C (ix2 s q)) (Fin.ext (by show 256 + l.val - 128 - 128 = l.val; omega))

theorem six384 (A B C D E G : FVec Ideal S4096x128 .f32) (s : Fin 4096) (l : Fin 128) : six A B C D E G (ix2 s ⟨384 + l.val, by omega⟩) = D (ix2 s l) := by
  unfold six
  pointwise
  rw [dif_neg (by omega)]; rw [dif_neg (by omega)]; rw [dif_neg (by omega)]; rw [dif_pos (by omega)]
  exact congrArg (fun q => D (ix2 s q)) (Fin.ext (by show 384 + l.val - 128 - 128 - 128 = l.val; omega))

theorem six512 (A B C D E G : FVec Ideal S4096x128 .f32) (s : Fin 4096) (l : Fin 128) : six A B C D E G (ix2 s ⟨512 + l.val, by omega⟩) = E (ix2 s l) := by
  unfold six
  pointwise
  rw [dif_neg (by omega)]; rw [dif_neg (by omega)]; rw [dif_neg (by omega)]; rw [dif_neg (by omega)]; rw [dif_pos (by omega)]
  exact congrArg (fun q => E (ix2 s q)) (Fin.ext (by show 512 + l.val - 128 - 128 - 128 - 128 = l.val; omega))

theorem six640 (A B C D E G : FVec Ideal S4096x128 .f32) (s : Fin 4096) (l : Fin 128) : six A B C D E G (ix2 s ⟨640 + l.val, by omega⟩) = G (ix2 s l) := by
  unfold six
  pointwise
  rw [dif_neg (by omega)]; rw [dif_neg (by omega)]; rw [dif_neg (by omega)]; rw [dif_neg (by omega)]; rw [dif_neg (by omega)]
  exact congrArg (fun q => G (ix2 s q)) (Fin.ext (by show 640 + l.val - 128 - 128 - 128 - 128 - 128 = l.val; omega))

theorem tab0 (c : Dev nD) (s : Fin 4096) (l : Fin 128) : (V m c main_v56 : FVec Ideal S4096x768 .f32) (ix2 s ⟨0 + l.val, by omega⟩) = (S5 m c main_v45 : FVec Ideal S4096x128 .f32) (ix2 s l) := by
  rw [show V m c main_v56 = StableHlo.after hostOps0_6 (S5 m c) main_v56 from stretches m c _]
  rw [v56]
  refine (six0 _ _ _ _ _ _ s l).trans ?_
  rfl

theorem tab128 (c : Dev nD) (s : Fin 4096) (l : Fin 128) : (V m c main_v56 : FVec Ideal S4096x768 .f32) (ix2 s ⟨128 + l.val, by omega⟩) = (S5 m c main_v48 : FVec Ideal S4096x128 .f32) (ix2 s l) := by
  rw [show V m c main_v56 = StableHlo.after hostOps0_6 (S5 m c) main_v56 from stretches m c _]
  rw [v56]
  refine (six128 _ _ _ _ _ _ s l).trans ?_
  rfl

theorem tab256 (c : Dev nD) (s : Fin 4096) (l : Fin 128) : (V m c main_v56 : FVec Ideal S4096x768 .f32) (ix2 s ⟨256 + l.val, by omega⟩) = (S5 m c main_v49 : FVec Ideal S4096x128 .f32) (ix2 s l) := by
  rw [show V m c main_v56 = StableHlo.after hostOps0_6 (S5 m c) main_v56 from stretches m c _]
  rw [v56]
  refine (six256 _ _ _ _ _ _ s l).trans ?_
  rfl

theorem tab384 (c : Dev nD) (s : Fin 4096) (l : Fin 128) : (V m c main_v56 : FVec Ideal S4096x768 .f32) (ix2 s ⟨384 + l.val, by omega⟩) = @HMul.hMul EReal EReal EReal _ ((S5 m c main_v45 : FVec Ideal S4096x128 .f32) (ix2 s l)) (Ideal.ofBits .f32 0x3E38AA3B#32) := by
  rw [show V m c main_v56 = StableHlo.after hostOps0_6 (S5 m c) main_v56 from stretches m c _]
  rw [v56]
  refine (six384 _ _ _ _ _ _ s l).trans ?_
  rfl

theorem tab512 (c : Dev nD) (s : Fin 4096) (l : Fin 128) : (V m c main_v56 : FVec Ideal S4096x768 .f32) (ix2 s ⟨512 + l.val, by omega⟩) = @HMul.hMul EReal EReal EReal _ ((S5 m c main_v48 : FVec Ideal S4096x128 .f32) (ix2 s l)) (Ideal.ofBits .f32 0x3E38AA3B#32) := by
  rw [show V m c main_v56 = StableHlo.after hostOps0_6 (S5 m c) main_v56 from stretches m c _]
  rw [v56]
  refine (six512 _ _ _ _ _ _ s l).trans ?_
  rfl

theorem tab640 (c : Dev nD) (s : Fin 4096) (l : Fin 128) : (V m c main_v56 : FVec Ideal S4096x768 .f32) (ix2 s ⟨640 + l.val, by omega⟩) = @HMul.hMul EReal EReal EReal _ ((S5 m c main_v49 : FVec Ideal S4096x128 .f32) (ix2 s l)) (Ideal.ofBits .f32 0x3E38AA3B#32) := by
  rw [show V m c main_v56 = StableHlo.after hostOps0_6 (S5 m c) main_v56 from stretches m c _]
  rw [v56]
  refine (six640 _ _ _ _ _ _ s l).trans ?_
  rfl

end Cert.MixIdeal.Host
end
-- ==== Proof.MixTiles.lean ====
/- The tiles a point of the projection reads, and the shapes of what it leaves. -/
module

public import proofs.«01_k».proof.Proof.MixPoint
public import proofs.«01_k».proof.Proof.MixSpec
public import Idealize.ShloMosaic.Lib.Pipeline.ValueKit
public import Idealize.ShloMosaic.Lib.Pointwise
public import Idealize.ShloMosaic.Lib.VecWindow

@[expose] public section
set_option maxRecDepth 16384
noncomputable section
namespace Cert.MixBlock
open Cert.MixIdeal Cert.MixIdeal.Gen Cert.MixRun Idealize.ShloMosaic Idealize.ShloMosaic.TcCoe Idealize.ShloMosaic.Tactic Idealize.SL.Sem
open Idealize.ShloMosaic.Pipeline (Dat)

def rot (z : Fin 512 → EReal) (p q s : Fin 128 → EReal) (n : Fin 512) : EReal :=
  z n * p ⟨n.val % 128, by omega⟩ + z ⟨n.val / 128 * 128 + (n.val % 128 + 128 - 96) % 128, by omega⟩ * q ⟨n.val % 128, by omega⟩
    + z ⟨n.val / 128 * 128 + (n.val % 128 + 128 - 32) % 128, by omega⟩ * s ⟨n.val % 128, by omega⟩

theorem gate_lt (n : Fin 1024) : n.val < 2048 := by omega

theorem gate_lt2 (n : Fin 1024) : 1024 + n.val < 2048 := by omega

theorem vb_lt (n : Fin 512) : 512 + n.val < 1024 := by omega

/-- The product of a row with a column. -/
def dotp (f g : Fin 1024 → EReal) : EReal := ∑ k : Fin 1024, f k * g k

theorem tile_row (q : Fin 2) (j : Fin 256) : q.val * 256 + j.val < 512 := by omega

/-- The mean of 256 entries. -/
def mean256 (f : Fin 256 → EReal) : EReal := Ideal.div (∑ r : Fin 256, f r) (Ideal.ofBits .f32 0x43800000#32)

/-- Heads of 64 value rows, each followed by a row of ones and fifteen rows of zeros. -/
def vrow (z : Fin 512 → EReal) (i : Fin 640) : EReal :=
  if i.val % 80 < 64 then z ⟨i.val / 80 * 64 + i.val % 80 % 64, by omega⟩ else if i.val % 80 < 65 then 1 else 0

theorem vrow_z (z : Fin 512 → EReal) (i : Fin 640) (l : Fin 64) (off : ℕ) (hi : i.val = off + 1 * l.val) (ho : off % 80 = 0) :
    vrow z i = z ⟨off / 80 * 64 + l.val, by omega⟩ := by
  have h1 : i.val % 80 = l.val := by omega
  have h2 : i.val / 80 = off / 80 := by omega
  unfold vrow
  rw [if_pos (by omega)]
  exact congrArg z (Fin.ext (by show i.val / 80 * 64 + i.val % 80 % 64 = off / 80 * 64 + l.val; omega))

theorem vrow_o (z : Fin 512 → EReal) (i : Fin 640) (l : Fin 16) (off : ℕ) (hi : i.val = off + 1 * l.val) (ho : off % 80 = 64) :
    vrow z i = Scalar.select (IntOp.cmpi .eq (BitVec.ofNat 32 l.val) 0#32) (1 : EReal) 0 := by
  unfold vrow
  rw [if_neg (by omega)]
  by_cases h : l.val = 0
  · rw [if_pos (by omega), h]; rfl
  · rw [if_neg (by omega)]
    have h3 : l.val = 1 ∨ l.val = 2 ∨ l.val = 3 ∨ l.val = 4 ∨ l.val = 5 ∨ l.val = 6 ∨ l.val = 7 ∨ l.val = 8 ∨ l.val = 9 ∨ l.val = 10 ∨ l.val = 11 ∨ l.val = 12 ∨ l.val = 13 ∨ l.val = 14 ∨ l.val = 15 := by omega
    rcases h3 with h3 | h3 | h3 | h3 | h3 | h3 | h3 | h3 | h3 | h3 | h3 | h3 | h3 | h3 | h3 <;> rw [h3] <;> rfl

def tile6 (m : (ℓ : Loc nD τ sig) → Buf (Elt Ideal) ℓ) (c : Dev nD) (t : Fin cfg0.N) : FVec Ideal S1024x1024 .bf16 := iblk m c 6 t

def tile2 (m : (ℓ : Loc nD τ sig) → Buf (Elt Ideal) ℓ) (c : Dev nD) (t : Fin cfg0.N) : FVec Ideal S512x768 .f32 := iblk m c 2 t

def tile11 (m : (ℓ : Loc nD τ sig) → Buf (Elt Ideal) ℓ) (c : Dev nD) (t : Fin cfg0.N) : FVec Ideal S1024x1024 .bf16 := iblk m c 11 t

def tile8 (m : (ℓ : Loc nD τ sig) → Buf (Elt Ideal) ℓ) (c : Dev nD) (t : Fin cfg0.N) : FVec Ideal S1024x512 .bf16 := iblk m c 8 t

def tile9 (m : (ℓ : Loc nD τ sig) → Buf (Elt Ideal) ℓ) (c : Dev nD) (t : Fin cfg0.N) : FVec Ideal S1024x2048 .bf16 := iblk m c 9 t

def tile3 (m : (ℓ : Loc nD τ sig) → Buf (Elt Ideal) ℓ) (c : Dev nD) (t : Fin cfg0.N) : FVec Ideal S4x1024 .f32 := iblk m c 3 t

def tile4 (m : (ℓ : Loc nD τ sig) → Buf (Elt Ideal) ℓ) (c : Dev nD) (t : Fin cfg0.N) : FVec Ideal S1x8 .f32 := iblk m c 4 t

def tile5 (m : (ℓ : Loc nD τ sig) → Buf (Elt Ideal) ℓ) (c : Dev nD) (t : Fin cfg0.N) : FVec Ideal S8x1 .f32 := iblk m c 5 t

def tile7 (m : (ℓ : Loc nD τ sig) → Buf (Elt Ideal) ℓ) (c : Dev nD) (t : Fin cfg0.N) : FVec Ideal S1024x1024 .bf16 := iblk m c 7 t

def tile10 (m : (ℓ : Loc nD τ sig) → Buf (Elt Ideal) ℓ) (c : Dev nD) (t : Fin cfg0.N) : FVec Ideal S1024x8 .bf16 := iblk m c 10 t

def tile12 (m : (ℓ : Loc nD τ sig) → Buf (Elt Ideal) ℓ) (c : Dev nD) (t : Fin cfg0.N) : FVec Ideal S8x1024 .bf16 := iblk m c 12 t

def tileU (m : (ℓ : Loc nD τ sig) → Buf (Elt Ideal) ℓ) (c : Dev nD) (t : Fin cfg0.N) : FVec Ideal S512x1024 .bf16 :=
  k0_pay2 (F := Ideal) (iblk m c 0 t) (iblk m c 1 t)

theorem hi_lt (r : Fin 512) : r.val / 256 < 2 := by omega
theorem lo_lt (r : Fin 512) : r.val % 256 < 256 := by omega
theorem tileU_eq (m : (ℓ : Loc nD τ sig) → Buf (Elt Ideal) ℓ) (c : Dev nD) (t : Fin cfg0.N) : k0_pay2 (F := Ideal) (iblk m c 0 t) (iblk m c 1 t) = tileU m c t := rfl

end Cert.MixBlock
end
-- ==== Proof.MixScratch.lean ====
/- The convolution's scratch: what it holds while a point runs and what it leaves for the next point. -/
module

public import proofs.«01_k».proof.Proof.MixTiles
public import Idealize.ShloMosaic.Lib.Pipeline.ValueKit
public import Idealize.ShloMosaic.Lib.Pointwise
public import Idealize.ShloMosaic.Lib.VecWindow

@[expose] public section
set_option maxRecDepth 16384
noncomputable section
namespace Cert.MixBlock
open Cert.MixIdeal Cert.MixIdeal.Gen Cert.MixRun Idealize.ShloMosaic Idealize.ShloMosaic.TcCoe Idealize.ShloMosaic.Tactic Idealize.SL.Sem
open Idealize.ShloMosaic.Pipeline (Dat)
section
variable (v : View sig .tc .vmem S520x1024 .f32) (f : v.ty.Contents (Elt Ideal))

/-- The scratch at an entry of the newest piece. -/
theorem hit {o p h w : ℕ} (inb : ∀ a, (![o, p] : Fin 2 → ℕ) a + (![h, w] : Fin 2 → ℕ) a ≤ S520x1024.size a)
    (x : (Rect.unit (s := S520x1024) ![o, p] ![h, w] inb).shape.Idx → Elt Ideal .f32) (L : List (View.Piece (Elt Ideal) S520x1024 .f32))
    (a : Fin 520) (n : Fin 1024) (a' : Fin h) (n' : Fin w) (ha : a.val = o + a'.val) (hn : n.val = p + n'.val) :
    v.read (Elt Ideal) (v.writes (Elt Ideal) f ((⟨Rect.unit ![o, p] ![h, w] inb, x⟩ : View.Piece (Elt Ideal) S520x1024 .f32) :: L)) (ix2 a n)
      = x (ix2 a' n') :=
  View.read_writes_cons_unit_of_mem v f inb x L (ix2 a n) (ix2 a' n') rfl fun b => by
    match b with
    | ⟨0, _⟩ => exact ha
    | ⟨1, _⟩ => exact hn

/-- The scratch at an entry the newest piece does not hold. -/
theorem miss {o p h w : ℕ} (inb : ∀ a, (![o, p] : Fin 2 → ℕ) a + (![h, w] : Fin 2 → ℕ) a ≤ S520x1024.size a)
    (x : (Rect.unit (s := S520x1024) ![o, p] ![h, w] inb).shape.Idx → Elt Ideal .f32) (L : List (View.Piece (Elt Ideal) S520x1024 .f32))
    (a : Fin 520) (n : Fin 1024) (hm : (a.val < o ∨ o + h ≤ a.val) ∨ (n.val < p ∨ p + w ≤ n.val)) :
    v.read (Elt Ideal) (v.writes (Elt Ideal) f ((⟨Rect.unit ![o, p] ![h, w] inb, x⟩ : View.Piece (Elt Ideal) S520x1024 .f32) :: L)) (ix2 a n)
      = v.read (Elt Ideal) (v.writes (Elt Ideal) f L) (ix2 a n) := by
  rcases hm with hm | hm
  · exact View.read_writes_cons_unit_of_not_mem v f inb x L (ix2 a n) rfl (0 : Fin 2) hm
  · exact View.read_writes_cons_unit_of_not_mem v f inb x L (ix2 a n) rfl (1 : Fin 2) hm

theorem canon_hit {o p h w : ℕ} (inb : ∀ a, (![o, p] : Fin 2 → ℕ) a + (![h, w] : Fin 2 → ℕ) a ≤ S520x1024.size a)
    (x : (Rect.unit (s := S520x1024) ![o, p] ![h, w] inb).shape.Idx → Elt Ideal .f32) (L : List (View.Piece (Elt Ideal) S520x1024 .f32))
    (a : Fin 520) (n : Fin 1024) (a' : Fin h) (n' : Fin w) (ha : a.val = o + a'.val) (hn : n.val = p + n'.val) :
    View.canon ((⟨Rect.unit ![o, p] ![h, w] inb, x⟩ : View.Piece (Elt Ideal) S520x1024 .f32) :: L) (ix2 a n) = x (ix2 a' n') := by
  rw [← View.read_writes_junk_eq_canon VS0_1]
  exact hit _ _ inb x L a n a' n' ha hn

theorem canon_miss {o p h w : ℕ} (inb : ∀ a, (![o, p] : Fin 2 → ℕ) a + (![h, w] : Fin 2 → ℕ) a ≤ S520x1024.size a)
    (x : (Rect.unit (s := S520x1024) ![o, p] ![h, w] inb).shape.Idx → Elt Ideal .f32) (L : List (View.Piece (Elt Ideal) S520x1024 .f32))
    (a : Fin 520) (n : Fin 1024) (hm : (a.val < o ∨ o + h ≤ a.val) ∨ (n.val < p ∨ p + w ≤ n.val)) :
    View.canon ((⟨Rect.unit ![o, p] ![h, w] inb, x⟩ : View.Piece (Elt Ideal) S520x1024 .f32) :: L) (ix2 a n) = View.canon L (ix2 a n) := by
  rw [← View.read_writes_junk_eq_canon VS0_1, ← View.read_writes_junk_eq_canon VS0_1]
  exact miss _ _ inb x L a n hm

/-- A read back of the scratch, entry by entry. -/
theorem back {o p h w : ℕ} (inb : ∀ a, (![o, p] : Fin 2 → ℕ) a + (![h, w] : Fin 2 → ℕ) a ≤ S520x1024.size a) (L : List (View.Piece (Elt Ideal) S520x1024 .f32))
   (a' : Fin h) (n' : Fin w) (a : Fin 520) (n : Fin 1024) (ha : a.val = o + a'.val) (hn : n.val = p + n'.val) :
    v.readCov L (Rect.unit (s := S520x1024) ![o, p] ![h, w] inb).toLoadRect (ix2 a' n') = View.canon L (ix2 a n) := by
  rw [View.readCov_eq_canon']
  refine congrArg (View.canon L) (funext fun b => Fin.ext ?_)
  match b with
  | ⟨0, _⟩ => exact ((Nat.one_mul a'.val).symm ▸ ha.symm :)
  | ⟨1, _⟩ => exact ((Nat.one_mul n'.val).symm ▸ hn.symm :)

theorem back_ld {o p h w : ℕ} (inb : ∀ a, (![o, p] : Fin 2 → ℕ) a + (![h, w] : Fin 2 → ℕ) a ≤ S520x1024.size a) (X : S520x1024.Idx → Elt Ideal .f32)
   (a' : Fin h) (n' : Fin w) (a : Fin 520) (n : Fin 1024) (ha : a.val = o + a'.val) (hn : n.val = p + n'.val) :
    View.ld (Val := Elt Ideal) (e' := .f32) X (Rect.unit (s := S520x1024) ![o, p] ![h, w] inb) (ix2 a' n') = X (ix2 a n) := by
  refine congrArg X (funext fun b => Fin.ext ?_)
  match b with
  | ⟨0, _⟩ => exact ((Nat.one_mul a'.val).symm ▸ ha.symm :)
  | ⟨1, _⟩ => exact ((Nat.one_mul n'.val).symm ▸ hn.symm :)
end

/-- The rows of the convolution's scratch: eight carried rows, then the tile's 512 rows. -/
def ext (z : Fin 512 → Fin 1024 → EReal) (cr : Fin 8 → Fin 1024 → EReal) (a : Fin 520) (n : Fin 1024) : EReal :=
  if h : a.val < 8 then cr ⟨a.val, h⟩ n else z ⟨a.val - 8, by omega⟩ n

/-- The four taps at row `r` and the activation. -/
def taps (E : Fin 520 → Fin 1024 → EReal) (w : Fin 4 → Fin 1024 → EReal) (r : Fin 512) (n : Fin 1024) : EReal :=
  Cert.MixRow.silu (E ⟨5 + r.val, by omega⟩ n * w 0 n + E ⟨6 + r.val, by omega⟩ n * w 1 n + E ⟨7 + r.val, by omega⟩ n * w 2 n
    + E ⟨8 + r.val, by omega⟩ n * w 3 n)

theorem rd_lt0 {o p : ℕ} (inb : ∀ a, (![o, p] : Fin 2 → ℕ) a + (![512, 256] : Fin 2 → ℕ) a ≤ S520x1024.size a) (i : S512x256.Idx) :
    o + (i 0).val < 520 := by
  have h1 : (i 0).val < 512 := (i 0).isLt
  have h2 : o + 512 ≤ 520 := inb 0
  omega

theorem rd_lt1 {o p : ℕ} (inb : ∀ a, (![o, p] : Fin 2 → ℕ) a + (![512, 256] : Fin 2 → ℕ) a ≤ S520x1024.size a) (i : S512x256.Idx) :
    p + (i 1).val < 1024 := by
  have h1 : (i 1).val < 256 := (i 1).isLt
  have h2 : p + 256 ≤ 1024 := inb 1
  omega

theorem rd (v : View sig .tc .vmem S520x1024 .f32) {o p : ℕ} (inb : ∀ a, (![o, p] : Fin 2 → ℕ) a + (![512, 256] : Fin 2 → ℕ) a ≤ S520x1024.size a)
    (L : List (View.Piece (Elt Ideal) S520x1024 .f32)) (E : Fin 520 → Fin 1024 → EReal)
    (h : ∀ a n, o ≤ a.val → p ≤ n.val → n.val < p + 256 → View.canon L (ix2 a n) = E a n) :
    v.readCov L (Rect.unit (s := S520x1024) ![o, p] ![512, 256] inb).toLoadRect
      = (fun i => E ⟨o + (i 0).val, rd_lt0 inb i⟩ ⟨p + (i 1).val, rd_lt1 inb i⟩ : FVec Ideal S512x256 .f32) := by
  funext i
  obtain ⟨a', n', rfl⟩ : ∃ (a' : Fin 512) (n' : Fin 256), i = ix2 a' n' := ⟨i 0, i 1, by funext b; match b with | ⟨0, _⟩ => rfl | ⟨1, _⟩ => rfl⟩
  exact (back v inb L a' n' ⟨o + a'.val, rd_lt0 inb (ix2 a' n')⟩ ⟨p + n'.val, rd_lt1 inb (ix2 a' n')⟩ rfl rfl).trans
    (h _ _ (Nat.le_add_right _ _) (Nat.le_add_right _ _) (by show p + n'.val < p + 256; omega))

theorem rd_ld {o p : ℕ} (inb : ∀ a, (![o, p] : Fin 2 → ℕ) a + (![512, 256] : Fin 2 → ℕ) a ≤ S520x1024.size a)
    (X : S520x1024.Idx → Elt Ideal .f32) (E : Fin 520 → Fin 1024 → EReal)
    (h : ∀ a n, o ≤ a.val → p ≤ n.val → n.val < p + 256 → X (ix2 a n) = E a n) :
    View.ld (Val := Elt Ideal) (e' := .f32) X (Rect.unit (s := S520x1024) ![o, p] ![512, 256] inb)
      = (fun i => E ⟨o + (i 0).val, rd_lt0 inb i⟩ ⟨p + (i 1).val, rd_lt1 inb i⟩ : FVec Ideal S512x256 .f32) := by
  funext i
  obtain ⟨a', n', rfl⟩ : ∃ (a' : Fin 512) (n' : Fin 256), i = ix2 a' n' := ⟨i 0, i 1, by funext b; match b with | ⟨0, _⟩ => rfl | ⟨1, _⟩ => rfl⟩
  exact (back_ld inb X a' n' ⟨o + a'.val, rd_lt0 inb (ix2 a' n')⟩ ⟨p + n'.val, rd_lt1 inb (ix2 a' n')⟩ rfl rfl).trans
    (h _ _ (Nat.le_add_right _ _) (Nat.le_add_right _ _) (by show p + n'.val < p + 256; omega))

/-- One tile's columns of the convolution's input. -/
def tileZ (U : FVec Ideal S512x1024 .bf16) (W : FVec Ideal S1024x1024 .bf16) (r : Fin 512) (n : Fin 1024) : EReal :=
  ∑ k : Fin 1024, U (ix2 r k) * W (ix2 k n)

theorem slab (Z : FVec Ideal S512x1024 .bf16 → Vec Ideal S1024x256 .bf16 → FVec Ideal S512x256 .f32)
    (hZ : ∀ U V (a : Fin 512) (n : Fin 256), Z U V (ix2 a n) = ∑ k : Fin 1024, U (ix2 a k) * V (ix2 k n))
    (U : FVec Ideal S512x1024 .bf16) (W : FVec Ideal S1024x1024 .bf16) {p : ℕ} (inb : ∀ a, (![0, p] : Fin 2 → ℕ) a + (![1024, 256] : Fin 2 → ℕ) a ≤ S1024x1024.size a)
    (a : Fin 512) (n' : Fin 256) (n : Fin 1024) (hn : n.val = p + n'.val) :
    Z U (View.ld (Val := Elt Ideal) (e' := .bf16) W (Rect.unit (s := S1024x1024) ![0, p] ![1024, 256] inb)) (ix2 a n') = tileZ U W a n := by
  rw [hZ]
  refine Finset.sum_congr rfl fun k _ => ?_
  refine congrArg (fun q : EReal => U (ix2 a k) * q) (congrArg W (funext fun b => Fin.ext ?_))
  match b with
  | ⟨0, _⟩ => exact ((Nat.zero_add (1 * k.val)).trans (Nat.one_mul k.val) :)
  | ⟨1, _⟩ => exact ((Nat.one_mul n'.val).symm ▸ hn.symm :)

theorem z86 (U V) (a : Fin 512) (n : Fin 256) : k0_pay86 (F := Ideal) U V (ix2 a n) = ∑ k : Fin 1024, U (ix2 a k) * V (ix2 k n) := by
  pointwise [k0_pay86]
theorem z91 (U V) (a : Fin 512) (n : Fin 256) : k0_pay91 (F := Ideal) U V (ix2 a n) = ∑ k : Fin 1024, U (ix2 a k) * V (ix2 k n) := by
  pointwise [k0_pay91]
theorem z97 (U V) (a : Fin 512) (n : Fin 256) : k0_pay97 (F := Ideal) U V (ix2 a n) = ∑ k : Fin 1024, U (ix2 a k) * V (ix2 k n) := by
  pointwise [k0_pay97]
theorem z106 (U V) (a : Fin 512) (n : Fin 256) : k0_pay106 (F := Ideal) U V (ix2 a n) = ∑ k : Fin 1024, U (ix2 a k) * V (ix2 k n) := by
  pointwise [k0_pay106]
theorem z4 (a : Fin 8) (n : Fin 1024) : k0_pay4 (F := Ideal) (ix2 a n) = 0 := by
  pointwise [k0_pay4]

theorem tile7_eq (m : (ℓ : Loc nD τ sig) → Buf (Elt Ideal) ℓ) (c : Dev nD) (t : Fin cfg0.N) : iblk m c 7 t = tile7 m c t := rfl
theorem tile3_eq (m : (ℓ : Loc nD τ sig) → Buf (Elt Ideal) ℓ) (c : Dev nD) (t : Fin cfg0.N) : iblk m c 3 t = tile3 m c t := rfl
theorem row8_lt (a : Fin 8) : a.val < 520 := by omega
theorem half_lt0 (n : Fin 512) : 0 + n.val < 1024 := by omega
theorem half_lt512 (n : Fin 512) : 512 + n.val < 1024 := by omega

theorem i87 (X) (a : Fin 8) (n : Fin 256) : k0_pay87 (F := Ideal) X (ix2 a n) = X (ix2 a n) := by pointwise [k0_pay87]
theorem i93 (X) (a : Fin 8) (n : Fin 256) : k0_pay93 (F := Ideal) X (ix2 a n) = X (ix2 a n) := by pointwise [k0_pay93]
theorem i100 (X) (a : Fin 8) (n : Fin 256) : k0_pay100 (F := Ideal) X (ix2 a n) = X (ix2 a n) := by pointwise [k0_pay100]
theorem i108 (X) (a : Fin 8) (n : Fin 256) : k0_pay108 (F := Ideal) X (ix2 a n) = X (ix2 a n) := by pointwise [k0_pay108]

/-- The last eight rows of a block of columns, carried to the first eight rows. -/
theorem carry (v : View sig .tc .vmem S520x1024 .f32) (K : Vec Ideal S8x256 .f32 → FVec Ideal S8x256 .f32) (hK : ∀ X (a : Fin 8) (n : Fin 256), K X (ix2 a n) = X (ix2 a n))
    (Z : FVec Ideal S512x1024 .bf16 → Vec Ideal S1024x256 .bf16 → FVec Ideal S512x256 .f32)
    (hZ : ∀ U V (a : Fin 512) (n : Fin 256), Z U V (ix2 a n) = ∑ k : Fin 1024, U (ix2 a k) * V (ix2 k n))
    (U : FVec Ideal S512x1024 .bf16) (W : FVec Ideal S1024x1024 .bf16) {p : ℕ} (inbw : ∀ a, (![0, p] : Fin 2 → ℕ) a + (![1024, 256] : Fin 2 → ℕ) a ≤ S1024x1024.size a)
    (inb : ∀ a, (![8, p] : Fin 2 → ℕ) a + (![512, 256] : Fin 2 → ℕ) a ≤ S520x1024.size a)
    (inb' : ∀ a, (![512, p] : Fin 2 → ℕ) a + (![8, 256] : Fin 2 → ℕ) a ≤ S520x1024.size a)
    (inb'' : ∀ a, (![0, p] : Fin 2 → ℕ) a + (![8, 256] : Fin 2 → ℕ) a ≤ S520x1024.size a)
    (L L' : List (View.Piece (Elt Ideal) S520x1024 .f32)) (a : Fin 8) (n : Fin 1024) (h1 : p ≤ n.val) (h2 : n.val < p + 256) :
    View.canon ((⟨Rect.unit ![0, p] ![8, 256] inb'', K (v.readCov ((⟨Rect.unit ![8, p] ![512, 256] inb, Z U (View.ld (Val := Elt Ideal) (e' := .bf16) W (Rect.unit (s := S1024x1024) ![0, p] ![1024, 256] inbw))⟩ : View.Piece (Elt Ideal) S520x1024 .f32) :: L) (Rect.unit (s := S520x1024) ![512, p] ![8, 256] inb').toLoadRect)⟩ : View.Piece (Elt Ideal) S520x1024 .f32) :: L') (ix2 (⟨a.val, row8_lt a⟩ : Fin 520) n)
      = tileZ U W ⟨504 + a.val, by omega⟩ n := by
  refine (canon_hit inb'' _ L' _ n a ⟨n.val - p, by omega⟩ (Nat.zero_add _).symm (by show n.val = p + (n.val - p); omega)).trans ?_
  refine (hK _ _ _).trans ?_
  refine (back v inb' _ a ⟨n.val - p, by omega⟩ ⟨512 + a.val, by omega⟩ n rfl (by show n.val = p + (n.val - p); omega)).trans ?_
  refine (canon_hit inb _ L _ n ⟨504 + a.val, by omega⟩ ⟨n.val - p, by omega⟩ (by show 512 + a.val = 8 + (504 + a.val); omega) (by show n.val = p + (n.val - p); omega)).trans ?_
  exact slab Z hZ U W inbw _ _ n (by show n.val = p + (n.val - p); omega)

set_option maxHeartbeats 4000000 in
theorem scratch_A (m : (ℓ : Loc nD τ sig) → Buf (Elt Ideal) ℓ) (c : Dev nD) (t : Fin cfg0.N) (h0 : t.val % 8 = 0) (a : Fin 8) (n : Fin 1024) :
    leftA_s m c t h0 (ix2 (⟨a.val, row8_lt a⟩ : Fin 520) n) = tileZ (tileU m c t) (tile7 m c t) ⟨504 + a.val, by omega⟩ n := by
  unfold leftA_s
  rw [View.read_writes_eq_canon _ _ _ (covA_s m c t h0)]
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
  simp (disch := decide) only [View.ld_unit_lit', View.canon_cons_unit_lit', View.readCov_unit_lit']
  rw [tileU_eq, tile7_eq]
  generalize tileU m c t = U
  generalize tile7 m c t = W
  by_cases c3 : 768 ≤ n.val
  · exact carry _ _ i108 _ z106 _ _ _ _ _ _ _ _ a n c3 (by omega)
  refine (canon_miss _ _ _ (⟨a.val, row8_lt a⟩ : Fin 520) n (Or.inr (Or.inl (by omega)))).trans ?_
  refine (canon_miss _ _ _ (⟨a.val, row8_lt a⟩ : Fin 520) n (Or.inr (Or.inl (by omega)))).trans ?_
  by_cases c2 : 512 ≤ n.val
  · exact carry _ _ i100 _ z97 _ _ _ _ _ _ _ _ a n c2 (by omega)
  refine (canon_miss _ _ _ (⟨a.val, row8_lt a⟩ : Fin 520) n (Or.inr (Or.inl (by omega)))).trans ?_
  refine (canon_miss _ _ _ (⟨a.val, row8_lt a⟩ : Fin 520) n (Or.inr (Or.inl (by omega)))).trans ?_
  by_cases c1 : 256 ≤ n.val
  · exact carry _ _ i93 _ z91 _ _ _ _ _ _ _ _ a n c1 (by omega)
  refine (canon_miss _ _ _ (⟨a.val, row8_lt a⟩ : Fin 520) n (Or.inr (Or.inl (by omega)))).trans ?_
  refine (canon_miss _ _ _ (⟨a.val, row8_lt a⟩ : Fin 520) n (Or.inr (Or.inl (by omega)))).trans ?_
  exact carry _ _ i87 _ z86 _ _ _ _ _ _ _ _ a n (Nat.zero_le _) (by omega)

set_option maxHeartbeats 4000000 in
theorem scratch_B (m : (ℓ : Loc nD τ sig) → Buf (Elt Ideal) ℓ) (c : Dev nD) (t : Fin cfg0.N) (h0 : ¬t.val % 8 = 0) (xs : Vec Ideal S520x1024 .f32) (a : Fin 8) (n : Fin 1024) :
    leftB_s m c t h0 xs (ix2 (⟨a.val, row8_lt a⟩ : Fin 520) n) = tileZ (tileU m c t) (tile7 m c t) ⟨504 + a.val, by omega⟩ n := by
  unfold leftB_s
  rw [View.read_writes_eq_canon _ _ _ (covB_s m c t h0 xs)]
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
  simp (disch := decide) only [View.ld_unit_lit', View.canon_cons_unit_lit', View.readCov_unit_lit']
  rw [tileU_eq, tile7_eq]
  generalize tileU m c t = U
  generalize tile7 m c t = W
  by_cases c3 : 768 ≤ n.val
  · exact carry _ _ i108 _ z106 _ _ _ _ _ _ _ _ a n c3 (by omega)
  refine (canon_miss _ _ _ (⟨a.val, row8_lt a⟩ : Fin 520) n (Or.inr (Or.inl (by omega)))).trans ?_
  refine (canon_miss _ _ _ (⟨a.val, row8_lt a⟩ : Fin 520) n (Or.inr (Or.inl (by omega)))).trans ?_
  by_cases c2 : 512 ≤ n.val
  · exact carry _ _ i100 _ z97 _ _ _ _ _ _ _ _ a n c2 (by omega)
  refine (canon_miss _ _ _ (⟨a.val, row8_lt a⟩ : Fin 520) n (Or.inr (Or.inl (by omega)))).trans ?_
  refine (canon_miss _ _ _ (⟨a.val, row8_lt a⟩ : Fin 520) n (Or.inr (Or.inl (by omega)))).trans ?_
  by_cases c1 : 256 ≤ n.val
  · exact carry _ _ i93 _ z91 _ _ _ _ _ _ _ _ a n c1 (by omega)
  refine (canon_miss _ _ _ (⟨a.val, row8_lt a⟩ : Fin 520) n (Or.inr (Or.inl (by omega)))).trans ?_
  refine (canon_miss _ _ _ (⟨a.val, row8_lt a⟩ : Fin 520) n (Or.inr (Or.inl (by omega)))).trans ?_
  exact carry _ _ i87 _ z86 _ _ _ _ _ _ _ _ a n (Nat.zero_le _) (by omega)

theorem scratch_at (m : (ℓ : Loc nD τ sig) → Buf (Elt Ideal) ℓ) (c : Dev nD) (t : Fin cfg0.N) (a : Fin 8) (n : Fin 1024) :
    (leaves m c t.val t.isLt).2.2.2.2.2.2.2.2.2.2.2.2 (ix2 (⟨a.val, row8_lt a⟩ : Fin 520) n) = tileZ (tileU m c t) (tile7 m c t) ⟨504 + a.val, by omega⟩ n := by
  by_cases h0 : t.val % 8 = 0
  · rw [leaves_A m c t h0]; unfold allA; dsimp only; exact scratch_A m c t h0 a n
  · rw [leaves_B m c t h0]; unfold allB; dsimp only; exact scratch_B m c t h0 _ a n

/-- The eight rows before a tile's: zeros at a sequence's start, else the last rows of the tile before. -/
def before (m : (ℓ : Loc nD τ sig) → Buf (Elt Ideal) ℓ) (c : Dev nD) (t : Fin cfg0.N) (a : Fin 8) (n : Fin 1024) : EReal :=
  if t.val % 8 = 0 then 0
  else tileZ (tileU m c ⟨t.val - 1, Nat.lt_of_le_of_lt (Nat.sub_le _ _) t.isLt⟩) (tile7 m c ⟨t.val - 1, Nat.lt_of_le_of_lt (Nat.sub_le _ _) t.isLt⟩) ⟨504 + a.val, by omega⟩ n

end Cert.MixBlock
end
-- ==== Proof.MixInputs.lean ====
/- The blocks a point of the projection reads, entry by entry of the arguments. -/
module

public import proofs.«01_k».proof.Proof.MixHost
public import proofs.«01_k».proof.Proof.MixScratch

@[expose] public section
set_option maxRecDepth 16384
noncomputable section
namespace Cert.MixIdeal.Array
open Cert.MixIdeal Cert.MixIdeal.Gen Cert.MixBlock Idealize.ShloMosaic Idealize.ShloMosaic.TcCoe Idealize.ShloMosaic.Tactic Idealize.SL.Sem
open Idealize.ShloMosaic.Pipeline (Dat)
variable (m : (ℓ : Loc nD τ sig) → Buf (Elt Ideal) ℓ)

/-! The arguments, by entry. -/

def X (c : Dev nD) (b : Fin 8) (s : Fin 4096) (k : Fin 1024) : EReal := (m ((c : Thread nD τ).loc main_arg0) : FVec Ideal S8x4096x1024 .f32) (ix3 b s k)
def G (c : Dev nD) (k : Fin 1024) : EReal := (m ((c : Thread nD τ).loc main_arg1) : FVec Ideal S1x1024 .f32) (ix2 0 k)
def Wt (c : Dev nD) (k : Fin 1024) (n : Fin 5640) : EReal := (m ((c : Thread nD τ).loc main_arg2) : FVec Ideal S1x1024x5640 .f32) (ix3 0 k n)
def Cw (c : Dev nD) (j : Fin 4) (n : Fin 1024) : EReal := (m ((c : Thread nD τ).loc main_arg3) : FVec Ideal S1x4x1024 .f32) (ix3 0 j n)
def Bi (c : Dev nD) (n : Fin 4) : EReal := (m ((c : Thread nD τ).loc main_arg4) : FVec Ideal S1x4 .f32) (ix2 0 n)
def Bf (c : Dev nD) (n : Fin 4) : EReal := (m ((c : Thread nD τ).loc main_arg5) : FVec Ideal S1x4 .f32) (ix2 0 n)

/-- The input windows' block indices. -/
theorem idx : ∀ t : Fin cfg0.N, win0_0.index t = ![t.val / 8, t.val % 8, 0] ∧ win0_1.index t = ![0, 0]
    ∧ win0_2.index t = ![t.val % 8, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] :=
  (by decide +kernel : ∀ t : Fin grid0.N, _)

/-- The sequence a grid point works on. -/
def seq (t : Fin cfg0.N) : Fin 8 := ⟨t.val / 8, by have h : t.val < 64 := t.isLt; omega⟩
/-- The row of the sequence that row `r` of a grid point's block is. -/
def row (t : Fin cfg0.N) (r : Fin 512) : Fin 4096 := ⟨t.val % 8 * 512 + r.val, by omega⟩

/-! A window's block of any contents. -/

theorem g0 (c : Dev nD) (W : (b : Ref sig .tc) → Buf (Elt Ideal) ((c : Thread nD τ).loc b)) (t : Fin cfg0.N) (r : Fin 512) (k : Fin 1024) :
    (((cfg0.win 0).blk t).view.read (Elt Ideal) (W (Pipeline.arrRef spec0 0)) : FVec Ideal S1x512x1024 .f32) (ix3 0 r k) = (W main_arg0 : FVec Ideal S8x4096x1024 .f32) (ix3 (seq t) (row t r) k) := by
  have e : (((cfg0.win 0).blk t).view.emb (ix3 0 r k) : S8x4096x1024.Idx) = ix3 (seq t) (row t r) k := by blk_ext [idx t, row, seq]
  exact congrArg (W main_arg0) e

theorem g1 (c : Dev nD) (W : (b : Ref sig .tc) → Buf (Elt Ideal) ((c : Thread nD τ).loc b)) (t : Fin cfg0.N) (k : Fin 1024) :
    (((cfg0.win 1).blk t).view.read (Elt Ideal) (W (Pipeline.arrRef spec0 1)) : FVec Ideal S1x1024 .f32) (ix2 0 k) = (W main_arg1 : FVec Ideal S1x1024 .f32) (ix2 0 k) := by
  have e : (((cfg0.win 1).blk t).view.emb (ix2 0 k) : S1x1024.Idx) = ix2 0 k := by blk_ext [idx t, row, seq]
  exact congrArg (W main_arg1) e

theorem g2 (c : Dev nD) (W : (b : Ref sig .tc) → Buf (Elt Ideal) ((c : Thread nD τ).loc b)) (t : Fin cfg0.N) (a : Fin 512) (n : Fin 768) :
    (((cfg0.win 2).blk t).view.read (Elt Ideal) (W (Pipeline.arrRef spec0 2)) : FVec Ideal S512x768 .f32) (ix2 a n) = (W main_v56 : FVec Ideal S4096x768 .f32) (ix2 (row t a) n) := by
  have e : (((cfg0.win 2).blk t).view.emb (ix2 a n) : S4096x768.Idx) = ix2 (row t a) n := by blk_ext [idx t, row]
  exact congrArg (W main_v56) e

theorem g3 (c : Dev nD) (W : (b : Ref sig .tc) → Buf (Elt Ideal) ((c : Thread nD τ).loc b)) (t : Fin cfg0.N) (a : Fin 4) (n : Fin 1024) :
    (((cfg0.win 3).blk t).view.read (Elt Ideal) (W (Pipeline.arrRef spec0 3)) : FVec Ideal S4x1024 .f32) (ix2 a n) = (W main_v57 : FVec Ideal S4x1024 .f32) (ix2 a n) := by
  have e : (((cfg0.win 3).blk t).view.emb (ix2 a n) : S4x1024.Idx) = ix2 a n := by blk_ext [idx t, row]
  exact congrArg (W main_v57) e

theorem g4 (c : Dev nD) (W : (b : Ref sig .tc) → Buf (Elt Ideal) ((c : Thread nD τ).loc b)) (t : Fin cfg0.N) (a : Fin 1) (n : Fin 8) :
    (((cfg0.win 4).blk t).view.read (Elt Ideal) (W (Pipeline.arrRef spec0 4)) : FVec Ideal S1x8 .f32) (ix2 a n) = (W main_v23 : FVec Ideal S1x8 .f32) (ix2 a n) := by
  have e : (((cfg0.win 4).blk t).view.emb (ix2 a n) : S1x8.Idx) = ix2 a n := by blk_ext [idx t, row]
  exact congrArg (W main_v23) e

theorem g5 (c : Dev nD) (W : (b : Ref sig .tc) → Buf (Elt Ideal) ((c : Thread nD τ).loc b)) (t : Fin cfg0.N) (a : Fin 8) (n : Fin 1) :
    (((cfg0.win 5).blk t).view.read (Elt Ideal) (W (Pipeline.arrRef spec0 5)) : FVec Ideal S8x1 .f32) (ix2 a n) = (W main_v24 : FVec Ideal S8x1 .f32) (ix2 a n) := by
  have e : (((cfg0.win 5).blk t).view.emb (ix2 a n) : S8x1.Idx) = ix2 a n := by blk_ext [idx t, row]
  exact congrArg (W main_v24) e

theorem g6 (c : Dev nD) (W : (b : Ref sig .tc) → Buf (Elt Ideal) ((c : Thread nD τ).loc b)) (t : Fin cfg0.N) (a : Fin 1024) (n : Fin 1024) :
    (((cfg0.win 6).blk t).view.read (Elt Ideal) (W (Pipeline.arrRef spec0 6)) : FVec Ideal S1024x1024 .bf16) (ix2 a n) = (W main_v2 : FVec Ideal S1024x1024 .bf16) (ix2 a n) := by
  have e : (((cfg0.win 6).blk t).view.emb (ix2 a n) : S1024x1024.Idx) = ix2 a n := by blk_ext [idx t, row]
  exact congrArg (W main_v2) e

theorem g7 (c : Dev nD) (W : (b : Ref sig .tc) → Buf (Elt Ideal) ((c : Thread nD τ).loc b)) (t : Fin cfg0.N) (a : Fin 1024) (n : Fin 1024) :
    (((cfg0.win 7).blk t).view.read (Elt Ideal) (W (Pipeline.arrRef spec0 7)) : FVec Ideal S1024x1024 .bf16) (ix2 a n) = (W main_v4 : FVec Ideal S1024x1024 .bf16) (ix2 a n) := by
  have e : (((cfg0.win 7).blk t).view.emb (ix2 a n) : S1024x1024.Idx) = ix2 a n := by blk_ext [idx t, row]
  exact congrArg (W main_v4) e

theorem g8 (c : Dev nD) (W : (b : Ref sig .tc) → Buf (Elt Ideal) ((c : Thread nD τ).loc b)) (t : Fin cfg0.N) (a : Fin 1024) (n : Fin 512) :
    (((cfg0.win 8).blk t).view.read (Elt Ideal) (W (Pipeline.arrRef spec0 8)) : FVec Ideal S1024x512 .bf16) (ix2 a n) = (W main_v6 : FVec Ideal S1024x512 .bf16) (ix2 a n) := by
  have e : (((cfg0.win 8).blk t).view.emb (ix2 a n) : S1024x512.Idx) = ix2 a n := by blk_ext [idx t, row]
  exact congrArg (W main_v6) e

theorem g9 (c : Dev nD) (W : (b : Ref sig .tc) → Buf (Elt Ideal) ((c : Thread nD τ).loc b)) (t : Fin cfg0.N) (a : Fin 1024) (n : Fin 2048) :
    (((cfg0.win 9).blk t).view.read (Elt Ideal) (W (Pipeline.arrRef spec0 9)) : FVec Ideal S1024x2048 .bf16) (ix2 a n) = (W main_v8 : FVec Ideal S1024x2048 .bf16) (ix2 a n) := by
  have e : (((cfg0.win 9).blk t).view.emb (ix2 a n) : S1024x2048.Idx) = ix2 a n := by blk_ext [idx t, row]
  exact congrArg (W main_v8) e

theorem g10 (c : Dev nD) (W : (b : Ref sig .tc) → Buf (Elt Ideal) ((c : Thread nD τ).loc b)) (t : Fin cfg0.N) (a : Fin 1024) (n : Fin 8) :
    (((cfg0.win 10).blk t).view.read (Elt Ideal) (W (Pipeline.arrRef spec0 10)) : FVec Ideal S1024x8 .bf16) (ix2 a n) = (W main_v12 : FVec Ideal S1024x8 .bf16) (ix2 a n) := by
  have e : (((cfg0.win 10).blk t).view.emb (ix2 a n) : S1024x8.Idx) = ix2 a n := by blk_ext [idx t, row]
  exact congrArg (W main_v12) e

theorem g11 (c : Dev nD) (W : (b : Ref sig .tc) → Buf (Elt Ideal) ((c : Thread nD τ).loc b)) (t : Fin cfg0.N) (a : Fin 1024) (n : Fin 1024) :
    (((cfg0.win 11).blk t).view.read (Elt Ideal) (W (Pipeline.arrRef spec0 11)) : FVec Ideal S1024x1024 .bf16) (ix2 a n) = (W main_v19 : FVec Ideal S1024x1024 .bf16) (ix2 a n) := by
  have e : (((cfg0.win 11).blk t).view.emb (ix2 a n) : S1024x1024.Idx) = ix2 a n := by blk_ext [idx t, row]
  exact congrArg (W main_v19) e

theorem g12 (c : Dev nD) (W : (b : Ref sig .tc) → Buf (Elt Ideal) ((c : Thread nD τ).loc b)) (t : Fin cfg0.N) (a : Fin 8) (n : Fin 1024) :
    (((cfg0.win 12).blk t).view.read (Elt Ideal) (W (Pipeline.arrRef spec0 12)) : FVec Ideal S8x1024 .bf16) (ix2 a n) = (W main_v14 : FVec Ideal S8x1024 .bf16) (ix2 a n) := by
  have e : (((cfg0.win 12).blk t).view.emb (ix2 a n) : S8x1024.Idx) = ix2 a n := by blk_ext [idx t, row]
  exact congrArg (W main_v14) e

/-! The blocks. -/

theorem b0 (c : Dev nD) (t : Fin cfg0.N) (r : Fin 512) (k : Fin 1024) : (iblk m c 0 t : FVec Ideal S1x512x1024 .f32) (ix3 0 r k) = X m c (seq t) (row t r) k := by
  unfold iblk X
  refine (g0 c (V m c) t r k).trans ?_
  rw [V_main_arg0]

theorem b1 (c : Dev nD) (t : Fin cfg0.N) (k : Fin 1024) : (iblk m c 1 t : FVec Ideal S1x1024 .f32) (ix2 0 k) = G m c k := by
  unfold iblk G
  refine (g1 c (V m c) t k).trans ?_
  rw [V_main_arg1]

theorem t2 (c : Dev nD) (t : Fin cfg0.N) (a : Fin 512) (n : Fin 768) : tile2 m c t (ix2 a n) = (V m c main_v56 : FVec Ideal S4096x768 .f32) (ix2 (row t a) n) := by
  unfold tile2 iblk
  exact g2 c (V m c) t a n

theorem t3 (c : Dev nD) (t : Fin cfg0.N) (a : Fin 4) (n : Fin 1024) : tile3 m c t (ix2 a n) = (V m c main_v57 : FVec Ideal S4x1024 .f32) (ix2 a n) := by
  unfold tile3 iblk
  exact g3 c (V m c) t a n

theorem t4 (c : Dev nD) (t : Fin cfg0.N) (a : Fin 1) (n : Fin 8) : tile4 m c t (ix2 a n) = (V m c main_v23 : FVec Ideal S1x8 .f32) (ix2 a n) := by
  unfold tile4 iblk
  exact g4 c (V m c) t a n

theorem t5 (c : Dev nD) (t : Fin cfg0.N) (a : Fin 8) (n : Fin 1) : tile5 m c t (ix2 a n) = (V m c main_v24 : FVec Ideal S8x1 .f32) (ix2 a n) := by
  unfold tile5 iblk
  exact g5 c (V m c) t a n

theorem t6 (c : Dev nD) (t : Fin cfg0.N) (a : Fin 1024) (n : Fin 1024) : tile6 m c t (ix2 a n) = (V m c main_v2 : FVec Ideal S1024x1024 .bf16) (ix2 a n) := by
  unfold tile6 iblk
  exact g6 c (V m c) t a n

theorem t7 (c : Dev nD) (t : Fin cfg0.N) (a : Fin 1024) (n : Fin 1024) : tile7 m c t (ix2 a n) = (V m c main_v4 : FVec Ideal S1024x1024 .bf16) (ix2 a n) := by
  unfold tile7 iblk
  exact g7 c (V m c) t a n

theorem t8 (c : Dev nD) (t : Fin cfg0.N) (a : Fin 1024) (n : Fin 512) : tile8 m c t (ix2 a n) = (V m c main_v6 : FVec Ideal S1024x512 .bf16) (ix2 a n) := by
  unfold tile8 iblk
  exact g8 c (V m c) t a n

theorem t9 (c : Dev nD) (t : Fin cfg0.N) (a : Fin 1024) (n : Fin 2048) : tile9 m c t (ix2 a n) = (V m c main_v8 : FVec Ideal S1024x2048 .bf16) (ix2 a n) := by
  unfold tile9 iblk
  exact g9 c (V m c) t a n

theorem t10 (c : Dev nD) (t : Fin cfg0.N) (a : Fin 1024) (n : Fin 8) : tile10 m c t (ix2 a n) = (V m c main_v12 : FVec Ideal S1024x8 .bf16) (ix2 a n) := by
  unfold tile10 iblk
  exact g10 c (V m c) t a n

theorem t11 (c : Dev nD) (t : Fin cfg0.N) (a : Fin 1024) (n : Fin 1024) : tile11 m c t (ix2 a n) = (V m c main_v19 : FVec Ideal S1024x1024 .bf16) (ix2 a n) := by
  unfold tile11 iblk
  exact g11 c (V m c) t a n

theorem t12 (c : Dev nD) (t : Fin cfg0.N) (a : Fin 8) (n : Fin 1024) : tile12 m c t (ix2 a n) = (V m c main_v14 : FVec Ideal S8x1024 .bf16) (ix2 a n) := by
  unfold tile12 iblk
  exact g12 c (V m c) t a n

/-! The normalised row and its products with the weights. -/

theorem pay2 (A : Vec Ideal S1x512x1024 .f32) (B : Vec Ideal S1x1024 .f32) (r : Fin 512) (k : Fin 1024) :
    k0_pay2 (F := Ideal) A B (ix2 r k) = Row.rms (fun k => A (ix3 0 r k)) (fun k => B (ix2 0 k)) k := by
  pointwise [k0_pay2, Row.rms]

theorem u_at (c : Dev nD) (t : Fin cfg0.N) (r : Fin 512) (k : Fin 1024) : tileU m c t (ix2 r k) = Row.rms (X m c (seq t) (row t r)) (G m c) k := by
  have eX : (X m c (seq t) (row t r) : Fin 1024 → EReal) = fun k => (iblk m c 0 t : Vec Ideal S1x512x1024 .f32) (ix3 0 r k) := funext fun k => (b0 m c t r k).symm
  have eG : (G m c : Fin 1024 → EReal) = fun k => (iblk m c 1 t : Vec Ideal S1x1024 .f32) (ix2 0 k) := funext fun k => (b1 m c t k).symm
  rw [eX, eG]
  exact pay2 _ _ r k

abbrev Z (c : Dev nD) (b : Fin 8) (s : Fin 4096) (n : Fin 5640) : EReal := MixRow.z (X m c) (G m c) (Wt m c) b s n

theorem Z_eq (c : Dev nD) (b : Fin 8) (s : Fin 4096) (n : Fin 5640) : Z m c b s n = ∑ k : Fin 1024, Row.rms (X m c b s) (G m c) k * Wt m c k n := rfl

theorem z6 (c : Dev nD) (t : Fin cfg0.N) (r : Fin 512) (n : Fin 1024) :
    ∑ k : Fin 1024, tileU m c t (ix2 r k) * tile6 m c t (ix2 k n) = Z m c (seq t) (row t r) ⟨n.val, by omega⟩ := by
  rw [Z_eq]
  refine Finset.sum_congr rfl fun k _ => ?_
  rw [u_at, t6, Host.v2]
  rfl

theorem z7 (c : Dev nD) (t : Fin cfg0.N) (r : Fin 512) (n : Fin 1024) :
    tileZ (tileU m c t) (tile7 m c t) r n = Z m c (seq t) (row t r) ⟨1536 + n.val, by omega⟩ := by
  rw [Z_eq]
  refine Finset.sum_congr rfl fun k _ => ?_
  rw [u_at, t7, Host.v4]
  rfl

theorem z8 (c : Dev nD) (t : Fin cfg0.N) (r : Fin 512) (n : Fin 512) :
    ∑ k : Fin 1024, tileU m c t (ix2 r k) * tile8 m c t (ix2 k n) = Z m c (seq t) (row t r) ⟨3072 + n.val, by omega⟩ := by
  rw [Z_eq]
  refine Finset.sum_congr rfl fun k _ => ?_
  rw [u_at, t8, Host.v6]
  rfl

theorem z9 (c : Dev nD) (t : Fin cfg0.N) (r : Fin 512) (n : Fin 2048) :
    ∑ k : Fin 1024, tileU m c t (ix2 r k) * tile9 m c t (ix2 k n) = Z m c (seq t) (row t r) ⟨3592 + n.val, by omega⟩ := by
  rw [Z_eq]
  refine Finset.sum_congr rfl fun k _ => ?_
  rw [u_at, t9, Host.v8]
  rfl

theorem z11a (c : Dev nD) (t : Fin cfg0.N) (r : Fin 512) (a : Fin 1024) (h : a.val < 512) :
    dotp (fun k => tile11 m c t (ix2 a k)) (fun k => tileU m c t (ix2 r k)) = Z m c (seq t) (row t r) ⟨1024 + a.val, by omega⟩ := by
  rw [Z_eq]
  refine Finset.sum_congr rfl fun k _ => ?_
  dsimp only
  rw [u_at, t11, Host.v19, dif_pos h, mul_comm]
  rfl

theorem z11b (c : Dev nD) (t : Fin cfg0.N) (r : Fin 512) (a : Fin 1024) (h : ¬a.val < 512) :
    dotp (fun k => tile11 m c t (ix2 a k)) (fun k => tileU m c t (ix2 r k)) = Z m c (seq t) (row t r) ⟨2560 + (a.val - 512), by omega⟩ := by
  rw [Z_eq]
  refine Finset.sum_congr rfl fun k _ => ?_
  dsimp only
  rw [u_at, t11, Host.v19, dif_neg h, mul_comm]
  rfl

/-- A gate's pre-activation: the forget gates first, then the input gates. -/
def pre (c : Dev nD) (b : Fin 8) (s : Fin 4096) (n : Fin 8) : EReal :=
  if h : n.val < 4 then Z m c b s ⟨3588 + n.val, by omega⟩ + Bf m c ⟨n.val, h⟩
  else Z m c b s ⟨3584 + (n.val - 4), by omega⟩ + Bi m c ⟨n.val - 4, by omega⟩

theorem pre_col (c : Dev nD) (t : Fin cfg0.N) (r : Fin 512) (n : Fin 8) :
    ∑ k : Fin 1024, tileU m c t (ix2 r k) * tile10 m c t (ix2 k n) + tile4 m c t (ix2 0 n) = pre m c (seq t) (row t r) n := by
  rw [t4, Host.v23]
  unfold pre
  by_cases h : n.val < 4
  · rw [dif_pos h, dif_pos h]
    have e : ∑ k : Fin 1024, tileU m c t (ix2 r k) * tile10 m c t (ix2 k n) = Z m c (seq t) (row t r) ⟨3588 + n.val, by omega⟩ := by
      rw [Z_eq]
      refine Finset.sum_congr rfl fun k _ => ?_
      rw [u_at, t10, Host.v12, dif_pos h]
      rfl
    rw [e]
    rfl
  · rw [dif_neg h, dif_neg h]
    have e : ∑ k : Fin 1024, tileU m c t (ix2 r k) * tile10 m c t (ix2 k n) = Z m c (seq t) (row t r) ⟨3584 + (n.val - 4), by omega⟩ := by
      rw [Z_eq]
      refine Finset.sum_congr rfl fun k _ => ?_
      rw [u_at, t10, Host.v12, dif_neg h]
      rfl
    rw [e]
    rfl

theorem pre_row (c : Dev nD) (t : Fin cfg0.N) (r : Fin 512) (n : Fin 8) :
    ∑ k : Fin 1024, tile12 m c t (ix2 n k) * tileU m c t (ix2 r k) + tile5 m c t (ix2 n 0) = pre m c (seq t) (row t r) n := by
  rw [t5, Host.v24]
  unfold pre
  by_cases h : n.val < 4
  · rw [dif_pos h, dif_pos h]
    have e : ∑ k : Fin 1024, tile12 m c t (ix2 n k) * tileU m c t (ix2 r k) = Z m c (seq t) (row t r) ⟨3588 + n.val, by omega⟩ := by
      rw [Z_eq]
      refine Finset.sum_congr rfl fun k _ => ?_
      rw [u_at, t12, Host.v14, dif_pos h, mul_comm]
      rfl
    rw [e]
    rfl
  · rw [dif_neg h, dif_neg h]
    have e : ∑ k : Fin 1024, tile12 m c t (ix2 n k) * tileU m c t (ix2 r k) = Z m c (seq t) (row t r) ⟨3584 + (n.val - 4), by omega⟩ := by
      rw [Z_eq]
      refine Finset.sum_congr rfl fun k _ => ?_
      rw [u_at, t12, Host.v14, dif_neg h, mul_comm]
      rfl
    rw [e]
    rfl

/-! The table of rotations at a row. -/

theorem tab0 (c : Dev nD) (t : Fin cfg0.N) (r : Fin 512) (l : Fin 128) : tile2 m c t (ix2 r ⟨0 + l.val, by omega⟩) = Ideal.cos (MixRow.angle (row t r) ⟨l.val % 32, Host.ang_lt l⟩) := by
  rw [t2]
  refine (Host.tab0 m c _ l).trans ?_
  rw [Host.v45]

theorem tab128 (c : Dev nD) (t : Fin cfg0.N) (r : Fin 512) (l : Fin 128) : tile2 m c t (ix2 r ⟨128 + l.val, by omega⟩) = Scalar.select (Host.first l) (-Ideal.sin (MixRow.angle (row t r) ⟨l.val % 32, Host.ang_lt l⟩)) (Ideal.ofBits .f32 0x00000000#32) := by
  rw [t2]
  refine (Host.tab128 m c _ l).trans ?_
  rw [Host.v48]

theorem tab256 (c : Dev nD) (t : Fin cfg0.N) (r : Fin 512) (l : Fin 128) : tile2 m c t (ix2 r ⟨256 + l.val, by omega⟩) = Scalar.select (Host.first l) (Ideal.ofBits .f32 0x00000000#32) (Ideal.sin (MixRow.angle (row t r) ⟨l.val % 32, Host.ang_lt l⟩)) := by
  rw [t2]
  refine (Host.tab256 m c _ l).trans ?_
  rw [Host.v49]

theorem tab384 (c : Dev nD) (t : Fin cfg0.N) (r : Fin 512) (l : Fin 128) : tile2 m c t (ix2 r ⟨384 + l.val, by omega⟩) = @HMul.hMul EReal EReal EReal _ (Ideal.cos (MixRow.angle (row t r) ⟨l.val % 32, Host.ang_lt l⟩)) (Ideal.ofBits .f32 0x3E38AA3B#32) := by
  rw [t2]
  refine (Host.tab384 m c _ l).trans ?_
  rw [Host.v45]

theorem tab512 (c : Dev nD) (t : Fin cfg0.N) (r : Fin 512) (l : Fin 128) : tile2 m c t (ix2 r ⟨512 + l.val, by omega⟩) = @HMul.hMul EReal EReal EReal _ (Scalar.select (Host.first l) (-Ideal.sin (MixRow.angle (row t r) ⟨l.val % 32, Host.ang_lt l⟩)) (Ideal.ofBits .f32 0x00000000#32)) (Ideal.ofBits .f32 0x3E38AA3B#32) := by
  rw [t2]
  refine (Host.tab512 m c _ l).trans ?_
  rw [Host.v48]

theorem tab640 (c : Dev nD) (t : Fin cfg0.N) (r : Fin 512) (l : Fin 128) : tile2 m c t (ix2 r ⟨640 + l.val, by omega⟩) = @HMul.hMul EReal EReal EReal _ (Scalar.select (Host.first l) (Ideal.ofBits .f32 0x00000000#32) (Ideal.sin (MixRow.angle (row t r) ⟨l.val % 32, Host.ang_lt l⟩))) (Ideal.ofBits .f32 0x3E38AA3B#32) := by
  rw [t2]
  refine (Host.tab640 m c _ l).trans ?_
  rw [Host.v49]

end Cert.MixIdeal.Array
end
-- ==== Proof.MixRot.lean ====
/- The rotation the kernel forms from its table is the rotation by the angle. -/
module

public import proofs.«01_k».proof.Proof.MixTiles
public import proofs.«01_k».proof.Proof.MixSpec
public import proofs.«01_k».proof.Proof.MixHost

@[expose] public section
noncomputable section
namespace Cert.MixRot
open Cert.MixBlock Idealize.ShloMosaic

/-- The scale of the queries as a real number, not negative. -/
theorem scale : ∃ s : ℝ, 0 ≤ s ∧ Ideal.ofBits .f32 0x3E38AA3B#32 = (s : EReal) := by
  refine ⟨_, ?_, by simp only [Ideal.ofBits, Ideal.ieee]; simp [-EReal.coe_mul]; rfl⟩
  positivity

/-- The three products of a rotation, in the two halves of a head. -/
theorem three (f : Prop) [Decidable f] (b : BitVec 1) (hb : b = if f then 1#1 else 0#1) (z y w c s o : EReal) (ho : o = 0) :
    z * c + y * Scalar.select b (-s) o + w * Scalar.select b o s = if f then z * c - y * s else z * c + w * s := by
  subst hb ho
  by_cases h : f
  · rw [if_pos h, if_pos h]
    show z * c + y * -s + w * 0 = _
    rw [mul_zero, add_zero, mul_neg]
    rfl
  · rw [if_neg h, if_neg h]
    show z * c + y * 0 + w * s = _
    rw [mul_zero, add_zero]

/-- The same with every factor scaled by a real that is not negative. -/
theorem threeS (r : EReal) (h0 : 0 ≤ r) (ht : r ≠ ⊤) (z y w c p q : EReal) :
    z * (c * r) + y * (p * r) + w * (q * r) = (z * c + y * p + w * q) * r := by
  rw [EReal.right_distrib_of_nonneg_of_ne_top h0 ht, EReal.right_distrib_of_nonneg_of_ne_top h0 ht]
  simp only [mul_assoc]

theorem rope_eq (z : Fin 512 → EReal) (s : Fin 4096) (n : Fin 512) :
    rot z (fun l => Ideal.cos (MixRow.angle s ⟨l.val % 32, MixIdeal.Host.ang_lt l⟩))
        (fun l => Scalar.select (MixIdeal.Host.first l) (-Ideal.sin (MixRow.angle s ⟨l.val % 32, MixIdeal.Host.ang_lt l⟩)) (Ideal.ofBits .f32 0x00000000#32))
        (fun l => Scalar.select (MixIdeal.Host.first l) (Ideal.ofBits .f32 0x00000000#32) (Ideal.sin (MixRow.angle s ⟨l.val % 32, MixIdeal.Host.ang_lt l⟩))) n
      = MixRow.rope z s n := by
  unfold rot
  dsimp only
  rw [three (n.val % 64 < 32) _ (by
    unfold MixIdeal.Host.first
    have e : n.val % 128 % 64 = n.val % 64 := by omega
    simp only [e]) _ _ _ _ _ _ Ideal.ofBits_zero_f32]
  unfold MixRow.rope
  have e3 : n.val % 128 % 32 = n.val % 32 := by omega
  by_cases h : n.val % 64 < 32
  · rw [if_pos h, dif_pos h]
    have ea : (⟨n.val % 128 % 32, MixIdeal.Host.ang_lt ⟨n.val % 128, by omega⟩⟩ : Fin 32) = ⟨n.val % 64, h⟩ := Fin.ext (by show n.val % 128 % 32 = n.val % 64; omega)
    have ez : (⟨n.val / 128 * 128 + (n.val % 128 + 128 - 96) % 128, by omega⟩ : Fin 512) = ⟨n.val / 64 * 64 + (32 + n.val % 64), by omega⟩ := Fin.ext (by show n.val / 128 * 128 + (n.val % 128 + 128 - 96) % 128 = n.val / 64 * 64 + (32 + n.val % 64); omega)
    rw [ea, ez]
  · rw [if_neg h, dif_neg h]
    have ea : (⟨n.val % 128 % 32, MixIdeal.Host.ang_lt ⟨n.val % 128, by omega⟩⟩ : Fin 32) = ⟨n.val % 64 - 32, by omega⟩ := Fin.ext (by show n.val % 128 % 32 = n.val % 64 - 32; omega)
    have ez : (⟨n.val / 128 * 128 + (n.val % 128 + 128 - 32) % 128, by omega⟩ : Fin 512) = ⟨n.val / 64 * 64 + (n.val % 64 - 32), by omega⟩ := Fin.ext (by show n.val / 128 * 128 + (n.val % 128 + 128 - 32) % 128 = n.val / 64 * 64 + (n.val % 64 - 32); omega)
    have en : n = (⟨n.val / 64 * 64 + (32 + (n.val % 64 - 32)), by omega⟩ : Fin 512) := Fin.ext (by show n.val = n.val / 64 * 64 + (32 + (n.val % 64 - 32)); omega)
    rw [ea, ez]
    exact congrArg (fun q : Fin 512 => z q * _ + _) en

theorem rope_scaled (z : Fin 512 → EReal) (p q s : Fin 128 → EReal) (r : EReal) (h0 : 0 ≤ r) (ht : r ≠ ⊤) (n : Fin 512) :
    rot z (fun l => p l * r) (fun l => q l * r) (fun l => s l * r) n = rot z p q s n * r := by
  unfold rot
  exact threeS r h0 ht _ _ _ _ _ _

theorem rope_q (z : Fin 512 → EReal) (p q s : Fin 128 → EReal) (n : Fin 512) :
    rot z (fun l => p l * Ideal.ofBits .f32 0x3E38AA3B#32) (fun l => q l * Ideal.ofBits .f32 0x3E38AA3B#32) (fun l => s l * Ideal.ofBits .f32 0x3E38AA3B#32) n
      = rot z p q s n * Ideal.ofBits .f32 0x3E38AA3B#32 := by
  obtain ⟨r, h0, e⟩ := scale
  rw [e]
  exact rope_scaled z p q s (r : EReal) (EReal.coe_nonneg.mpr h0) (EReal.coe_ne_top r) n

end Cert.MixRot
end
-- ==== Proof.MixQk.lean ====
/- The queries, the keys and the keys' means a point leaves. -/
module

public import proofs.«01_k».proof.Proof.MixTiles
public import Idealize.ShloMosaic.Lib.Pipeline.ValueKit
public import Idealize.ShloMosaic.Lib.Pointwise
public import Idealize.ShloMosaic.Lib.VecWindow

@[expose] public section
set_option maxRecDepth 16384
noncomputable section
namespace Cert.MixBlock
open Cert.MixIdeal Cert.MixIdeal.Gen Cert.MixRun Idealize.ShloMosaic Idealize.ShloMosaic.TcCoe Idealize.ShloMosaic.Tactic Idealize.SL.Sem
open Idealize.ShloMosaic.Pipeline (Dat)

theorem q_A (m : (ℓ : Loc nD τ sig) → Buf (Elt Ideal) ℓ) (c : Dev nD) (t : Fin cfg0.N) (h0 : t.val % 8 = 0) (r : Fin 512) (n : Fin 512) :
    leftA_13 m c t h0 (ix3 0 r n) = rot (fun n => ∑ k : Fin 1024, tileU m c t (ix2 r k) * tile6 m c t (ix2 k ⟨n.val, by omega⟩)) (fun l => tile2 m c t (ix2 r ⟨384 + l.val, by omega⟩)) (fun l => tile2 m c t (ix2 r ⟨512 + l.val, by omega⟩)) (fun l => tile2 m c t (ix2 r ⟨640 + l.val, by omega⟩)) n := by
  unfold leftA_13
  rw [View.read_writes_eq_canon _ _ _ (covA_13 m c t h0)]
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
  simp (disch := decide) only [View.ld_unit_lit', View.canon_cons_unit_lit', View.readCov_unit_lit']
  unfold tileU tile6 tile2
  generalize k0_pay2 (F := Ideal) (iblk m c 0 t) (iblk m c 1 t) = U
  generalize iblk m c 6 t = W
  generalize iblk m c 2 t = T
  refine View.canon_apply_of_pieces (Val := Elt Ideal) (S := S1x512x512) (e := .bf16) (fun i => rot (fun n => ∑ k : Fin 1024, U (ix2 (i 1) k) * W (ix2 k ⟨n.val, by omega⟩)) (fun l => T (ix2 (i 1) ⟨384 + l.val, by omega⟩)) (fun l => T (ix2 (i 1) ⟨512 + l.val, by omega⟩)) (fun l => T (ix2 (i 1) ⟨640 + l.val, by omega⟩)) (i 2)) _ ?_ _ ?_
  · simp only [List.forall_mem_cons, List.not_mem_nil, false_imp_iff, implies_true, and_true]
    refine ⟨?_, ?_, ?_, ?_⟩ <;> intro x
    all_goals idx_vars x
    all_goals pointwise [rot, dotp, k0_pay5, k0_pay6, k0_pay7, k0_pay8, k0_pay9, k0_pay10, k0_pay29, k0_pay30, k0_pay31, k0_pay32, k0_pay33, k0_pay34]
    all_goals blk_point []
  · exact View.cover_of_tiledL _ ![1, 512, 128] (by sl_kernel_rfl) _

theorem q_B (m : (ℓ : Loc nD τ sig) → Buf (Elt Ideal) ℓ) (c : Dev nD) (t : Fin cfg0.N) (h0 : ¬t.val % 8 = 0) (xs : Vec Ideal S520x1024 .f32) (r : Fin 512) (n : Fin 512) :
    leftB_13 m c t h0 xs (ix3 0 r n) = rot (fun n => ∑ k : Fin 1024, tileU m c t (ix2 r k) * tile6 m c t (ix2 k ⟨n.val, by omega⟩)) (fun l => tile2 m c t (ix2 r ⟨384 + l.val, by omega⟩)) (fun l => tile2 m c t (ix2 r ⟨512 + l.val, by omega⟩)) (fun l => tile2 m c t (ix2 r ⟨640 + l.val, by omega⟩)) n := by
  unfold leftB_13
  rw [View.read_writes_eq_canon _ _ _ (covB_13 m c t h0 xs)]
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
  simp (disch := decide) only [View.ld_unit_lit', View.canon_cons_unit_lit', View.readCov_unit_lit']
  unfold tileU tile6 tile2
  generalize k0_pay2 (F := Ideal) (iblk m c 0 t) (iblk m c 1 t) = U
  generalize iblk m c 6 t = W
  generalize iblk m c 2 t = T
  refine View.canon_apply_of_pieces (Val := Elt Ideal) (S := S1x512x512) (e := .bf16) (fun i => rot (fun n => ∑ k : Fin 1024, U (ix2 (i 1) k) * W (ix2 k ⟨n.val, by omega⟩)) (fun l => T (ix2 (i 1) ⟨384 + l.val, by omega⟩)) (fun l => T (ix2 (i 1) ⟨512 + l.val, by omega⟩)) (fun l => T (ix2 (i 1) ⟨640 + l.val, by omega⟩)) (i 2)) _ ?_ _ ?_
  · simp only [List.forall_mem_cons, List.not_mem_nil, false_imp_iff, implies_true, and_true]
    refine ⟨?_, ?_, ?_, ?_⟩ <;> intro x
    all_goals idx_vars x
    all_goals pointwise [rot, dotp, k0_pay5, k0_pay6, k0_pay7, k0_pay8, k0_pay9, k0_pay10, k0_pay29, k0_pay30, k0_pay31, k0_pay32, k0_pay33, k0_pay34]
    all_goals blk_point []
  · exact View.cover_of_tiledL _ ![1, 512, 128] (by sl_kernel_rfl) _

theorem k_A (m : (ℓ : Loc nD τ sig) → Buf (Elt Ideal) ℓ) (c : Dev nD) (t : Fin cfg0.N) (h0 : t.val % 8 = 0) (r : Fin 512) (n : Fin 512) :
    leftA_14 m c t h0 (ix3 0 r n) = rot (fun n => ∑ k : Fin 1024, tileU m c t (ix2 r k) * tile6 m c t (ix2 k ⟨512 + n.val, by omega⟩)) (fun l => tile2 m c t (ix2 r ⟨0 + l.val, by omega⟩)) (fun l => tile2 m c t (ix2 r ⟨128 + l.val, by omega⟩)) (fun l => tile2 m c t (ix2 r ⟨256 + l.val, by omega⟩)) n := by
  unfold leftA_14
  rw [View.read_writes_eq_canon _ _ _ (covA_14 m c t h0)]
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
  simp (disch := decide) only [View.ld_unit_lit', View.canon_cons_unit_lit', View.readCov_unit_lit']
  unfold tileU tile6 tile2
  generalize k0_pay2 (F := Ideal) (iblk m c 0 t) (iblk m c 1 t) = U
  generalize iblk m c 6 t = W
  generalize iblk m c 2 t = T
  refine View.canon_apply_of_pieces (Val := Elt Ideal) (S := S1x512x512) (e := .bf16) (fun i => rot (fun n => ∑ k : Fin 1024, U (ix2 (i 1) k) * W (ix2 k ⟨512 + n.val, by omega⟩)) (fun l => T (ix2 (i 1) ⟨0 + l.val, by omega⟩)) (fun l => T (ix2 (i 1) ⟨128 + l.val, by omega⟩)) (fun l => T (ix2 (i 1) ⟨256 + l.val, by omega⟩)) (i 2)) _ ?_ _ ?_
  · simp only [List.forall_mem_cons, List.not_mem_nil, false_imp_iff, implies_true, and_true]
    refine ⟨?_, ?_, ?_, ?_⟩ <;> intro x
    all_goals idx_vars x
    all_goals pointwise [rot, dotp, k0_pay53, k0_pay54, k0_pay55, k0_pay56, k0_pay57, k0_pay58, k0_pay59, k0_pay60, k0_pay61, k0_pay62, k0_pay63, k0_pay64, k0_pay69, k0_pay70, k0_pay71, k0_pay72, k0_pay73, k0_pay74, k0_pay75, k0_pay76, k0_pay77, k0_pay78, k0_pay79, k0_pay80, k0_pay81, k0_pay82]
    all_goals blk_point []
  · exact View.cover_of_tiledL _ ![1, 512, 128] (by sl_kernel_rfl) _

theorem k_B (m : (ℓ : Loc nD τ sig) → Buf (Elt Ideal) ℓ) (c : Dev nD) (t : Fin cfg0.N) (h0 : ¬t.val % 8 = 0) (xs : Vec Ideal S520x1024 .f32) (r : Fin 512) (n : Fin 512) :
    leftB_14 m c t h0 xs (ix3 0 r n) = rot (fun n => ∑ k : Fin 1024, tileU m c t (ix2 r k) * tile6 m c t (ix2 k ⟨512 + n.val, by omega⟩)) (fun l => tile2 m c t (ix2 r ⟨0 + l.val, by omega⟩)) (fun l => tile2 m c t (ix2 r ⟨128 + l.val, by omega⟩)) (fun l => tile2 m c t (ix2 r ⟨256 + l.val, by omega⟩)) n := by
  unfold leftB_14
  rw [View.read_writes_eq_canon _ _ _ (covB_14 m c t h0 xs)]
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
  simp (disch := decide) only [View.ld_unit_lit', View.canon_cons_unit_lit', View.readCov_unit_lit']
  unfold tileU tile6 tile2
  generalize k0_pay2 (F := Ideal) (iblk m c 0 t) (iblk m c 1 t) = U
  generalize iblk m c 6 t = W
  generalize iblk m c 2 t = T
  refine View.canon_apply_of_pieces (Val := Elt Ideal) (S := S1x512x512) (e := .bf16) (fun i => rot (fun n => ∑ k : Fin 1024, U (ix2 (i 1) k) * W (ix2 k ⟨512 + n.val, by omega⟩)) (fun l => T (ix2 (i 1) ⟨0 + l.val, by omega⟩)) (fun l => T (ix2 (i 1) ⟨128 + l.val, by omega⟩)) (fun l => T (ix2 (i 1) ⟨256 + l.val, by omega⟩)) (i 2)) _ ?_ _ ?_
  · simp only [List.forall_mem_cons, List.not_mem_nil, false_imp_iff, implies_true, and_true]
    refine ⟨?_, ?_, ?_, ?_⟩ <;> intro x
    all_goals idx_vars x
    all_goals pointwise [rot, dotp, k0_pay53, k0_pay54, k0_pay55, k0_pay56, k0_pay57, k0_pay58, k0_pay59, k0_pay60, k0_pay61, k0_pay62, k0_pay63, k0_pay64, k0_pay69, k0_pay70, k0_pay71, k0_pay72, k0_pay73, k0_pay74, k0_pay75, k0_pay76, k0_pay77, k0_pay78, k0_pay79, k0_pay80, k0_pay81, k0_pay82]
    all_goals blk_point []
  · exact View.cover_of_tiledL _ ![1, 512, 128] (by sl_kernel_rfl) _

theorem km_A (m : (ℓ : Loc nD τ sig) → Buf (Elt Ideal) ℓ) (c : Dev nD) (t : Fin cfg0.N) (h0 : t.val % 8 = 0) (h : Fin 2) (n : Fin 512) :
    leftA_15 m c t h0 (ix4 0 0 h n) = mean256 (fun r => rot (fun n => ∑ k : Fin 1024, tileU m c t (ix2 (⟨(h).val * 256 + r.val, tile_row _ _⟩ : Fin 512) k) * tile6 m c t (ix2 k ⟨512 + n.val, by omega⟩)) (fun l => tile2 m c t (ix2 (⟨(h).val * 256 + r.val, tile_row _ _⟩ : Fin 512) ⟨0 + l.val, by omega⟩)) (fun l => tile2 m c t (ix2 (⟨(h).val * 256 + r.val, tile_row _ _⟩ : Fin 512) ⟨128 + l.val, by omega⟩)) (fun l => tile2 m c t (ix2 (⟨(h).val * 256 + r.val, tile_row _ _⟩ : Fin 512) ⟨256 + l.val, by omega⟩)) n) := by
  unfold leftA_15
  rw [View.read_writes_eq_canon _ _ _ (covA_15 m c t h0)]
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
  simp (disch := decide) only [View.ld_unit_lit', View.canon_cons_unit_lit', View.readCov_unit_lit']
  unfold tileU tile6 tile2
  generalize k0_pay2 (F := Ideal) (iblk m c 0 t) (iblk m c 1 t) = U
  generalize iblk m c 6 t = W
  generalize iblk m c 2 t = T
  refine View.canon_apply_of_pieces (Val := Elt Ideal) (S := S1x1x2x512) (e := .f32) (fun i => mean256 (fun r => rot (fun n => ∑ k : Fin 1024, U (ix2 (⟨((i 2)).val * 256 + r.val, tile_row _ _⟩ : Fin 512) k) * W (ix2 k ⟨512 + n.val, by omega⟩)) (fun l => T (ix2 (⟨((i 2)).val * 256 + r.val, tile_row _ _⟩ : Fin 512) ⟨0 + l.val, by omega⟩)) (fun l => T (ix2 (⟨((i 2)).val * 256 + r.val, tile_row _ _⟩ : Fin 512) ⟨128 + l.val, by omega⟩)) (fun l => T (ix2 (⟨((i 2)).val * 256 + r.val, tile_row _ _⟩ : Fin 512) ⟨256 + l.val, by omega⟩)) (i 3))) _ ?_ _ ?_
  · simp only [List.forall_mem_cons, List.not_mem_nil, false_imp_iff, implies_true, and_true]
    refine ⟨?_, ?_, ?_, ?_, ?_, ?_, ?_, ?_⟩ <;> intro x
    all_goals idx_vars x
    all_goals pointwise [rot, dotp, k0_pay53, k0_pay54, k0_pay55, k0_pay56, k0_pay57, k0_pay58, k0_pay59, k0_pay60, k0_pay61, k0_pay62, k0_pay63, k0_pay64, k0_pay69, k0_pay70, k0_pay71, k0_pay72, k0_pay73, k0_pay74, k0_pay75, k0_pay76, k0_pay77, k0_pay78, k0_pay79, k0_pay80, k0_pay81, k0_pay82, mean256]
    all_goals blk_point []
  · exact View.cover_of_tiledL _ ![1, 1, 1, 128] (by sl_kernel_rfl) _

theorem km_B (m : (ℓ : Loc nD τ sig) → Buf (Elt Ideal) ℓ) (c : Dev nD) (t : Fin cfg0.N) (h0 : ¬t.val % 8 = 0) (xs : Vec Ideal S520x1024 .f32) (h : Fin 2) (n : Fin 512) :
    leftB_15 m c t h0 xs (ix4 0 0 h n) = mean256 (fun r => rot (fun n => ∑ k : Fin 1024, tileU m c t (ix2 (⟨(h).val * 256 + r.val, tile_row _ _⟩ : Fin 512) k) * tile6 m c t (ix2 k ⟨512 + n.val, by omega⟩)) (fun l => tile2 m c t (ix2 (⟨(h).val * 256 + r.val, tile_row _ _⟩ : Fin 512) ⟨0 + l.val, by omega⟩)) (fun l => tile2 m c t (ix2 (⟨(h).val * 256 + r.val, tile_row _ _⟩ : Fin 512) ⟨128 + l.val, by omega⟩)) (fun l => tile2 m c t (ix2 (⟨(h).val * 256 + r.val, tile_row _ _⟩ : Fin 512) ⟨256 + l.val, by omega⟩)) n) := by
  unfold leftB_15
  rw [View.read_writes_eq_canon _ _ _ (covB_15 m c t h0 xs)]
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
  simp (disch := decide) only [View.ld_unit_lit', View.canon_cons_unit_lit', View.readCov_unit_lit']
  unfold tileU tile6 tile2
  generalize k0_pay2 (F := Ideal) (iblk m c 0 t) (iblk m c 1 t) = U
  generalize iblk m c 6 t = W
  generalize iblk m c 2 t = T
  refine View.canon_apply_of_pieces (Val := Elt Ideal) (S := S1x1x2x512) (e := .f32) (fun i => mean256 (fun r => rot (fun n => ∑ k : Fin 1024, U (ix2 (⟨((i 2)).val * 256 + r.val, tile_row _ _⟩ : Fin 512) k) * W (ix2 k ⟨512 + n.val, by omega⟩)) (fun l => T (ix2 (⟨((i 2)).val * 256 + r.val, tile_row _ _⟩ : Fin 512) ⟨0 + l.val, by omega⟩)) (fun l => T (ix2 (⟨((i 2)).val * 256 + r.val, tile_row _ _⟩ : Fin 512) ⟨128 + l.val, by omega⟩)) (fun l => T (ix2 (⟨((i 2)).val * 256 + r.val, tile_row _ _⟩ : Fin 512) ⟨256 + l.val, by omega⟩)) (i 3))) _ ?_ _ ?_
  · simp only [List.forall_mem_cons, List.not_mem_nil, false_imp_iff, implies_true, and_true]
    refine ⟨?_, ?_, ?_, ?_, ?_, ?_, ?_, ?_⟩ <;> intro x
    all_goals idx_vars x
    all_goals pointwise [rot, dotp, k0_pay53, k0_pay54, k0_pay55, k0_pay56, k0_pay57, k0_pay58, k0_pay59, k0_pay60, k0_pay61, k0_pay62, k0_pay63, k0_pay64, k0_pay69, k0_pay70, k0_pay71, k0_pay72, k0_pay73, k0_pay74, k0_pay75, k0_pay76, k0_pay77, k0_pay78, k0_pay79, k0_pay80, k0_pay81, k0_pay82, mean256]
    all_goals blk_point []
  · exact View.cover_of_tiledL _ ![1, 1, 1, 128] (by sl_kernel_rfl) _

theorem q_at (m : (ℓ : Loc nD τ sig) → Buf (Elt Ideal) ℓ) (c : Dev nD) (t : Fin cfg0.N) (r : Fin 512) (n : Fin 512) :
    (leaves m c t.val t.isLt).1 (ix3 0 r n) = rot (fun n => ∑ k : Fin 1024, tileU m c t (ix2 r k) * tile6 m c t (ix2 k ⟨n.val, by omega⟩)) (fun l => tile2 m c t (ix2 r ⟨384 + l.val, by omega⟩)) (fun l => tile2 m c t (ix2 r ⟨512 + l.val, by omega⟩)) (fun l => tile2 m c t (ix2 r ⟨640 + l.val, by omega⟩)) n := by
  by_cases h0 : t.val % 8 = 0
  · rw [leaves_A m c t h0]; unfold allA; dsimp only; exact q_A m c t h0 r n
  · rw [leaves_B m c t h0]; unfold allB; dsimp only; exact q_B m c t h0 _ r n

theorem k_at (m : (ℓ : Loc nD τ sig) → Buf (Elt Ideal) ℓ) (c : Dev nD) (t : Fin cfg0.N) (r : Fin 512) (n : Fin 512) :
    (leaves m c t.val t.isLt).2.1 (ix3 0 r n) = rot (fun n => ∑ k : Fin 1024, tileU m c t (ix2 r k) * tile6 m c t (ix2 k ⟨512 + n.val, by omega⟩)) (fun l => tile2 m c t (ix2 r ⟨0 + l.val, by omega⟩)) (fun l => tile2 m c t (ix2 r ⟨128 + l.val, by omega⟩)) (fun l => tile2 m c t (ix2 r ⟨256 + l.val, by omega⟩)) n := by
  by_cases h0 : t.val % 8 = 0
  · rw [leaves_A m c t h0]; unfold allA; dsimp only; exact k_A m c t h0 r n
  · rw [leaves_B m c t h0]; unfold allB; dsimp only; exact k_B m c t h0 _ r n

theorem km_at (m : (ℓ : Loc nD τ sig) → Buf (Elt Ideal) ℓ) (c : Dev nD) (t : Fin cfg0.N) (h : Fin 2) (n : Fin 512) :
    (leaves m c t.val t.isLt).2.2.1 (ix4 0 0 h n) = mean256 (fun r => rot (fun n => ∑ k : Fin 1024, tileU m c t (ix2 (⟨(h).val * 256 + r.val, tile_row _ _⟩ : Fin 512) k) * tile6 m c t (ix2 k ⟨512 + n.val, by omega⟩)) (fun l => tile2 m c t (ix2 (⟨(h).val * 256 + r.val, tile_row _ _⟩ : Fin 512) ⟨0 + l.val, by omega⟩)) (fun l => tile2 m c t (ix2 (⟨(h).val * 256 + r.val, tile_row _ _⟩ : Fin 512) ⟨128 + l.val, by omega⟩)) (fun l => tile2 m c t (ix2 (⟨(h).val * 256 + r.val, tile_row _ _⟩ : Fin 512) ⟨256 + l.val, by omega⟩)) n) := by
  by_cases h0 : t.val % 8 = 0
  · rw [leaves_A m c t h0]; unfold allA; dsimp only; exact km_A m c t h0 h n
  · rw [leaves_B m c t h0]; unfold allB; dsimp only; exact km_B m c t h0 _ h n

end Cert.MixBlock
end
-- ==== Proof.MixVo.lean ====
/- The values and the output gate's columns a point leaves. -/
module

public import proofs.«01_k».proof.Proof.MixTiles
public import Idealize.ShloMosaic.Lib.Pipeline.ValueKit
public import Idealize.ShloMosaic.Lib.Pointwise
public import Idealize.ShloMosaic.Lib.VecWindow

@[expose] public section
set_option maxRecDepth 16384
noncomputable section
namespace Cert.MixBlock
open Cert.MixIdeal Cert.MixIdeal.Gen Cert.MixRun Idealize.ShloMosaic Idealize.ShloMosaic.TcCoe Idealize.ShloMosaic.Tactic Idealize.SL.Sem
open Idealize.ShloMosaic.Pipeline (Dat)

theorem va_A (m : (ℓ : Loc nD τ sig) → Buf (Elt Ideal) ℓ) (c : Dev nD) (t : Fin cfg0.N) (h0 : t.val % 8 = 0) (q : Fin 2) (i : Fin 640) (j : Fin 256) :
    leftA_16 m c t h0 (ix4 0 q i j) = vrow (fun l => dotp (fun k => tile11 m c t (ix2 ⟨l.val, by omega⟩ k)) (fun k => tileU m c t (ix2 (⟨(q).val * 256 + (j).val, tile_row _ _⟩ : Fin 512) k))) i := by
  unfold leftA_16
  rw [View.read_writes_eq_canon _ _ _ (covA_16 m c t h0)]
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
  simp (disch := decide) only [View.ld_unit_lit', View.canon_cons_unit_lit', View.readCov_unit_lit']
  unfold tileU tile11
  generalize k0_pay2 (F := Ideal) (iblk m c 0 t) (iblk m c 1 t) = U
  generalize iblk m c 11 t = V
  refine View.canon_apply_of_pieces (Val := Elt Ideal) (S := S1x2x640x256) (e := .bf16) (fun i => vrow (fun l => dotp (fun k => V (ix2 ⟨l.val, by omega⟩ k)) (fun k => U (ix2 (⟨((i 1)).val * 256 + ((i 3)).val, tile_row _ _⟩ : Fin 512) k))) (i 2)) _ ?_ _ ?_
  · simp only [List.forall_mem_cons, List.not_mem_nil, false_imp_iff, implies_true, and_true]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> intro x
    all_goals idx_vars x
    all_goals first | refine Eq.trans ?_ (vrow_z _ _ _ _ rfl (by decide)).symm | refine Eq.trans ?_ (vrow_o _ _ _ _ rfl (by decide)).symm
    all_goals pointwise [rot, dotp, k0_pay3, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    all_goals blk_point []
  · exact View.cover_of_tiledBy _ ![1, 1, 16, 256] (by sl_kernel_rfl) _

theorem va_B (m : (ℓ : Loc nD τ sig) → Buf (Elt Ideal) ℓ) (c : Dev nD) (t : Fin cfg0.N) (h0 : ¬t.val % 8 = 0) (xs : Vec Ideal S520x1024 .f32) (q : Fin 2) (i : Fin 640) (j : Fin 256) :
    leftB_16 m c t h0 xs (ix4 0 q i j) = vrow (fun l => dotp (fun k => tile11 m c t (ix2 ⟨l.val, by omega⟩ k)) (fun k => tileU m c t (ix2 (⟨(q).val * 256 + (j).val, tile_row _ _⟩ : Fin 512) k))) i := by
  unfold leftB_16
  rw [View.read_writes_eq_canon _ _ _ (covB_16 m c t h0 xs)]
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
  simp (disch := decide) only [View.ld_unit_lit', View.canon_cons_unit_lit', View.readCov_unit_lit']
  unfold tileU tile11
  generalize k0_pay2 (F := Ideal) (iblk m c 0 t) (iblk m c 1 t) = U
  generalize iblk m c 11 t = V
  refine View.canon_apply_of_pieces (Val := Elt Ideal) (S := S1x2x640x256) (e := .bf16) (fun i => vrow (fun l => dotp (fun k => V (ix2 ⟨l.val, by omega⟩ k)) (fun k => U (ix2 (⟨((i 1)).val * 256 + ((i 3)).val, tile_row _ _⟩ : Fin 512) k))) (i 2)) _ ?_ _ ?_
  · simp only [List.forall_mem_cons, List.not_mem_nil, false_imp_iff, implies_true, and_true]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> intro x
    all_goals idx_vars x
    all_goals first | refine Eq.trans ?_ (vrow_z _ _ _ _ rfl (by decide)).symm | refine Eq.trans ?_ (vrow_o _ _ _ _ rfl (by decide)).symm
    all_goals pointwise [rot, dotp, k0_pay3, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    all_goals blk_point []
  · exact View.cover_of_tiledBy _ ![1, 1, 16, 256] (by sl_kernel_rfl) _

theorem vb_A (m : (ℓ : Loc nD τ sig) → Buf (Elt Ideal) ℓ) (c : Dev nD) (t : Fin cfg0.N) (h0 : t.val % 8 = 0) (q : Fin 2) (i : Fin 512) (j : Fin 256) :
    leftA_17 m c t h0 (ix4 0 q i j) = dotp (fun k => tile11 m c t (ix2 (⟨512 + (i).val, vb_lt _⟩ : Fin 1024) k)) (fun k => tileU m c t (ix2 (⟨(q).val * 256 + (j).val, tile_row _ _⟩ : Fin 512) k)) := by
  unfold leftA_17
  rw [View.read_writes_eq_canon _ _ _ (covA_17 m c t h0)]
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
  simp (disch := decide) only [View.ld_unit_lit', View.canon_cons_unit_lit', View.readCov_unit_lit']
  unfold tileU tile11
  generalize k0_pay2 (F := Ideal) (iblk m c 0 t) (iblk m c 1 t) = U
  generalize iblk m c 11 t = V
  refine View.canon_apply_of_pieces (Val := Elt Ideal) (S := S1x2x512x256) (e := .bf16) (fun i => dotp (fun k => V (ix2 (⟨512 + ((i 2)).val, vb_lt _⟩ : Fin 1024) k)) (fun k => U (ix2 (⟨((i 1)).val * 256 + ((i 3)).val, tile_row _ _⟩ : Fin 512) k))) _ ?_ _ ?_
  · simp only [List.forall_mem_cons, List.not_mem_nil, false_imp_iff, implies_true, and_true]
    refine ⟨?_, ?_, ?_, ?_⟩ <;> intro x
    all_goals idx_vars x
    all_goals pointwise [rot, dotp, k0_pay65, k0_pay66, k0_pay67, k0_pay68, k0_pay83, k0_pay84, k0_pay85]
    all_goals blk_point []
  · exact View.cover_of_tiledL _ ![1, 1, 256, 256] (by sl_kernel_rfl) _

theorem vb_B (m : (ℓ : Loc nD τ sig) → Buf (Elt Ideal) ℓ) (c : Dev nD) (t : Fin cfg0.N) (h0 : ¬t.val % 8 = 0) (xs : Vec Ideal S520x1024 .f32) (q : Fin 2) (i : Fin 512) (j : Fin 256) :
    leftB_17 m c t h0 xs (ix4 0 q i j) = dotp (fun k => tile11 m c t (ix2 (⟨512 + (i).val, vb_lt _⟩ : Fin 1024) k)) (fun k => tileU m c t (ix2 (⟨(q).val * 256 + (j).val, tile_row _ _⟩ : Fin 512) k)) := by
  unfold leftB_17
  rw [View.read_writes_eq_canon _ _ _ (covB_17 m c t h0 xs)]
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
  simp (disch := decide) only [View.ld_unit_lit', View.canon_cons_unit_lit', View.readCov_unit_lit']
  unfold tileU tile11
  generalize k0_pay2 (F := Ideal) (iblk m c 0 t) (iblk m c 1 t) = U
  generalize iblk m c 11 t = V
  refine View.canon_apply_of_pieces (Val := Elt Ideal) (S := S1x2x512x256) (e := .bf16) (fun i => dotp (fun k => V (ix2 (⟨512 + ((i 2)).val, vb_lt _⟩ : Fin 1024) k)) (fun k => U (ix2 (⟨((i 1)).val * 256 + ((i 3)).val, tile_row _ _⟩ : Fin 512) k))) _ ?_ _ ?_
  · simp only [List.forall_mem_cons, List.not_mem_nil, false_imp_iff, implies_true, and_true]
    refine ⟨?_, ?_, ?_, ?_⟩ <;> intro x
    all_goals idx_vars x
    all_goals pointwise [rot, dotp, k0_pay65, k0_pay66, k0_pay67, k0_pay68, k0_pay83, k0_pay84, k0_pay85]
    all_goals blk_point []
  · exact View.cover_of_tiledL _ ![1, 1, 256, 256] (by sl_kernel_rfl) _

theorem ob_A (m : (ℓ : Loc nD τ sig) → Buf (Elt Ideal) ℓ) (c : Dev nD) (t : Fin cfg0.N) (h0 : t.val % 8 = 0) (r : Fin 512) (n : Fin 512) :
    leftA_20 m c t h0 (ix3 0 r n) = ∑ k : Fin 1024, tileU m c t (ix2 r k) * tile8 m c t (ix2 k n) := by
  unfold leftA_20
  rw [View.read_writes_eq_canon _ _ _ (covA_20 m c t h0)]
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
  simp (disch := decide) only [View.ld_unit_lit', View.canon_cons_unit_lit', View.readCov_unit_lit']
  unfold tileU tile8
  generalize k0_pay2 (F := Ideal) (iblk m c 0 t) (iblk m c 1 t) = U
  generalize iblk m c 8 t = W
  refine View.canon_apply_of_pieces (Val := Elt Ideal) (S := S1x512x512) (e := .bf16) (fun i => ∑ k : Fin 1024, U (ix2 (i 1) k) * W (ix2 k (i 2))) _ ?_ _ ?_
  · simp only [List.forall_mem_cons, List.not_mem_nil, false_imp_iff, implies_true, and_true]
    refine ⟨?_, ?_⟩ <;> intro x
    all_goals idx_vars x
    all_goals pointwise [rot, dotp, k0_pay105, k0_pay112]
    all_goals blk_point []
  · exact View.cover_of_tiledL _ ![1, 512, 256] (by sl_kernel_rfl) _

theorem ob_B (m : (ℓ : Loc nD τ sig) → Buf (Elt Ideal) ℓ) (c : Dev nD) (t : Fin cfg0.N) (h0 : ¬t.val % 8 = 0) (xs : Vec Ideal S520x1024 .f32) (r : Fin 512) (n : Fin 512) :
    leftB_20 m c t h0 xs (ix3 0 r n) = ∑ k : Fin 1024, tileU m c t (ix2 r k) * tile8 m c t (ix2 k n) := by
  unfold leftB_20
  rw [View.read_writes_eq_canon _ _ _ (covB_20 m c t h0 xs)]
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
  simp (disch := decide) only [View.ld_unit_lit', View.canon_cons_unit_lit', View.readCov_unit_lit']
  unfold tileU tile8
  generalize k0_pay2 (F := Ideal) (iblk m c 0 t) (iblk m c 1 t) = U
  generalize iblk m c 8 t = W
  refine View.canon_apply_of_pieces (Val := Elt Ideal) (S := S1x512x512) (e := .bf16) (fun i => ∑ k : Fin 1024, U (ix2 (i 1) k) * W (ix2 k (i 2))) _ ?_ _ ?_
  · simp only [List.forall_mem_cons, List.not_mem_nil, false_imp_iff, implies_true, and_true]
    refine ⟨?_, ?_⟩ <;> intro x
    all_goals idx_vars x
    all_goals pointwise [rot, dotp, k0_pay105, k0_pay112]
    all_goals blk_point []
  · exact View.cover_of_tiledL _ ![1, 512, 256] (by sl_kernel_rfl) _

theorem va_at (m : (ℓ : Loc nD τ sig) → Buf (Elt Ideal) ℓ) (c : Dev nD) (t : Fin cfg0.N) (q : Fin 2) (i : Fin 640) (j : Fin 256) :
    (leaves m c t.val t.isLt).2.2.2.1 (ix4 0 q i j) = vrow (fun l => dotp (fun k => tile11 m c t (ix2 ⟨l.val, by omega⟩ k)) (fun k => tileU m c t (ix2 (⟨(q).val * 256 + (j).val, tile_row _ _⟩ : Fin 512) k))) i := by
  by_cases h0 : t.val % 8 = 0
  · rw [leaves_A m c t h0]; unfold allA; dsimp only; exact va_A m c t h0 q i j
  · rw [leaves_B m c t h0]; unfold allB; dsimp only; exact va_B m c t h0 _ q i j

theorem vb_at (m : (ℓ : Loc nD τ sig) → Buf (Elt Ideal) ℓ) (c : Dev nD) (t : Fin cfg0.N) (q : Fin 2) (i : Fin 512) (j : Fin 256) :
    (leaves m c t.val t.isLt).2.2.2.2.1 (ix4 0 q i j) = dotp (fun k => tile11 m c t (ix2 (⟨512 + (i).val, vb_lt _⟩ : Fin 1024) k)) (fun k => tileU m c t (ix2 (⟨(q).val * 256 + (j).val, tile_row _ _⟩ : Fin 512) k)) := by
  by_cases h0 : t.val % 8 = 0
  · rw [leaves_A m c t h0]; unfold allA; dsimp only; exact vb_A m c t h0 q i j
  · rw [leaves_B m c t h0]; unfold allB; dsimp only; exact vb_B m c t h0 _ q i j

theorem ob_at (m : (ℓ : Loc nD τ sig) → Buf (Elt Ideal) ℓ) (c : Dev nD) (t : Fin cfg0.N) (r : Fin 512) (n : Fin 512) :
    (leaves m c t.val t.isLt).2.2.2.2.2.2.2.1 (ix3 0 r n) = ∑ k : Fin 1024, tileU m c t (ix2 r k) * tile8 m c t (ix2 k n) := by
  by_cases h0 : t.val % 8 = 0
  · rw [leaves_A m c t h0]; unfold allA; dsimp only; exact ob_A m c t h0 r n
  · rw [leaves_B m c t h0]; unfold allB; dsimp only; exact ob_B m c t h0 _ r n

end Cert.MixBlock
end
-- ==== Proof.MixGa.lean ====
/- The two gates' columns a point leaves. -/
module

public import proofs.«01_k».proof.Proof.MixTiles
public import Idealize.ShloMosaic.Lib.Pipeline.ValueKit
public import Idealize.ShloMosaic.Lib.Pointwise
public import Idealize.ShloMosaic.Lib.VecWindow

@[expose] public section
set_option maxRecDepth 16384
noncomputable section
namespace Cert.MixBlock
open Cert.MixIdeal Cert.MixIdeal.Gen Cert.MixRun Idealize.ShloMosaic Idealize.ShloMosaic.TcCoe Idealize.ShloMosaic.Tactic Idealize.SL.Sem
open Idealize.ShloMosaic.Pipeline (Dat)

theorem ga_A (m : (ℓ : Loc nD τ sig) → Buf (Elt Ideal) ℓ) (c : Dev nD) (t : Fin cfg0.N) (h0 : t.val % 8 = 0) (r : Fin 512) (n : Fin 1024) :
    leftA_21 m c t h0 (ix3 0 r n) = ∑ k : Fin 1024, tileU m c t (ix2 r k) * tile9 m c t (ix2 k (⟨(n).val, gate_lt _⟩ : Fin 2048)) := by
  unfold leftA_21
  rw [View.read_writes_eq_canon _ _ _ (covA_21 m c t h0)]
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
  simp (disch := decide) only [View.ld_unit_lit', View.canon_cons_unit_lit', View.readCov_unit_lit']
  unfold tileU tile9
  generalize k0_pay2 (F := Ideal) (iblk m c 0 t) (iblk m c 1 t) = U
  generalize iblk m c 9 t = W
  refine View.canon_apply_of_pieces (Val := Elt Ideal) (S := S1x512x1024) (e := .bf16) (fun i => ∑ k : Fin 1024, U (ix2 (i 1) k) * W (ix2 k (⟨((i 2)).val, gate_lt _⟩ : Fin 2048))) _ ?_ _ ?_
  · simp only [List.forall_mem_cons, List.not_mem_nil, false_imp_iff, implies_true, and_true]
    refine ⟨?_, ?_, ?_, ?_⟩ <;> intro x
    all_goals idx_vars x
    all_goals pointwise [rot, dotp, k0_pay89, k0_pay90, k0_pay95, k0_pay96, k0_pay102, k0_pay103, k0_pay104, k0_pay110, k0_pay111]
    all_goals blk_point []
  · exact View.cover_of_tiledL _ ![1, 512, 256] (by sl_kernel_rfl) _

theorem ga_B (m : (ℓ : Loc nD τ sig) → Buf (Elt Ideal) ℓ) (c : Dev nD) (t : Fin cfg0.N) (h0 : ¬t.val % 8 = 0) (xs : Vec Ideal S520x1024 .f32) (r : Fin 512) (n : Fin 1024) :
    leftB_21 m c t h0 xs (ix3 0 r n) = ∑ k : Fin 1024, tileU m c t (ix2 r k) * tile9 m c t (ix2 k (⟨(n).val, gate_lt _⟩ : Fin 2048)) := by
  unfold leftB_21
  rw [View.read_writes_eq_canon _ _ _ (covB_21 m c t h0 xs)]
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
  simp (disch := decide) only [View.ld_unit_lit', View.canon_cons_unit_lit', View.readCov_unit_lit']
  unfold tileU tile9
  generalize k0_pay2 (F := Ideal) (iblk m c 0 t) (iblk m c 1 t) = U
  generalize iblk m c 9 t = W
  refine View.canon_apply_of_pieces (Val := Elt Ideal) (S := S1x512x1024) (e := .bf16) (fun i => ∑ k : Fin 1024, U (ix2 (i 1) k) * W (ix2 k (⟨((i 2)).val, gate_lt _⟩ : Fin 2048))) _ ?_ _ ?_
  · simp only [List.forall_mem_cons, List.not_mem_nil, false_imp_iff, implies_true, and_true]
    refine ⟨?_, ?_, ?_, ?_⟩ <;> intro x
    all_goals idx_vars x
    all_goals pointwise [rot, dotp, k0_pay89, k0_pay90, k0_pay95, k0_pay96, k0_pay102, k0_pay103, k0_pay104, k0_pay110, k0_pay111]
    all_goals blk_point []
  · exact View.cover_of_tiledL _ ![1, 512, 256] (by sl_kernel_rfl) _

theorem gb_A (m : (ℓ : Loc nD τ sig) → Buf (Elt Ideal) ℓ) (c : Dev nD) (t : Fin cfg0.N) (h0 : t.val % 8 = 0) (r : Fin 512) (n : Fin 1024) :
    leftA_22 m c t h0 (ix3 0 r n) = ∑ k : Fin 1024, tileU m c t (ix2 r k) * tile9 m c t (ix2 k (⟨1024 + (n).val, gate_lt2 _⟩ : Fin 2048)) := by
  unfold leftA_22
  rw [View.read_writes_eq_canon _ _ _ (covA_22 m c t h0)]
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
  simp (disch := decide) only [View.ld_unit_lit', View.canon_cons_unit_lit', View.readCov_unit_lit']
  unfold tileU tile9
  generalize k0_pay2 (F := Ideal) (iblk m c 0 t) (iblk m c 1 t) = U
  generalize iblk m c 9 t = W
  refine View.canon_apply_of_pieces (Val := Elt Ideal) (S := S1x512x1024) (e := .bf16) (fun i => ∑ k : Fin 1024, U (ix2 (i 1) k) * W (ix2 k (⟨1024 + ((i 2)).val, gate_lt2 _⟩ : Fin 2048))) _ ?_ _ ?_
  · simp only [List.forall_mem_cons, List.not_mem_nil, false_imp_iff, implies_true, and_true]
    refine ⟨?_, ?_, ?_, ?_⟩ <;> intro x
    all_goals idx_vars x
    all_goals pointwise [rot, dotp, k0_pay89, k0_pay90, k0_pay95, k0_pay96, k0_pay102, k0_pay103, k0_pay104, k0_pay110, k0_pay111]
    all_goals blk_point []
  · exact View.cover_of_tiledL _ ![1, 512, 256] (by sl_kernel_rfl) _

theorem gb_B (m : (ℓ : Loc nD τ sig) → Buf (Elt Ideal) ℓ) (c : Dev nD) (t : Fin cfg0.N) (h0 : ¬t.val % 8 = 0) (xs : Vec Ideal S520x1024 .f32) (r : Fin 512) (n : Fin 1024) :
    leftB_22 m c t h0 xs (ix3 0 r n) = ∑ k : Fin 1024, tileU m c t (ix2 r k) * tile9 m c t (ix2 k (⟨1024 + (n).val, gate_lt2 _⟩ : Fin 2048)) := by
  unfold leftB_22
  rw [View.read_writes_eq_canon _ _ _ (covB_22 m c t h0 xs)]
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
  simp (disch := decide) only [View.ld_unit_lit', View.canon_cons_unit_lit', View.readCov_unit_lit']
  unfold tileU tile9
  generalize k0_pay2 (F := Ideal) (iblk m c 0 t) (iblk m c 1 t) = U
  generalize iblk m c 9 t = W
  refine View.canon_apply_of_pieces (Val := Elt Ideal) (S := S1x512x1024) (e := .bf16) (fun i => ∑ k : Fin 1024, U (ix2 (i 1) k) * W (ix2 k (⟨1024 + ((i 2)).val, gate_lt2 _⟩ : Fin 2048))) _ ?_ _ ?_
  · simp only [List.forall_mem_cons, List.not_mem_nil, false_imp_iff, implies_true, and_true]
    refine ⟨?_, ?_, ?_, ?_⟩ <;> intro x
    all_goals idx_vars x
    all_goals pointwise [rot, dotp, k0_pay89, k0_pay90, k0_pay95, k0_pay96, k0_pay102, k0_pay103, k0_pay104, k0_pay110, k0_pay111]
    all_goals blk_point []
  · exact View.cover_of_tiledL _ ![1, 512, 256] (by sl_kernel_rfl) _

theorem ga_at (m : (ℓ : Loc nD τ sig) → Buf (Elt Ideal) ℓ) (c : Dev nD) (t : Fin cfg0.N) (r : Fin 512) (n : Fin 1024) :
    (leaves m c t.val t.isLt).2.2.2.2.2.2.2.2.1 (ix3 0 r n) = ∑ k : Fin 1024, tileU m c t (ix2 r k) * tile9 m c t (ix2 k (⟨(n).val, gate_lt _⟩ : Fin 2048)) := by
  by_cases h0 : t.val % 8 = 0
  · rw [leaves_A m c t h0]; unfold allA; dsimp only; exact ga_A m c t h0 r n
  · rw [leaves_B m c t h0]; unfold allB; dsimp only; exact ga_B m c t h0 _ r n

theorem gb_at (m : (ℓ : Loc nD τ sig) → Buf (Elt Ideal) ℓ) (c : Dev nD) (t : Fin cfg0.N) (r : Fin 512) (n : Fin 1024) :
    (leaves m c t.val t.isLt).2.2.2.2.2.2.2.2.2.1 (ix3 0 r n) = ∑ k : Fin 1024, tileU m c t (ix2 r k) * tile9 m c t (ix2 k (⟨1024 + (n).val, gate_lt2 _⟩ : Fin 2048)) := by
  by_cases h0 : t.val % 8 = 0
  · rw [leaves_A m c t h0]; unfold allA; dsimp only; exact gb_A m c t h0 r n
  · rw [leaves_B m c t h0]; unfold allB; dsimp only; exact gb_B m c t h0 _ r n

end Cert.MixBlock
end
-- ==== Proof.MixCells.lean ====
/- What a point of the projection computes, as the rows' own values. -/
module

public import proofs.«01_k».proof.Proof.MixInputs
public import proofs.«01_k».proof.Proof.MixRot
public import proofs.«01_k».proof.Proof.MixQk
public import proofs.«01_k».proof.Proof.MixVo
public import proofs.«01_k».proof.Proof.MixGa

@[expose] public section
set_option maxRecDepth 16384
noncomputable section
namespace Cert.MixIdeal.Array
open Cert.MixIdeal Cert.MixIdeal.Gen Cert.MixBlock Cert.MixRun Idealize.ShloMosaic Idealize.ShloMosaic.TcCoe Idealize.ShloMosaic.Tactic Idealize.SL.Sem
variable (m : (ℓ : Loc nD τ sig) → Buf (Elt Ideal) ℓ)

/-- The tile of its sequence a grid point works on. -/
theorem tile_lt (t : Fin cfg0.N) : t.val % 8 < 8 := by omega
theorem half_lt (t : Fin cfg0.N) (q : Fin 2) : t.val % 8 * 2 + q.val < 16 := by omega

theorem q_cell (c : Dev nD) (t : Fin cfg0.N) (r n : Fin 512) :
    (leaves m c t.val t.isLt).1 (ix3 0 r n) = MixRow.qa (X m c) (G m c) (Wt m c) (seq t) (row t r) n := by
  refine (q_at m c t r n).trans ?_
  rw [show (fun n : Fin 512 => ∑ k : Fin 1024, tileU m c t (ix2 r k) * tile6 m c t (ix2 k ⟨n.val, by omega⟩)) = fun n : Fin 512 => Z m c (seq t) (row t r) ⟨n.val, by omega⟩ from
      funext fun n => z6 m c t r ⟨n.val, by omega⟩,
    funext (tab384 m c t r), funext (tab512 m c t r), funext (tab640 m c t r)]
  refine (MixRot.rope_q (fun n : Fin 512 => Z m c (seq t) (row t r) ⟨n.val, by omega⟩) (fun l => Ideal.cos (MixRow.angle (row t r) ⟨l.val % 32, Host.ang_lt l⟩))
    (fun l => Scalar.select (Host.first l) (-Ideal.sin (MixRow.angle (row t r) ⟨l.val % 32, Host.ang_lt l⟩)) (Ideal.ofBits .f32 0x00000000#32))
    (fun l => Scalar.select (Host.first l) (Ideal.ofBits .f32 0x00000000#32) (Ideal.sin (MixRow.angle (row t r) ⟨l.val % 32, Host.ang_lt l⟩))) n).trans ?_
  rw [MixRot.rope_eq]
  rfl

/-- The rotated key at a row. -/
theorem rot_k (c : Dev nD) (t : Fin cfg0.N) (r n : Fin 512) :
    rot (fun n => ∑ k : Fin 1024, tileU m c t (ix2 r k) * tile6 m c t (ix2 k ⟨512 + n.val, by omega⟩)) (fun l => tile2 m c t (ix2 r ⟨0 + l.val, by omega⟩))
      (fun l => tile2 m c t (ix2 r ⟨128 + l.val, by omega⟩)) (fun l => tile2 m c t (ix2 r ⟨256 + l.val, by omega⟩)) n
      = MixRow.ka (X m c) (G m c) (Wt m c) (seq t) (row t r) n := by
  rw [show (fun n : Fin 512 => ∑ k : Fin 1024, tileU m c t (ix2 r k) * tile6 m c t (ix2 k ⟨512 + n.val, by omega⟩)) = fun n : Fin 512 => Z m c (seq t) (row t r) ⟨512 + n.val, by omega⟩ from
      funext fun n => z6 m c t r ⟨512 + n.val, by omega⟩,
    funext (tab0 m c t r), funext (tab128 m c t r), funext (tab256 m c t r), MixRot.rope_eq]
  rfl

theorem k_cell (c : Dev nD) (t : Fin cfg0.N) (r n : Fin 512) :
    (leaves m c t.val t.isLt).2.1 (ix3 0 r n) = MixRow.ka (X m c) (G m c) (Wt m c) (seq t) (row t r) n :=
  (k_at m c t r n).trans (rot_k m c t r n)

theorem km_cell (c : Dev nD) (t : Fin cfg0.N) (h : Fin 2) (n : Fin 512) :
    (leaves m c t.val t.isLt).2.2.1 (ix4 0 0 h n) = MixRow.kmean (X m c) (G m c) (Wt m c) (seq t) ⟨t.val % 8, tile_lt t⟩ h n := by
  refine (km_at m c t h n).trans ?_
  unfold mean256 MixRow.kmean
  refine congrArg (fun s => Ideal.div s (Ideal.ofBits .f32 0x43800000#32)) (Finset.sum_congr rfl fun r _ => ?_)
  refine (rot_k m c t ⟨h.val * 256 + r.val, tile_row _ _⟩ n).trans ?_
  exact congrArg (fun s => MixRow.ka (X m c) (G m c) (Wt m c) (seq t) s n) (Fin.ext (by
    show t.val % 8 * 512 + (h.val * 256 + r.val) = t.val % 8 * 512 + h.val * 256 + r.val
    omega))

/-- A row of a half tile, counted in the sequence. -/
theorem row_half (t : Fin cfg0.N) (q : Fin 2) (j : Fin 256) :
    row t ⟨q.val * 256 + j.val, tile_row q j⟩ = ⟨(t.val % 8 * 2 + q.val) * 256 + j.val, by have h := half_lt t q; omega⟩ :=
  Fin.ext (by show t.val % 8 * 512 + (q.val * 256 + j.val) = (t.val % 8 * 2 + q.val) * 256 + j.val; omega)

theorem va_cell (c : Dev nD) (t : Fin cfg0.N) (q : Fin 2) (i : Fin 640) (j : Fin 256) :
    (leaves m c t.val t.isLt).2.2.2.1 (ix4 0 q i j) = MixRow.vat (X m c) (G m c) (Wt m c) (seq t) ⟨t.val % 8 * 2 + q.val, half_lt t q⟩ i j := by
  refine (va_at m c t q i j).trans ?_
  rw [show (fun l : Fin 512 => dotp (fun k => tile11 m c t (ix2 ⟨l.val, by omega⟩ k)) (fun k => tileU m c t (ix2 (⟨q.val * 256 + j.val, tile_row _ _⟩ : Fin 512) k)))
      = fun l : Fin 512 => Z m c (seq t) ⟨(t.val % 8 * 2 + q.val) * 256 + j.val, by have h := half_lt t q; omega⟩ ⟨1024 + l.val, by omega⟩ from
    funext fun l => by rw [← row_half t q j]; exact z11a m c t ⟨q.val * 256 + j.val, tile_row q j⟩ ⟨l.val, by omega⟩ l.isLt]
  rfl

theorem vb_cell (c : Dev nD) (t : Fin cfg0.N) (q : Fin 2) (i : Fin 512) (j : Fin 256) :
    (leaves m c t.val t.isLt).2.2.2.2.1 (ix4 0 q i j) = MixRow.vbt (X m c) (G m c) (Wt m c) (seq t) ⟨t.val % 8 * 2 + q.val, half_lt t q⟩ i j := by
  refine (vb_at m c t q i j).trans ?_
  refine (z11b m c t ⟨q.val * 256 + j.val, tile_row q j⟩ ⟨512 + i.val, by omega⟩ (by show ¬512 + i.val < 512; omega)).trans ?_
  unfold MixRow.vbt
  rw [row_half]
  exact congrArg (Z m c (seq t) _) (Fin.ext (by show 2560 + (512 + i.val - 512) = 2560 + i.val; omega))

theorem ob_cell (c : Dev nD) (t : Fin cfg0.N) (r n : Fin 512) :
    (leaves m c t.val t.isLt).2.2.2.2.2.2.2.1 (ix3 0 r n) = MixRow.ob (X m c) (G m c) (Wt m c) (seq t) (row t r) n :=
  (ob_at m c t r n).trans (z8 m c t r n)

theorem ga_cell (c : Dev nD) (t : Fin cfg0.N) (r : Fin 512) (n : Fin 1024) :
    (leaves m c t.val t.isLt).2.2.2.2.2.2.2.2.1 (ix3 0 r n) = MixRow.ga (X m c) (G m c) (Wt m c) (seq t) (row t r) n :=
  (ga_at m c t r n).trans (z9 m c t r ⟨n.val, gate_lt _⟩)

theorem gb_cell (c : Dev nD) (t : Fin cfg0.N) (r : Fin 512) (n : Fin 1024) :
    (leaves m c t.val t.isLt).2.2.2.2.2.2.2.2.2.1 (ix3 0 r n) = MixRow.gb (X m c) (G m c) (Wt m c) (seq t) (row t r) n := by
  refine (gb_at m c t r n).trans ((z9 m c t r ⟨1024 + n.val, gate_lt2 _⟩).trans ?_)
  exact congrArg (Z m c (seq t) (row t r)) (Fin.ext (by show 3592 + (1024 + n.val) = 4616 + n.val; omega))

end Cert.MixIdeal.Array
end
-- ==== Proof.MixGate.lean ====
/- The recurrence's gates a point leaves: running sums of logarithms, as rows and as columns. -/
module

public import proofs.«01_k».proof.Proof.MixTiles
public import Idealize.ShloMosaic.Lib.Pipeline.ValueKit
public import Idealize.ShloMosaic.Lib.Pointwise
public import Idealize.ShloMosaic.Lib.VecWindow

@[expose] public section
set_option maxRecDepth 16384
noncomputable section
namespace Cert.MixBlock
open Cert.MixIdeal Cert.MixIdeal.Gen Cert.MixRun Idealize.ShloMosaic Idealize.ShloMosaic.TcCoe Idealize.ShloMosaic.Tactic Idealize.SL.Sem
open Idealize.ShloMosaic.Pipeline (Dat)

theorem sel4 (n : Fin 8) (a b : EReal) : Scalar.select (IntOp.cmpi .slt (BitVec.ofNat 32 n.val) 4#32) a b = if n.val < 4 then a else b := by
  rw [show (4#32 : BitVec 32) = BitVec.ofNat 32 4 from rfl, WordCmp.cmpi_slt_ofNat (by omega) (by omega)]
  by_cases h : n.val < 4
  · rw [if_pos h, decide_eq_true h]; rfl
  · rw [if_neg h, decide_eq_false h]; rfl

theorem selLe (x j : Fin 256) (a b : EReal) :
    Scalar.select (IntOp.cmpi .sle (BitVec.ofNat 32 x.val) (BitVec.ofNat 32 j.val)) a b = if x.val ≤ j.val then a else b := by
  rw [WordCmp.cmpi_sle_ofNat (by omega) (by omega)]
  by_cases h : x.val ≤ j.val
  · rw [if_pos h, decide_eq_true h]; rfl
  · rw [if_neg h, decide_eq_false h]; rfl

/-- A masked sum of the entries in three parts: each entry, what its rounding leaves, and what is left of that. -/
def tri (p : Fin 256 → EReal) (j : Fin 256) : EReal :=
  ∑ x : Fin 256, Scalar.select (IntOp.cmpi .sle (BitVec.ofNat 32 x.val) (BitVec.ofNat 32 j.val)) (p x) 0
    + ∑ x : Fin 256, Scalar.select (IntOp.cmpi .sle (BitVec.ofNat 32 x.val) (BitVec.ofNat 32 j.val)) (p x - p x) 0
    + ∑ x : Fin 256, Scalar.select (IntOp.cmpi .sle (BitVec.ofNat 32 x.val) (BitVec.ofNat 32 j.val)) (p x - p x - (p x - p x)) 0

theorem log_nonneg (w : EReal) : 0 ≤ Ideal.log (1 + Ideal.exp w) := by
  induction w using EReal.rec with
  | bot =>
    show 0 ≤ Ideal.log (1 + 0)
    rw [add_zero]
    show (0 : EReal) ≤ (if (1 : ℝ) ≤ 0 then ⊥ else ((Real.log 1 : ℝ) : EReal))
    rw [if_neg (by norm_num), Real.log_one]; exact le_refl _
  | top =>
    show 0 ≤ Ideal.log (1 + ⊤)
    rw [EReal.add_top_of_ne_bot (by decide)]
    exact le_top
  | coe r =>
    show (0 : EReal) ≤ (if (1 + Real.exp r : ℝ) ≤ 0 then ⊥ else ((Real.log (1 + Real.exp r) : ℝ) : EReal))
    rw [if_neg (by have := Real.exp_pos r; linarith)]
    exact_mod_cast Real.log_nonneg (by have := Real.exp_pos r; linarith)

theorem logSig_nonpos (y : EReal) : Cert.MixRow.logSig y ≤ 0 := by
  unfold Cert.MixRow.logSig
  rw [sub_eq_add_neg]
  refine add_nonpos (min_le_right _ _) ?_
  rw [EReal.neg_le, neg_zero]
  exact log_nonneg _

theorem sum_bot (f : Fin 256 → EReal) (x : Fin 256) (h : f x = ⊥) : ∑ y : Fin 256, f y = ⊥ := by
  rw [← Finset.add_sum_erase _ _ (Finset.mem_univ x), h, EReal.bot_add]

/-- The three parts sum to the entries' own sum: an entry below infinity leaves nothing, and one at minus infinity fixes both. -/
theorem tri_eq (p : Fin 256 → EReal) (hp : ∀ x, p x ≤ 0) (j : Fin 256) : tri p j = Cert.MixRow.cum p j := by
  unfold tri Cert.MixRow.cum
  simp only [selLe]
  by_cases h : ∃ x : Fin 256, x.val ≤ j.val ∧ p x = ⊥
  · obtain ⟨x, hx, hb⟩ := h
    rw [sum_bot (fun x => if x.val ≤ j.val then p x else 0) x (by rw [if_pos hx, hb]), EReal.bot_add, EReal.bot_add]
  · have hz : ∀ x : Fin 256, x.val ≤ j.val → p x - p x = 0 := fun x hx =>
      EReal.sub_self (fun e => absurd (hp x) (by rw [e]; exact not_le_of_gt EReal.zero_lt_top)) (fun e => h ⟨x, hx, e⟩)
    rw [Finset.sum_eq_zero (f := fun x : Fin 256 => if x.val ≤ j.val then p x - p x else 0) (fun x _ => by
        by_cases hx : x.val ≤ j.val
        · rw [if_pos hx, hz x hx]
        · rw [if_neg hx]),
      Finset.sum_eq_zero (f := fun x : Fin 256 => if x.val ≤ j.val then p x - p x - (p x - p x) else 0) (fun x _ => by
        by_cases hx : x.val ≤ j.val
        · rw [if_pos hx, hz x hx, sub_zero]
        · rw [if_neg hx]), add_zero, add_zero]

theorem half_row (q : Fin 2) (x : Fin 256) : q.val * 256 + x.val < 512 := by omega

/-- A gate's entry from its pre-activation: a running sum of logarithms for the first four, the entry itself for the others. -/
def gate2 (z : Fin 8 → Fin 512 → EReal) (n : Fin 8) (q : Fin 2) (j : Fin 256) : EReal :=
  if n.val < 4 then Cert.MixRow.cum (fun x => Cert.MixRow.logSig (z n ⟨q.val * 256 + x.val, half_row q x⟩)) j
  else z n ⟨q.val * 256 + j.val, half_row q j⟩

/-- The gate entries as the tile keeps them. -/
def gate1 (z : Fin 8 → Fin 512 → EReal) (n : Fin 8) (r : Fin 512) : EReal :=
  if n.val < 4 then Cert.MixRow.logSig (z n r) else z n r

theorem gate2_eq (z : Fin 8 → Fin 512 → EReal) (n : Fin 8) (q : Fin 2) (j : Fin 256) :
    (if n.val < 4 then tri (fun x => gate1 z n ⟨q.val * 256 + x.val, half_row q x⟩) j else gate1 z n ⟨q.val * 256 + j.val, half_row q j⟩) = gate2 z n q j := by
  unfold gate2
  by_cases h : n.val < 4
  · have e : ∀ r, gate1 z n r = Cert.MixRow.logSig (z n r) := fun r => if_pos h
    simp only [if_pos h, e]
    exact tri_eq _ (fun x => logSig_nonpos _) j
  · rw [if_neg h, if_neg h]; exact if_neg h

theorem p127 (Z : FVec Ideal S8x512 .f32) (n : Fin 8) (j : Fin 256) :
    k0_pay127 (F := Ideal) Z k0_pay119 (iota Kind.tc S8x256 32 [0] iota_S8x256_d0_w32) (ix4 0 0 n j)
      = if n.val < 4 then tri (fun x => Z (ix2 n ⟨x.val, by omega⟩)) j else Z (ix2 n ⟨j.val, by omega⟩) := by
  rw [← sel4]
  pointwise [k0_pay127, k0_pay119, tri]

theorem p131 (Z : FVec Ideal S8x512 .f32) (n : Fin 8) (j : Fin 256) :
    k0_pay1 (k0_pay131 (F := Ideal) Z k0_pay119 (iota Kind.tc S8x256 32 [0] iota_S8x256_d0_w32)) (ix4 0 0 n j)
      = if n.val < 4 then tri (fun x => Z (ix2 n ⟨256 + x.val, by omega⟩)) j else Z (ix2 n ⟨256 + j.val, by omega⟩) := by
  rw [← sel4]
  pointwise [k0_pay1, k0_pay131, k0_pay119, tri]

theorem p130 (Z : FVec Ideal S512x8 .f32) (n : Fin 8) (j : Fin 256) :
    k0_pay130 (iota Kind.tc S256x8 32 [1] iota_S256x8_d1_w32) (k0_pay128 Z) (k0_pay129 (F := Ideal) Z k0_pay118) (ix3 0 j n)
      = if n.val < 4 then tri (fun x => Z (ix2 ⟨256 + x.val, by omega⟩ n)) j else Z (ix2 ⟨256 + j.val, by omega⟩ n) := by
  rw [← sel4]
  pointwise [k0_pay130, k0_pay128, k0_pay129, k0_pay118, tri]

theorem p126 (A B : FVec Ideal S512x8 .f32) (n : Fin 8) (j : Fin 256) :
    k0_pay126 (F := Ideal) k0_pay118 (iota Kind.tc S256x8 32 [1] iota_S256x8_d1_w32) (k0_pay120 A k0_pay114 B) (k0_pay123 A k0_pay114 B)
        (k0_pay124 A k0_pay114 B) (k0_pay125 A k0_pay114 B) (constant S256x8 FTy.f32 0#32) (ix3 0 j n)
      = if n.val < 4 then tri (fun x => k0_pay116 A k0_pay114 B (ix2 ⟨x.val, by omega⟩ n)) j else k0_pay116 A k0_pay114 B (ix2 ⟨j.val, by omega⟩ n) := by
  rw [← sel4]
  pointwise [k0_pay116, k0_pay126, k0_pay118, k0_pay120, k0_pay114, k0_pay121, k0_pay122, k0_pay123, k0_pay124, k0_pay125, tri]

theorem p117 (U W V) (n : Fin 8) (r : Fin 512) :
    k0_pay117 (F := Ideal) U W V (ix2 n r) = gate1 (fun n r => ∑ k : Fin 1024, W (ix2 n k) * U (ix2 r k) + V (ix2 n 0)) n r := by
  unfold gate1
  rw [← sel4]
  pointwise [k0_pay117, Cert.MixRow.logSig]

theorem p116 (U W V) (n : Fin 8) (r : Fin 512) :
    k0_pay116 (F := Ideal) (k0_pay113 U W V) k0_pay114 (k0_pay115 U W V) (ix2 r n)
      = gate1 (fun n r => ∑ k : Fin 1024, U (ix2 r k) * W (ix2 k n) + V (ix2 0 n)) n r := by
  unfold gate1
  rw [← sel4]
  pointwise [k0_pay116, k0_pay113, k0_pay114, k0_pay115, Cert.MixRow.logSig]

theorem row_A (m : (ℓ : Loc nD τ sig) → Buf (Elt Ideal) ℓ) (c : Dev nD) (t : Fin cfg0.N) (h0 : t.val % 8 = 0) (q : Fin 2) (n : Fin 8) (j : Fin 256) :
    leftA_23 m c t h0 (ix4 0 q n j)
      = gate2 (fun n r => ∑ k : Fin 1024, tile12 m c t (ix2 n k) * tileU m c t (ix2 r k) + tile5 m c t (ix2 n 0)) n q j := by
  unfold leftA_23
  rw [View.read_writes_eq_canon _ _ _ (covA_23 m c t h0)]
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
  simp (disch := decide) only [View.ld_unit_lit', View.canon_cons_unit_lit', View.readCov_unit_lit']
  have e12 : iblk m c 12 t = tile12 m c t := rfl
  have e5 : iblk m c 5 t = tile5 m c t := rfl
  rw [tileU_eq, e12, e5]
  generalize tileU m c t = U
  generalize tile12 m c t = W
  generalize tile5 m c t = V
  refine View.canon_apply_of_pieces (Val := Elt Ideal) (S := S1x2x8x256) (e := .f32) (fun i => gate2 (fun n r => ∑ k : Fin 1024, W (ix2 n k) * U (ix2 r k) + V (ix2 n 0)) (i 2) (i 1) (i 3)) _ ?_ _ ?_
  · simp only [List.forall_mem_cons, List.not_mem_nil, false_imp_iff, implies_true, and_true]
    refine ⟨?_, ?_⟩ <;> intro x
    all_goals obtain ⟨x0, x1, n, j, rfl⟩ : ∃ (x0 x1 : Fin 1) (n : Fin 8) (j : Fin 256), x = ix4 x0 x1 n j := ⟨x 0, x 1, x 2, x 3, by funext b; match b with | ⟨0, _⟩ => rfl | ⟨1, _⟩ => rfl | ⟨2, _⟩ => rfl | ⟨3, _⟩ => rfl⟩
    all_goals rw [Subsingleton.elim x0 0, Subsingleton.elim x1 0]
    · refine (p131 _ n j).trans ?_
      simp only [p117]
      refine (gate2_eq _ n (1 : Fin 2) j).trans ?_
      refine congr (congr (congrArg _ (Fin.ext ?_)) (Fin.ext ?_)) (Fin.ext ?_)
      · show n.val = 0 + 1 * n.val; omega
      · rfl
      · show j.val = 0 + 1 * j.val; omega
    · refine (p127 _ n j).trans ?_
      simp only [p117]
      have e := gate2_eq (fun n r => ∑ k : Fin 1024, W (ix2 n k) * U (ix2 r k) + V (ix2 n 0)) n (0 : Fin 2) j
      have z : ∀ x : Fin 256, (⟨((0 : Fin 2) : ℕ) * 256 + x.val, half_row 0 x⟩ : Fin 512) = ⟨x.val, by omega⟩ := fun x => Fin.ext (by show 0 * 256 + x.val = x.val; omega)
      simp only [z] at e
      refine e.trans ?_
      refine congr (congr (congrArg _ (Fin.ext ?_)) (Fin.ext ?_)) (Fin.ext ?_)
      · show n.val = 0 + 1 * n.val; omega
      · rfl
      · show j.val = 0 + 1 * j.val; omega
  · exact View.cover_of_tiledL _ ![1, 1, 8, 256] (by sl_kernel_rfl) _

theorem row_B (m : (ℓ : Loc nD τ sig) → Buf (Elt Ideal) ℓ) (c : Dev nD) (t : Fin cfg0.N) (h0 : ¬t.val % 8 = 0) (xs : Vec Ideal S520x1024 .f32) (q : Fin 2) (n : Fin 8) (j : Fin 256) :
    leftB_23 m c t h0 xs (ix4 0 q n j)
      = gate2 (fun n r => ∑ k : Fin 1024, tile12 m c t (ix2 n k) * tileU m c t (ix2 r k) + tile5 m c t (ix2 n 0)) n q j := by
  unfold leftB_23
  rw [View.read_writes_eq_canon _ _ _ (covB_23 m c t h0 xs)]
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
  simp (disch := decide) only [View.ld_unit_lit', View.canon_cons_unit_lit', View.readCov_unit_lit']
  have e12 : iblk m c 12 t = tile12 m c t := rfl
  have e5 : iblk m c 5 t = tile5 m c t := rfl
  rw [tileU_eq, e12, e5]
  generalize tileU m c t = U
  generalize tile12 m c t = W
  generalize tile5 m c t = V
  refine View.canon_apply_of_pieces (Val := Elt Ideal) (S := S1x2x8x256) (e := .f32) (fun i => gate2 (fun n r => ∑ k : Fin 1024, W (ix2 n k) * U (ix2 r k) + V (ix2 n 0)) (i 2) (i 1) (i 3)) _ ?_ _ ?_
  · simp only [List.forall_mem_cons, List.not_mem_nil, false_imp_iff, implies_true, and_true]
    refine ⟨?_, ?_⟩ <;> intro x
    all_goals obtain ⟨x0, x1, n, j, rfl⟩ : ∃ (x0 x1 : Fin 1) (n : Fin 8) (j : Fin 256), x = ix4 x0 x1 n j := ⟨x 0, x 1, x 2, x 3, by funext b; match b with | ⟨0, _⟩ => rfl | ⟨1, _⟩ => rfl | ⟨2, _⟩ => rfl | ⟨3, _⟩ => rfl⟩
    all_goals rw [Subsingleton.elim x0 0, Subsingleton.elim x1 0]
    · refine (p131 _ n j).trans ?_
      simp only [p117]
      refine (gate2_eq _ n (1 : Fin 2) j).trans ?_
      refine congr (congr (congrArg _ (Fin.ext ?_)) (Fin.ext ?_)) (Fin.ext ?_)
      · show n.val = 0 + 1 * n.val; omega
      · rfl
      · show j.val = 0 + 1 * j.val; omega
    · refine (p127 _ n j).trans ?_
      simp only [p117]
      have e := gate2_eq (fun n r => ∑ k : Fin 1024, W (ix2 n k) * U (ix2 r k) + V (ix2 n 0)) n (0 : Fin 2) j
      have z : ∀ x : Fin 256, (⟨((0 : Fin 2) : ℕ) * 256 + x.val, half_row 0 x⟩ : Fin 512) = ⟨x.val, by omega⟩ := fun x => Fin.ext (by show 0 * 256 + x.val = x.val; omega)
      simp only [z] at e
      refine e.trans ?_
      refine congr (congr (congrArg _ (Fin.ext ?_)) (Fin.ext ?_)) (Fin.ext ?_)
      · show n.val = 0 + 1 * n.val; omega
      · rfl
      · show j.val = 0 + 1 * j.val; omega
  · exact View.cover_of_tiledL _ ![1, 1, 8, 256] (by sl_kernel_rfl) _

theorem col_A (m : (ℓ : Loc nD τ sig) → Buf (Elt Ideal) ℓ) (c : Dev nD) (t : Fin cfg0.N) (h0 : t.val % 8 = 0) (r : Fin 512) (n : Fin 8) :
    leftA_24 m c t h0 (ix3 0 r n)
      = gate2 (fun n r => ∑ k : Fin 1024, tileU m c t (ix2 r k) * tile10 m c t (ix2 k n) + tile4 m c t (ix2 0 n)) n (⟨r.val / 256, hi_lt r⟩ : Fin 2) (⟨r.val % 256, lo_lt r⟩ : Fin 256) := by
  unfold leftA_24
  rw [View.read_writes_eq_canon _ _ _ (covA_24 m c t h0)]
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
  simp (disch := decide) only [View.ld_unit_lit', View.canon_cons_unit_lit', View.readCov_unit_lit']
  have e10 : iblk m c 10 t = tile10 m c t := rfl
  have e4 : iblk m c 4 t = tile4 m c t := rfl
  rw [tileU_eq, e10, e4]
  generalize tileU m c t = U
  generalize tile10 m c t = W
  generalize tile4 m c t = V
  refine View.canon_apply_of_pieces (Val := Elt Ideal) (S := S1x512x8) (e := .f32) (fun i => gate2 (fun n r => ∑ k : Fin 1024, U (ix2 r k) * W (ix2 k n) + V (ix2 0 n)) (i 2) (⟨(i 1).val / 256, hi_lt _⟩ : Fin 2) (⟨(i 1).val % 256, lo_lt _⟩ : Fin 256)) _ ?_ _ ?_
  · simp only [List.forall_mem_cons, List.not_mem_nil, false_imp_iff, implies_true, and_true]
    refine ⟨?_, ?_⟩ <;> intro x
    all_goals obtain ⟨x0, j, n, rfl⟩ : ∃ (x0 : Fin 1) (j : Fin 256) (n : Fin 8), x = ix3 x0 j n := ⟨x 0, x 1, x 2, by funext b; match b with | ⟨0, _⟩ => rfl | ⟨1, _⟩ => rfl | ⟨2, _⟩ => rfl⟩
    all_goals rw [Subsingleton.elim x0 0]
    · refine (p130 _ n j).trans ?_
      simp only [p116]
      refine (gate2_eq _ n (1 : Fin 2) j).trans ?_
      refine congr (congr (congrArg _ (Fin.ext ?_)) (Fin.ext ?_)) (Fin.ext ?_)
      · show n.val = 0 + 1 * n.val; omega
      · show 1 = (256 + 1 * j.val) / 256; omega
      · show j.val = (256 + 1 * j.val) % 256; omega
    · refine (p126 _ _ n j).trans ?_
      simp only [p116]
      have e := gate2_eq (fun n r => ∑ k : Fin 1024, U (ix2 r k) * W (ix2 k n) + V (ix2 0 n)) n (0 : Fin 2) j
      have z : ∀ x : Fin 256, (⟨((0 : Fin 2) : ℕ) * 256 + x.val, half_row 0 x⟩ : Fin 512) = ⟨x.val, by omega⟩ := fun x => Fin.ext (by show 0 * 256 + x.val = x.val; omega)
      simp only [z] at e
      refine e.trans ?_
      refine congr (congr (congrArg _ (Fin.ext ?_)) (Fin.ext ?_)) (Fin.ext ?_)
      · show n.val = 0 + 1 * n.val; omega
      · show 0 = (0 + 1 * j.val) / 256; omega
      · show j.val = (0 + 1 * j.val) % 256; omega
  · exact View.cover_of_tiledL _ ![1, 256, 8] (by sl_kernel_rfl) _

theorem col_B (m : (ℓ : Loc nD τ sig) → Buf (Elt Ideal) ℓ) (c : Dev nD) (t : Fin cfg0.N) (h0 : ¬t.val % 8 = 0) (xs : Vec Ideal S520x1024 .f32) (r : Fin 512) (n : Fin 8) :
    leftB_24 m c t h0 xs (ix3 0 r n)
      = gate2 (fun n r => ∑ k : Fin 1024, tileU m c t (ix2 r k) * tile10 m c t (ix2 k n) + tile4 m c t (ix2 0 n)) n (⟨r.val / 256, hi_lt r⟩ : Fin 2) (⟨r.val % 256, lo_lt r⟩ : Fin 256) := by
  unfold leftB_24
  rw [View.read_writes_eq_canon _ _ _ (covB_24 m c t h0 xs)]
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
  simp (disch := decide) only [View.ld_unit_lit', View.canon_cons_unit_lit', View.readCov_unit_lit']
  have e10 : iblk m c 10 t = tile10 m c t := rfl
  have e4 : iblk m c 4 t = tile4 m c t := rfl
  rw [tileU_eq, e10, e4]
  generalize tileU m c t = U
  generalize tile10 m c t = W
  generalize tile4 m c t = V
  refine View.canon_apply_of_pieces (Val := Elt Ideal) (S := S1x512x8) (e := .f32) (fun i => gate2 (fun n r => ∑ k : Fin 1024, U (ix2 r k) * W (ix2 k n) + V (ix2 0 n)) (i 2) (⟨(i 1).val / 256, hi_lt _⟩ : Fin 2) (⟨(i 1).val % 256, lo_lt _⟩ : Fin 256)) _ ?_ _ ?_
  · simp only [List.forall_mem_cons, List.not_mem_nil, false_imp_iff, implies_true, and_true]
    refine ⟨?_, ?_⟩ <;> intro x
    all_goals obtain ⟨x0, j, n, rfl⟩ : ∃ (x0 : Fin 1) (j : Fin 256) (n : Fin 8), x = ix3 x0 j n := ⟨x 0, x 1, x 2, by funext b; match b with | ⟨0, _⟩ => rfl | ⟨1, _⟩ => rfl | ⟨2, _⟩ => rfl⟩
    all_goals rw [Subsingleton.elim x0 0]
    · refine (p130 _ n j).trans ?_
      simp only [p116]
      refine (gate2_eq _ n (1 : Fin 2) j).trans ?_
      refine congr (congr (congrArg _ (Fin.ext ?_)) (Fin.ext ?_)) (Fin.ext ?_)
      · show n.val = 0 + 1 * n.val; omega
      · show 1 = (256 + 1 * j.val) / 256; omega
      · show j.val = (256 + 1 * j.val) % 256; omega
    · refine (p126 _ _ n j).trans ?_
      simp only [p116]
      have e := gate2_eq (fun n r => ∑ k : Fin 1024, U (ix2 r k) * W (ix2 k n) + V (ix2 0 n)) n (0 : Fin 2) j
      have z : ∀ x : Fin 256, (⟨((0 : Fin 2) : ℕ) * 256 + x.val, half_row 0 x⟩ : Fin 512) = ⟨x.val, by omega⟩ := fun x => Fin.ext (by show 0 * 256 + x.val = x.val; omega)
      simp only [z] at e
      refine e.trans ?_
      refine congr (congr (congrArg _ (Fin.ext ?_)) (Fin.ext ?_)) (Fin.ext ?_)
      · show n.val = 0 + 1 * n.val; omega
      · show 0 = (0 + 1 * j.val) / 256; omega
      · show j.val = (0 + 1 * j.val) % 256; omega
  · exact View.cover_of_tiledL _ ![1, 256, 8] (by sl_kernel_rfl) _

theorem row_at (m : (ℓ : Loc nD τ sig) → Buf (Elt Ideal) ℓ) (c : Dev nD) (t : Fin cfg0.N) (q : Fin 2) (n : Fin 8) (j : Fin 256) :
    (leaves m c t.val t.isLt).2.2.2.2.2.2.2.2.2.2.1 (ix4 0 q n j) = gate2 (fun n r => ∑ k : Fin 1024, tile12 m c t (ix2 n k) * tileU m c t (ix2 r k) + tile5 m c t (ix2 n 0)) n q j := by
  by_cases h0 : t.val % 8 = 0
  · rw [leaves_A m c t h0]; unfold allA; dsimp only; exact row_A m c t h0 q n j
  · rw [leaves_B m c t h0]; unfold allB; dsimp only; exact row_B m c t h0 _ q n j

theorem col_at (m : (ℓ : Loc nD τ sig) → Buf (Elt Ideal) ℓ) (c : Dev nD) (t : Fin cfg0.N) (r : Fin 512) (n : Fin 8) :
    (leaves m c t.val t.isLt).2.2.2.2.2.2.2.2.2.2.2.1 (ix3 0 r n) = gate2 (fun n r => ∑ k : Fin 1024, tileU m c t (ix2 r k) * tile10 m c t (ix2 k n) + tile4 m c t (ix2 0 n)) n (⟨r.val / 256, hi_lt r⟩ : Fin 2) (⟨r.val % 256, lo_lt r⟩ : Fin 256) := by
  by_cases h0 : t.val % 8 = 0
  · rw [leaves_A m c t h0]; unfold allA; dsimp only; exact col_A m c t h0 r n
  · rw [leaves_B m c t h0]; unfold allB; dsimp only; exact col_B m c t h0 _ r n

end Cert.MixBlock
end
-- ==== Proof.MixGateCells.lean ====
/- The gates a point of the projection computes, as the sequence's own values. -/
module

public import proofs.«01_k».proof.Proof.MixInputs
public import proofs.«01_k».proof.Proof.MixGate

@[expose] public section
set_option maxRecDepth 16384
noncomputable section
namespace Cert.MixIdeal.Array
open Cert.MixIdeal Cert.MixIdeal.Gen Cert.MixBlock Cert.MixRun Idealize.ShloMosaic Idealize.ShloMosaic.TcCoe Idealize.ShloMosaic.Tactic Idealize.SL.Sem
variable (m : (ℓ : Loc nD τ sig) → Buf (Elt Ideal) ℓ)

theorem piece_lt (t : Fin cfg0.N) (q : Fin 2) : t.val % 8 * 2 + q.val < 16 := by omega

theorem row_piece (t : Fin cfg0.N) (q : Fin 2) (j : Fin 256) :
    row t ⟨q.val * 256 + j.val, half_row q j⟩ = ⟨(t.val % 8 * 2 + q.val) * 256 + j.val, by have h := piece_lt t q; omega⟩ :=
  Fin.ext (by show t.val % 8 * 512 + (q.val * 256 + j.val) = (t.val % 8 * 2 + q.val) * 256 + j.val; omega)

theorem gate_pre (c : Dev nD) (t : Fin cfg0.N) (n : Fin 8) (q : Fin 2) (j : Fin 256) :
    gate2 (fun n r => pre m c (seq t) (row t r) n) n q j
      = MixRow.gate (X m c) (G m c) (Wt m c) (Bi m c) (Bf m c) (seq t) ⟨t.val % 8 * 2 + q.val, piece_lt t q⟩ j n := by
  unfold gate2 MixRow.gate
  by_cases h : n.val < 4
  · rw [if_pos h, dif_pos h]
    refine congrArg (fun p => MixRow.cum p j) (funext fun x => congrArg MixRow.logSig ?_)
    dsimp only
    rw [row_piece]
    unfold pre
    rw [dif_pos h]
  · rw [if_neg h, dif_neg h]
    dsimp only
    rw [row_piece]
    unfold pre
    rw [dif_neg h]

theorem row_cell (c : Dev nD) (t : Fin cfg0.N) (q : Fin 2) (n : Fin 8) (j : Fin 256) :
    (leaves m c t.val t.isLt).2.2.2.2.2.2.2.2.2.2.1 (ix4 0 q n j)
      = MixRow.gate (X m c) (G m c) (Wt m c) (Bi m c) (Bf m c) (seq t) ⟨t.val % 8 * 2 + q.val, piece_lt t q⟩ j n := by
  refine (row_at m c t q n j).trans ?_
  rw [show (fun (n : Fin 8) (r : Fin 512) => ∑ k : Fin 1024, tile12 m c t (ix2 n k) * tileU m c t (ix2 r k) + tile5 m c t (ix2 n 0)) = fun n r => pre m c (seq t) (row t r) n from
    funext fun n => funext fun r => pre_row m c t r n]
  exact gate_pre m c t n q j

theorem col_cell (c : Dev nD) (t : Fin cfg0.N) (r : Fin 512) (n : Fin 8) :
    (leaves m c t.val t.isLt).2.2.2.2.2.2.2.2.2.2.2.1 (ix3 0 r n)
      = MixRow.gate (X m c) (G m c) (Wt m c) (Bi m c) (Bf m c) (seq t) ⟨(row t r).val / 256, by omega⟩ ⟨(row t r).val % 256, by omega⟩ n := by
  refine (col_at m c t r n).trans ?_
  rw [show (fun (n : Fin 8) (r : Fin 512) => ∑ k : Fin 1024, tileU m c t (ix2 r k) * tile10 m c t (ix2 k n) + tile4 m c t (ix2 0 n)) = fun n r => pre m c (seq t) (row t r) n from
    funext fun n => funext fun r => pre_col m c t r n]
  refine (gate_pre m c t n ⟨r.val / 256, hi_lt r⟩ ⟨r.val % 256, lo_lt r⟩).trans ?_
  exact congrArg₂ (fun p j => MixRow.gate (X m c) (G m c) (Wt m c) (Bi m c) (Bf m c) (seq t) p j n)
    (Fin.ext (by show t.val % 8 * 2 + r.val / 256 = (t.val % 8 * 512 + r.val) / 256; omega))
    (Fin.ext (by show r.val % 256 = (t.val % 8 * 512 + r.val) % 256; omega))

end Cert.MixIdeal.Array
end
-- ==== Proof.MixConvQ.lean ====
/- The recurrence's queries a point leaves: the convolution of four rows and its activation. -/
module

public import proofs.«01_k».proof.Proof.MixScratch
public import Idealize.ShloMosaic.Lib.Pipeline.ValueKit
public import Idealize.ShloMosaic.Lib.Pointwise
public import Idealize.ShloMosaic.Lib.VecWindow

@[expose] public section
set_option maxRecDepth 16384
noncomputable section
namespace Cert.MixBlock
open Cert.MixIdeal Cert.MixIdeal.Gen Cert.MixRun Idealize.ShloMosaic Idealize.ShloMosaic.TcCoe Idealize.ShloMosaic.Tactic Idealize.SL.Sem
open Idealize.ShloMosaic.Pipeline (Dat)

set_option maxHeartbeats 4000000 in
theorem qb_A (m : (ℓ : Loc nD τ sig) → Buf (Elt Ideal) ℓ) (c : Dev nD) (t : Fin cfg0.N) (h0 : t.val % 8 = 0) (r : Fin 512) (n : Fin 512) :
    leftA_18 m c t h0 (ix3 0 r n) = taps (ext (tileZ (tileU m c t) (tile7 m c t)) (fun _ _ => 0)) (fun j n => tile3 m c t (ix2 j n)) r (⟨0 + (n).val, half_lt0 _⟩ : Fin 1024) := by
  unfold leftA_18
  rw [View.read_writes_eq_canon _ _ _ (covA_18 m c t h0)]
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
  simp (disch := decide) only [View.ld_unit_lit', View.canon_cons_unit_lit', View.readCov_unit_lit']
  rw [tileU_eq, tile7_eq, tile3_eq]
  generalize tileU m c t = U
  generalize tile7 m c t = W
  generalize tile3 m c t = V
  refine View.canon_apply_of_pieces (Val := Elt Ideal) (S := S1x512x512) (e := .bf16) (fun i => taps (ext (tileZ U W) (fun _ _ => 0)) (fun j n => V (ix2 j n)) (i 1) (⟨0 + ((i 2)).val, half_lt0 _⟩ : Fin 1024)) _ ?_ _ ?_
  · simp only [List.forall_mem_cons, List.not_mem_nil, false_imp_iff, implies_true, and_true]
    refine ⟨?_, ?_⟩ <;> intro x
    all_goals idx_vars x
    iterate 4 (all_goals try rw [rd _ _ _ (ext (tileZ U W) (fun _ _ => 0))])
    all_goals first
      | (intro a n ha h1 h2; unfold ext; by_cases h8 : a.val < 8)
      | skip
    all_goals try (exfalso; omega)
    all_goals try rw [dif_pos h8]
    all_goals try rw [dif_neg h8]
    all_goals try exact (canon_hit _ _ _ a n ⟨a.val - 8, by omega⟩ ⟨n.val - 0, by omega⟩ (by show a.val = 8 + (a.val - 8); omega) (by show n.val = 0 + (n.val - 0); omega)).trans (slab _ z86 _ _ _ _ _ n (by show n.val = 0 + (n.val - 0); omega))
    all_goals try exact (hit _ _ _ _ _ a n ⟨a.val - 8, by omega⟩ ⟨n.val - 0, by omega⟩ (by show a.val = 8 + (a.val - 8); omega) (by show n.val = 0 + (n.val - 0); omega)).trans (slab _ z86 _ _ _ _ _ n (by show n.val = 0 + (n.val - 0); omega))
    all_goals try exact (canon_hit _ _ _ a n ⟨a.val - 8, by omega⟩ ⟨n.val - 256, by omega⟩ (by show a.val = 8 + (a.val - 8); omega) (by show n.val = 256 + (n.val - 256); omega)).trans (slab _ z91 _ _ _ _ _ n (by show n.val = 256 + (n.val - 256); omega))
    all_goals try exact (hit _ _ _ _ _ a n ⟨a.val - 8, by omega⟩ ⟨n.val - 256, by omega⟩ (by show a.val = 8 + (a.val - 8); omega) (by show n.val = 256 + (n.val - 256); omega)).trans (slab _ z91 _ _ _ _ _ n (by show n.val = 256 + (n.val - 256); omega))
    iterate 8 (all_goals try refine (canon_miss _ _ _ a n (by omega)).trans ?_)
    all_goals try (exact (canon_hit _ _ _ a n ⟨a.val, h8⟩ n (Nat.zero_add _).symm (Nat.zero_add _).symm).trans (z4 _ _))
    all_goals pointwise [k0_pay88, k0_pay94, k0_pay92, taps, Cert.MixRow.silu]
    all_goals blk_point []
  · exact View.cover_of_tiledL _ ![1, 512, 256] (by sl_kernel_rfl) _

set_option maxHeartbeats 4000000 in
theorem qb_B (m : (ℓ : Loc nD τ sig) → Buf (Elt Ideal) ℓ) (c : Dev nD) (t : Fin cfg0.N) (h0 : ¬t.val % 8 = 0) (xs : Vec Ideal S520x1024 .f32) (r : Fin 512) (n : Fin 512) :
    leftB_18 m c t h0 xs (ix3 0 r n) = taps (ext (tileZ (tileU m c t) (tile7 m c t)) (fun a n => xs (ix2 (⟨a.val, row8_lt _⟩ : Fin 520) n))) (fun j n => tile3 m c t (ix2 j n)) r (⟨0 + (n).val, half_lt0 _⟩ : Fin 1024) := by
  unfold leftB_18
  rw [View.read_writes_eq_canon _ _ _ (covB_18 m c t h0 xs)]
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
  simp (disch := decide) only [View.ld_unit_lit', View.canon_cons_unit_lit', View.readCov_unit_lit']
  rw [tileU_eq, tile7_eq, tile3_eq]
  generalize tileU m c t = U
  generalize tile7 m c t = W
  generalize tile3 m c t = V
  refine View.canon_apply_of_pieces (Val := Elt Ideal) (S := S1x512x512) (e := .bf16) (fun i => taps (ext (tileZ U W) (fun a n => xs (ix2 (⟨a.val, row8_lt _⟩ : Fin 520) n))) (fun j n => V (ix2 j n)) (i 1) (⟨0 + ((i 2)).val, half_lt0 _⟩ : Fin 1024)) _ ?_ _ ?_
  · simp only [List.forall_mem_cons, List.not_mem_nil, false_imp_iff, implies_true, and_true]
    refine ⟨?_, ?_⟩ <;> intro x
    all_goals idx_vars x
    all_goals try rw [rd _ _ _ (ext (tileZ U W) (fun a n => xs (ix2 (⟨a.val, row8_lt _⟩ : Fin 520) n)))]
    iterate 3 (all_goals try rw [rd_ld _ _ (ext (tileZ U W) (fun a n => xs (ix2 (⟨a.val, row8_lt _⟩ : Fin 520) n)))])
    all_goals first
      | (intro a n ha h1 h2; unfold ext; by_cases h8 : a.val < 8)
      | skip
    all_goals try (exfalso; omega)
    all_goals try rw [dif_pos h8]
    all_goals try rw [dif_neg h8]
    all_goals try exact (canon_hit _ _ _ a n ⟨a.val - 8, by omega⟩ ⟨n.val - 0, by omega⟩ (by show a.val = 8 + (a.val - 8); omega) (by show n.val = 0 + (n.val - 0); omega)).trans (slab _ z86 _ _ _ _ _ n (by show n.val = 0 + (n.val - 0); omega))
    all_goals try exact (hit _ _ _ _ _ a n ⟨a.val - 8, by omega⟩ ⟨n.val - 0, by omega⟩ (by show a.val = 8 + (a.val - 8); omega) (by show n.val = 0 + (n.val - 0); omega)).trans (slab _ z86 _ _ _ _ _ n (by show n.val = 0 + (n.val - 0); omega))
    all_goals try exact (canon_hit _ _ _ a n ⟨a.val - 8, by omega⟩ ⟨n.val - 256, by omega⟩ (by show a.val = 8 + (a.val - 8); omega) (by show n.val = 256 + (n.val - 256); omega)).trans (slab _ z91 _ _ _ _ _ n (by show n.val = 256 + (n.val - 256); omega))
    all_goals try exact (hit _ _ _ _ _ a n ⟨a.val - 8, by omega⟩ ⟨n.val - 256, by omega⟩ (by show a.val = 8 + (a.val - 8); omega) (by show n.val = 256 + (n.val - 256); omega)).trans (slab _ z91 _ _ _ _ _ n (by show n.val = 256 + (n.val - 256); omega))
    iterate 8 (all_goals try refine (miss _ _ _ _ _ a n (by omega)).trans ?_)
    all_goals try (exact congrFun (Memref.IsWhole.read_unread (m := Memref.whole cc0_scratch1) _ xs) (ix2 a n))
    all_goals pointwise [k0_pay88, k0_pay94, k0_pay92, taps, Cert.MixRow.silu]
    all_goals blk_point []
  · exact View.cover_of_tiledL _ ![1, 512, 256] (by sl_kernel_rfl) _

theorem qb_at (m : (ℓ : Loc nD τ sig) → Buf (Elt Ideal) ℓ) (c : Dev nD) (t : Fin cfg0.N) (r n : Fin 512) :
    (leaves m c t.val t.isLt).2.2.2.2.2.1 (ix3 0 r n) = taps (ext (tileZ (tileU m c t) (tile7 m c t)) (before m c t)) (fun j n => tile3 m c t (ix2 j n)) r (⟨0 + n.val, half_lt0 _⟩ : Fin 1024) := by
  by_cases h0 : t.val % 8 = 0
  · rw [leaves_A m c t h0, show before m c t = fun _ _ => 0 from funext fun a => funext fun n => if_pos h0]
    unfold allA
    dsimp only
    exact qb_A m c t h0 r n
  · rw [leaves_B m c t h0]
    unfold allB
    dsimp only
    refine (qb_B m c t h0 _ r n).trans ?_
    rw [show before m c t = fun a n => (leaves m c (t.val - 1) (Nat.lt_of_le_of_lt (Nat.sub_le _ _) t.isLt)).2.2.2.2.2.2.2.2.2.2.2.2 (ix2 (⟨a.val, row8_lt a⟩ : Fin 520) n) from
      funext fun a => funext fun n => (if_neg h0).trans (scratch_at m c ⟨t.val - 1, Nat.lt_of_le_of_lt (Nat.sub_le _ _) t.isLt⟩ a n).symm]

end Cert.MixBlock
end
-- ==== Proof.MixConvK.lean ====
/- The recurrence's keys a point leaves: the convolution of four rows, its activation and a scale. -/
module

public import proofs.«01_k».proof.Proof.MixScratch
public import Idealize.ShloMosaic.Lib.Pipeline.ValueKit
public import Idealize.ShloMosaic.Lib.Pointwise
public import Idealize.ShloMosaic.Lib.VecWindow

@[expose] public section
set_option maxRecDepth 16384
noncomputable section
namespace Cert.MixBlock
open Cert.MixIdeal Cert.MixIdeal.Gen Cert.MixRun Idealize.ShloMosaic Idealize.ShloMosaic.TcCoe Idealize.ShloMosaic.Tactic Idealize.SL.Sem
open Idealize.ShloMosaic.Pipeline (Dat)

set_option maxHeartbeats 4000000 in
theorem kb_A (m : (ℓ : Loc nD τ sig) → Buf (Elt Ideal) ℓ) (c : Dev nD) (t : Fin cfg0.N) (h0 : t.val % 8 = 0) (r : Fin 512) (n : Fin 512) :
    leftA_19 m c t h0 (ix3 0 r n) = (taps (ext (tileZ (tileU m c t) (tile7 m c t)) (fun _ _ => 0)) (fun j n => tile3 m c t (ix2 j n)) r (⟨512 + (n).val, half_lt512 _⟩ : Fin 1024)) * Ideal.ofBits .f32 0x3DB504F3#32 := by
  unfold leftA_19
  rw [View.read_writes_eq_canon _ _ _ (covA_19 m c t h0)]
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
  simp (disch := decide) only [View.ld_unit_lit', View.canon_cons_unit_lit', View.readCov_unit_lit']
  rw [tileU_eq, tile7_eq, tile3_eq]
  generalize tileU m c t = U
  generalize tile7 m c t = W
  generalize tile3 m c t = V
  refine View.canon_apply_of_pieces (Val := Elt Ideal) (S := S1x512x512) (e := .bf16) (fun i => (taps (ext (tileZ U W) (fun _ _ => 0)) (fun j n => V (ix2 j n)) (i 1) (⟨512 + ((i 2)).val, half_lt512 _⟩ : Fin 1024)) * Ideal.ofBits .f32 0x3DB504F3#32) _ ?_ _ ?_
  · simp only [List.forall_mem_cons, List.not_mem_nil, false_imp_iff, implies_true, and_true]
    refine ⟨?_, ?_⟩ <;> intro x
    all_goals idx_vars x
    iterate 4 (all_goals try rw [rd _ _ _ (ext (tileZ U W) (fun _ _ => 0))])
    all_goals first
      | (intro a n ha h1 h2; unfold ext; by_cases h8 : a.val < 8)
      | skip
    all_goals try (exfalso; omega)
    all_goals try rw [dif_pos h8]
    all_goals try rw [dif_neg h8]
    all_goals try exact (canon_hit _ _ _ a n ⟨a.val - 8, by omega⟩ ⟨n.val - 512, by omega⟩ (by show a.val = 8 + (a.val - 8); omega) (by show n.val = 512 + (n.val - 512); omega)).trans (slab _ z97 _ _ _ _ _ n (by show n.val = 512 + (n.val - 512); omega))
    all_goals try exact (hit _ _ _ _ _ a n ⟨a.val - 8, by omega⟩ ⟨n.val - 512, by omega⟩ (by show a.val = 8 + (a.val - 8); omega) (by show n.val = 512 + (n.val - 512); omega)).trans (slab _ z97 _ _ _ _ _ n (by show n.val = 512 + (n.val - 512); omega))
    all_goals try exact (canon_hit _ _ _ a n ⟨a.val - 8, by omega⟩ ⟨n.val - 768, by omega⟩ (by show a.val = 8 + (a.val - 8); omega) (by show n.val = 768 + (n.val - 768); omega)).trans (slab _ z106 _ _ _ _ _ n (by show n.val = 768 + (n.val - 768); omega))
    all_goals try exact (hit _ _ _ _ _ a n ⟨a.val - 8, by omega⟩ ⟨n.val - 768, by omega⟩ (by show a.val = 8 + (a.val - 8); omega) (by show n.val = 768 + (n.val - 768); omega)).trans (slab _ z106 _ _ _ _ _ n (by show n.val = 768 + (n.val - 768); omega))
    iterate 8 (all_goals try refine (canon_miss _ _ _ a n (by omega)).trans ?_)
    all_goals try (exact (canon_hit _ _ _ a n ⟨a.val, h8⟩ n (Nat.zero_add _).symm (Nat.zero_add _).symm).trans (z4 _ _))
    all_goals pointwise [k0_pay98, k0_pay99, k0_pay101, k0_pay107, k0_pay109, taps, Cert.MixRow.silu]
    all_goals blk_point []
    all_goals try exact Fin.ext (by show 768 + x2.val = 512 + (256 + x2.val); omega)
  · exact View.cover_of_tiledL _ ![1, 512, 256] (by sl_kernel_rfl) _

set_option maxHeartbeats 4000000 in
theorem kb_B (m : (ℓ : Loc nD τ sig) → Buf (Elt Ideal) ℓ) (c : Dev nD) (t : Fin cfg0.N) (h0 : ¬t.val % 8 = 0) (xs : Vec Ideal S520x1024 .f32) (r : Fin 512) (n : Fin 512) :
    leftB_19 m c t h0 xs (ix3 0 r n) = (taps (ext (tileZ (tileU m c t) (tile7 m c t)) (fun a n => xs (ix2 (⟨a.val, row8_lt _⟩ : Fin 520) n))) (fun j n => tile3 m c t (ix2 j n)) r (⟨512 + (n).val, half_lt512 _⟩ : Fin 1024)) * Ideal.ofBits .f32 0x3DB504F3#32 := by
  unfold leftB_19
  rw [View.read_writes_eq_canon _ _ _ (covB_19 m c t h0 xs)]
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
  simp (disch := decide) only [View.ld_unit_lit', View.canon_cons_unit_lit', View.readCov_unit_lit']
  rw [tileU_eq, tile7_eq, tile3_eq]
  generalize tileU m c t = U
  generalize tile7 m c t = W
  generalize tile3 m c t = V
  refine View.canon_apply_of_pieces (Val := Elt Ideal) (S := S1x512x512) (e := .bf16) (fun i => (taps (ext (tileZ U W) (fun a n => xs (ix2 (⟨a.val, row8_lt _⟩ : Fin 520) n))) (fun j n => V (ix2 j n)) (i 1) (⟨512 + ((i 2)).val, half_lt512 _⟩ : Fin 1024)) * Ideal.ofBits .f32 0x3DB504F3#32) _ ?_ _ ?_
  · simp only [List.forall_mem_cons, List.not_mem_nil, false_imp_iff, implies_true, and_true]
    refine ⟨?_, ?_⟩ <;> intro x
    all_goals idx_vars x
    all_goals try rw [rd _ _ _ (ext (tileZ U W) (fun a n => xs (ix2 (⟨a.val, row8_lt _⟩ : Fin 520) n)))]
    iterate 3 (all_goals try rw [rd_ld _ _ (ext (tileZ U W) (fun a n => xs (ix2 (⟨a.val, row8_lt _⟩ : Fin 520) n)))])
    all_goals first
      | (intro a n ha h1 h2; unfold ext; by_cases h8 : a.val < 8)
      | skip
    all_goals try (exfalso; omega)
    all_goals try rw [dif_pos h8]
    all_goals try rw [dif_neg h8]
    all_goals try exact (canon_hit _ _ _ a n ⟨a.val - 8, by omega⟩ ⟨n.val - 512, by omega⟩ (by show a.val = 8 + (a.val - 8); omega) (by show n.val = 512 + (n.val - 512); omega)).trans (slab _ z97 _ _ _ _ _ n (by show n.val = 512 + (n.val - 512); omega))
    all_goals try exact (hit _ _ _ _ _ a n ⟨a.val - 8, by omega⟩ ⟨n.val - 512, by omega⟩ (by show a.val = 8 + (a.val - 8); omega) (by show n.val = 512 + (n.val - 512); omega)).trans (slab _ z97 _ _ _ _ _ n (by show n.val = 512 + (n.val - 512); omega))
    all_goals try exact (canon_hit _ _ _ a n ⟨a.val - 8, by omega⟩ ⟨n.val - 768, by omega⟩ (by show a.val = 8 + (a.val - 8); omega) (by show n.val = 768 + (n.val - 768); omega)).trans (slab _ z106 _ _ _ _ _ n (by show n.val = 768 + (n.val - 768); omega))
    all_goals try exact (hit _ _ _ _ _ a n ⟨a.val - 8, by omega⟩ ⟨n.val - 768, by omega⟩ (by show a.val = 8 + (a.val - 8); omega) (by show n.val = 768 + (n.val - 768); omega)).trans (slab _ z106 _ _ _ _ _ n (by show n.val = 768 + (n.val - 768); omega))
    iterate 8 (all_goals try refine (miss _ _ _ _ _ a n (by omega)).trans ?_)
    all_goals try (exact congrFun (Memref.IsWhole.read_unread (m := Memref.whole cc0_scratch1) _ xs) (ix2 a n))
    all_goals pointwise [k0_pay98, k0_pay99, k0_pay101, k0_pay107, k0_pay109, taps, Cert.MixRow.silu]
    all_goals blk_point []
    all_goals try exact Fin.ext (by show 768 + x2.val = 512 + (256 + x2.val); omega)
  · exact View.cover_of_tiledL _ ![1, 512, 256] (by sl_kernel_rfl) _

theorem kb_at (m : (ℓ : Loc nD τ sig) → Buf (Elt Ideal) ℓ) (c : Dev nD) (t : Fin cfg0.N) (r n : Fin 512) :
    (leaves m c t.val t.isLt).2.2.2.2.2.2.1 (ix3 0 r n) = (taps (ext (tileZ (tileU m c t) (tile7 m c t)) (before m c t)) (fun j n => tile3 m c t (ix2 j n)) r (⟨512 + n.val, half_lt512 _⟩ : Fin 1024)) * Ideal.ofBits .f32 0x3DB504F3#32 := by
  by_cases h0 : t.val % 8 = 0
  · rw [leaves_A m c t h0, show before m c t = fun _ _ => 0 from funext fun a => funext fun n => if_pos h0]
    unfold allA
    dsimp only
    exact kb_A m c t h0 r n
  · rw [leaves_B m c t h0]
    unfold allB
    dsimp only
    refine (kb_B m c t h0 _ r n).trans ?_
    rw [show before m c t = fun a n => (leaves m c (t.val - 1) (Nat.lt_of_le_of_lt (Nat.sub_le _ _) t.isLt)).2.2.2.2.2.2.2.2.2.2.2.2 (ix2 (⟨a.val, row8_lt a⟩ : Fin 520) n) from
      funext fun a => funext fun n => (if_neg h0).trans (scratch_at m c ⟨t.val - 1, Nat.lt_of_le_of_lt (Nat.sub_le _ _) t.isLt⟩ a n).symm]

end Cert.MixBlock
end
-- ==== Proof.MixConvCells.lean ====
/- The convolved rows a point of the projection computes, as the sequence's own values. -/
module

public import proofs.«01_k».proof.Proof.MixInputs
public import proofs.«01_k».proof.Proof.MixConvQ
public import proofs.«01_k».proof.Proof.MixConvK

@[expose] public section
set_option maxRecDepth 16384
noncomputable section
namespace Cert.MixIdeal.Array
open Cert.MixIdeal Cert.MixIdeal.Gen Cert.MixBlock Cert.MixRun Idealize.ShloMosaic Idealize.ShloMosaic.TcCoe Idealize.ShloMosaic.Tactic Idealize.SL.Sem
variable (m : (ℓ : Loc nD τ sig) → Buf (Elt Ideal) ℓ)

/-- The scratch's rows are the sequence's, three zeros before it. -/
theorem ext_at (c : Dev nD) (t : Fin cfg0.N) (a : Fin 520) (h5 : 5 ≤ a.val) (n : Fin 1024) (i : ℕ) (hi : i = t.val % 8 * 512 + a.val - 5) :
    ext (tileZ (tileU m c t) (tile7 m c t)) (before m c t) a n = MixRow.padded (fun s => MixRow.z (X m c) (G m c) (Wt m c) (seq t) s ⟨1536 + n.val, by omega⟩) i := by
  have ht : t.val < 64 := t.isLt
  unfold ext MixRow.padded
  by_cases h8 : a.val < 8
  · rw [dif_pos h8]
    unfold before
    by_cases h0 : t.val % 8 = 0
    · rw [if_pos h0, dif_neg (by omega)]
    · rw [if_neg h0, dif_pos (by omega), z7]
      have e1 : seq ⟨t.val - 1, Nat.lt_of_le_of_lt (Nat.sub_le _ _) t.isLt⟩ = seq t := Fin.ext (by show (t.val - 1) / 8 = t.val / 8; omega)
      have e2 : row ⟨t.val - 1, Nat.lt_of_le_of_lt (Nat.sub_le _ _) t.isLt⟩ ⟨504 + a.val, by omega⟩ = ⟨i - 3, by omega⟩ :=
        Fin.ext (by show (t.val - 1) % 8 * 512 + (504 + a.val) = i - 3; omega)
      rw [e1, e2]
  · rw [dif_neg h8, dif_pos (by omega), z7]
    have e2 : row t ⟨a.val - 8, by omega⟩ = ⟨i - 3, by omega⟩ := Fin.ext (by show t.val % 8 * 512 + (a.val - 8) = i - 3; omega)
    rw [e2]

theorem conv_cell (c : Dev nD) (t : Fin cfg0.N) (r : Fin 512) (n : Fin 1024) :
    taps (ext (tileZ (tileU m c t) (tile7 m c t)) (before m c t)) (fun j n => tile3 m c t (ix2 j n)) r n
      = MixRow.act (X m c) (G m c) (Wt m c) (Cw m c) (seq t) (row t r) n := by
  have hw : ∀ j : Fin 4, tile3 m c t (ix2 j n) = Cw m c j n := fun j => by rw [t3, Host.v57]; rfl
  unfold taps MixRow.act MixRow.conv
  dsimp only
  rw [ext_at m c t ⟨5 + r.val, by omega⟩ (by show 5 ≤ 5 + r.val; omega) n (row t r).val (by show t.val % 8 * 512 + r.val = t.val % 8 * 512 + (5 + r.val) - 5; omega),
    ext_at m c t ⟨6 + r.val, by omega⟩ (by show 5 ≤ 6 + r.val; omega) n (1 + (row t r).val) (by show 1 + (t.val % 8 * 512 + r.val) = t.val % 8 * 512 + (6 + r.val) - 5; omega),
    ext_at m c t ⟨7 + r.val, by omega⟩ (by show 5 ≤ 7 + r.val; omega) n (2 + (row t r).val) (by show 2 + (t.val % 8 * 512 + r.val) = t.val % 8 * 512 + (7 + r.val) - 5; omega),
    ext_at m c t ⟨8 + r.val, by omega⟩ (by show 5 ≤ 8 + r.val; omega) n (3 + (row t r).val) (by show 3 + (t.val % 8 * 512 + r.val) = t.val % 8 * 512 + (8 + r.val) - 5; omega),
    hw, hw, hw, hw]

theorem qb_cell (c : Dev nD) (t : Fin cfg0.N) (r n : Fin 512) :
    (leaves m c t.val t.isLt).2.2.2.2.2.1 (ix3 0 r n) = MixRow.qb (X m c) (G m c) (Wt m c) (Cw m c) (seq t) (row t r) n := by
  refine (qb_at m c t r n).trans ((conv_cell m c t r ⟨0 + n.val, half_lt0 _⟩).trans ?_)
  exact congrArg (MixRow.act (X m c) (G m c) (Wt m c) (Cw m c) (seq t) (row t r)) (Fin.ext (Nat.zero_add n.val))

theorem kb_cell (c : Dev nD) (t : Fin cfg0.N) (r n : Fin 512) :
    (leaves m c t.val t.isLt).2.2.2.2.2.2.1 (ix3 0 r n) = MixRow.kb (X m c) (G m c) (Wt m c) (Cw m c) (seq t) (row t r) n := by
  refine (kb_at m c t r n).trans ?_
  rw [conv_cell]
  rfl

end Cert.MixIdeal.Array
end
-- ==== Proof.MixFrame.lean ====
/- The run of the input projection from launch to end: it terminates, its arguments end unchanged and no semaphore stays raised. -/
module

public import proofs.«01_k».proof.Proof.MixBody

@[expose] public section

set_option maxRecDepth 16384

noncomputable section

namespace Cert.MixRun

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem defs₀_row (t : Fin cfg0.N) :
    defs₀ (F := F) .tc cfg0.body (cfg0.bodyArgs t (cfg0.slots t)) = bodyAt0 t := by
  unfold defs₀; rw [Defs.onTc_tc]

set_option maxHeartbeats 8000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

-- `θ_run_frame_track`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

set_option maxHeartbeats 1600000 in
/-- The arrays the run ends with: each result at what its blocks make of it, each argument as it was. -/
theorem run_blocks : θ_run defs (onTc (τ := τ) (main (F := F))) ⟨m, fun _ => 0, ρ⟩ fun r => ∀ c : Dev nD,
      r.2.mem ((c : Thread nD τ).loc main_v58_0) = (dats m 0 c).arrAt 13 cfg0.N
      ∧ r.2.mem ((c : Thread nD τ).loc main_v58_1) = (dats m 0 c).arrAt 14 cfg0.N
      ∧ r.2.mem ((c : Thread nD τ).loc main_v58_2) = (dats m 0 c).arrAt 15 cfg0.N
      ∧ r.2.mem ((c : Thread nD τ).loc main_v58_3) = (dats m 0 c).arrAt 16 cfg0.N
      ∧ r.2.mem ((c : Thread nD τ).loc main_v58_4) = (dats m 0 c).arrAt 17 cfg0.N
      ∧ r.2.mem ((c : Thread nD τ).loc main_v58_5) = (dats m 0 c).arrAt 18 cfg0.N
      ∧ r.2.mem ((c : Thread nD τ).loc main_v58_6) = (dats m 0 c).arrAt 19 cfg0.N
      ∧ r.2.mem ((c : Thread nD τ).loc main_v58_7) = (dats m 0 c).arrAt 20 cfg0.N
      ∧ r.2.mem ((c : Thread nD τ).loc main_v58_8) = (dats m 0 c).arrAt 21 cfg0.N
      ∧ r.2.mem ((c : Thread nD τ).loc main_v58_9) = (dats m 0 c).arrAt 22 cfg0.N
      ∧ r.2.mem ((c : Thread nD τ).loc main_v58_10) = (dats m 0 c).arrAt 23 cfg0.N
      ∧ r.2.mem ((c : Thread nD τ).loc main_v58_11) = (dats m 0 c).arrAt 24 cfg0.N :=
  (θ_run defs _ _).mono (fun r h c => ⟨(h c).1 13, (h c).1 14, (h c).1 15, (h c).1 16, (h c).1 17, (h c).1 18, (h c).1 19, (h c).1 20, (h c).1 21, (h c).1 22, (h c).1 23, (h c).1 24⟩) (run_main m ρ)

end Cert.MixRun

end
-- ==== Proof.MixArray.lean ====
/- What the projection's result arrays hold after the run: the rows' own values of the argument arrays. -/
module

public import proofs.«01_k».proof.Proof.MixCells
public import proofs.«01_k».proof.Proof.MixGateCells
public import proofs.«01_k».proof.Proof.MixConvCells
public import proofs.«01_k».proof.Proof.MixFrame
public import Idealize.ShloMosaic.Lib.Claim

@[expose] public section
set_option maxRecDepth 16384
noncomputable section
namespace Cert.MixIdeal.Array
open Cert.MixIdeal Cert.MixIdeal.Gen Cert.MixBlock Cert.MixRun Idealize.ShloMosaic Idealize.ShloMosaic.TcCoe Idealize.ShloMosaic.Tactic Idealize.SL.Sem
open Idealize.ShloMosaic.Pipeline (Dat)
variable (m : (ℓ : Loc nD τ sig) → Buf (Elt Ideal) ℓ)

/-- The result windows' block indices follow the grid point. -/
theorem idx_out : ∀ t : Fin cfg0.N, win0_13.index t = ![t.val / 8, t.val % 8, 0]
    ∧ win0_14.index t = ![t.val / 8, t.val % 8, 0]
    ∧ win0_15.index t = ![t.val / 8, t.val % 8, 0, 0]
    ∧ win0_16.index t = ![t.val / 8, t.val % 8, 0, 0]
    ∧ win0_17.index t = ![t.val / 8, t.val % 8, 0, 0]
    ∧ win0_18.index t = ![t.val / 8, t.val % 8, 0]
    ∧ win0_19.index t = ![t.val / 8, t.val % 8, 0]
    ∧ win0_20.index t = ![t.val / 8, t.val % 8, 0]
    ∧ win0_21.index t = ![t.val / 8, t.val % 8, 0]
    ∧ win0_22.index t = ![t.val / 8, t.val % 8, 0]
    ∧ win0_23.index t = ![t.val / 8, t.val % 8, 0, 0]
    ∧ win0_24.index t = ![t.val / 8, t.val % 8, 0] :=
  (by decide +kernel : ∀ t : Fin grid0.N, _)

def a_qa (c : Dev nD) : FVec Ideal S8x4096x512 .bf16 := fun i => MixRow.qa (X m c) (G m c) (Wt m c) (i 0) (i 1) (i 2)

theorem final13 (c : Dev nD) : (dats m 0 c).arrAt 13 cfg0.N = a_qa m c := by
  refine (dats m 0 c).arrAt_eq_of_covers 13 _ (by decide +kernel) fun t _ y => ?_
  blk_simp
  rw [after0_13]
  idx_vars y
  obtain rfl : y0 = 0 := Subsingleton.elim _ _
  have e : (((cfg0.win 13).blk t).view.emb (ix3 0 y1 y2) : S8x4096x512.Idx) = ix3 (seq t) (row t y1) y2 := by
    blk_ext [idx_out t, seq, row]
  exact (q_cell m c t y1 y2).trans (congrArg (a_qa m c) e).symm

def a_ka (c : Dev nD) : FVec Ideal S8x4096x512 .bf16 := fun i => MixRow.ka (X m c) (G m c) (Wt m c) (i 0) (i 1) (i 2)

theorem final14 (c : Dev nD) : (dats m 0 c).arrAt 14 cfg0.N = a_ka m c := by
  refine (dats m 0 c).arrAt_eq_of_covers 14 _ (by decide +kernel) fun t _ y => ?_
  blk_simp
  rw [after0_14]
  idx_vars y
  obtain rfl : y0 = 0 := Subsingleton.elim _ _
  have e : (((cfg0.win 14).blk t).view.emb (ix3 0 y1 y2) : S8x4096x512.Idx) = ix3 (seq t) (row t y1) y2 := by
    blk_ext [idx_out t, seq, row]
  exact (k_cell m c t y1 y2).trans (congrArg (a_ka m c) e).symm

def a_kmean (c : Dev nD) : FVec Ideal S8x8x2x512 .f32 := fun i => MixRow.kmean (X m c) (G m c) (Wt m c) (i 0) (i 1) (i 2) (i 3)

theorem final15 (c : Dev nD) : (dats m 0 c).arrAt 15 cfg0.N = a_kmean m c := by
  refine (dats m 0 c).arrAt_eq_of_covers 15 _ (by decide +kernel) fun t _ y => ?_
  blk_simp
  rw [after0_15]
  idx_vars y
  obtain rfl : y0 = 0 := Subsingleton.elim _ _
  obtain rfl : y1 = 0 := Subsingleton.elim _ _
  have e : (((cfg0.win 15).blk t).view.emb (ix4 0 0 y2 y3) : S8x8x2x512.Idx) = ix4 (seq t) ⟨t.val % 8, tile_lt t⟩ y2 y3 := by
    blk_ext [idx_out t, seq, row]
  exact (km_cell m c t y2 y3).trans (congrArg (a_kmean m c) e).symm

def a_vat (c : Dev nD) : FVec Ideal S8x16x640x256 .bf16 := fun i => MixRow.vat (X m c) (G m c) (Wt m c) (i 0) (i 1) (i 2) (i 3)

theorem final16 (c : Dev nD) : (dats m 0 c).arrAt 16 cfg0.N = a_vat m c := by
  refine (dats m 0 c).arrAt_eq_of_covers 16 _ (by decide +kernel) fun t _ y => ?_
  blk_simp
  rw [after0_16]
  idx_vars y
  obtain rfl : y0 = 0 := Subsingleton.elim _ _
  have e : (((cfg0.win 16).blk t).view.emb (ix4 0 y1 y2 y3) : S8x16x640x256.Idx) = ix4 (seq t) ⟨t.val % 8 * 2 + y1.val, half_lt t y1⟩ y2 y3 := by
    blk_ext [idx_out t, seq, row]
  exact (va_cell m c t y1 y2 y3).trans (congrArg (a_vat m c) e).symm

def a_vbt (c : Dev nD) : FVec Ideal S8x16x512x256 .bf16 := fun i => MixRow.vbt (X m c) (G m c) (Wt m c) (i 0) (i 1) (i 2) (i 3)

theorem final17 (c : Dev nD) : (dats m 0 c).arrAt 17 cfg0.N = a_vbt m c := by
  refine (dats m 0 c).arrAt_eq_of_covers 17 _ (by decide +kernel) fun t _ y => ?_
  blk_simp
  rw [after0_17]
  idx_vars y
  obtain rfl : y0 = 0 := Subsingleton.elim _ _
  have e : (((cfg0.win 17).blk t).view.emb (ix4 0 y1 y2 y3) : S8x16x512x256.Idx) = ix4 (seq t) ⟨t.val % 8 * 2 + y1.val, half_lt t y1⟩ y2 y3 := by
    blk_ext [idx_out t, seq, row]
  exact (vb_cell m c t y1 y2 y3).trans (congrArg (a_vbt m c) e).symm

def a_qb (c : Dev nD) : FVec Ideal S8x4096x512 .bf16 := fun i => MixRow.qb (X m c) (G m c) (Wt m c) (Cw m c) (i 0) (i 1) (i 2)

theorem final18 (c : Dev nD) : (dats m 0 c).arrAt 18 cfg0.N = a_qb m c := by
  refine (dats m 0 c).arrAt_eq_of_covers 18 _ (by decide +kernel) fun t _ y => ?_
  blk_simp
  rw [after0_18]
  idx_vars y
  obtain rfl : y0 = 0 := Subsingleton.elim _ _
  have e : (((cfg0.win 18).blk t).view.emb (ix3 0 y1 y2) : S8x4096x512.Idx) = ix3 (seq t) (row t y1) y2 := by
    blk_ext [idx_out t, seq, row]
  exact (qb_cell m c t y1 y2).trans (congrArg (a_qb m c) e).symm

def a_kb (c : Dev nD) : FVec Ideal S8x4096x512 .bf16 := fun i => MixRow.kb (X m c) (G m c) (Wt m c) (Cw m c) (i 0) (i 1) (i 2)

theorem final19 (c : Dev nD) : (dats m 0 c).arrAt 19 cfg0.N = a_kb m c := by
  refine (dats m 0 c).arrAt_eq_of_covers 19 _ (by decide +kernel) fun t _ y => ?_
  blk_simp
  rw [after0_19]
  idx_vars y
  obtain rfl : y0 = 0 := Subsingleton.elim _ _
  have e : (((cfg0.win 19).blk t).view.emb (ix3 0 y1 y2) : S8x4096x512.Idx) = ix3 (seq t) (row t y1) y2 := by
    blk_ext [idx_out t, seq, row]
  exact (kb_cell m c t y1 y2).trans (congrArg (a_kb m c) e).symm

def a_ob (c : Dev nD) : FVec Ideal S8x4096x512 .bf16 := fun i => MixRow.ob (X m c) (G m c) (Wt m c) (i 0) (i 1) (i 2)

theorem final20 (c : Dev nD) : (dats m 0 c).arrAt 20 cfg0.N = a_ob m c := by
  refine (dats m 0 c).arrAt_eq_of_covers 20 _ (by decide +kernel) fun t _ y => ?_
  blk_simp
  rw [after0_20]
  idx_vars y
  obtain rfl : y0 = 0 := Subsingleton.elim _ _
  have e : (((cfg0.win 20).blk t).view.emb (ix3 0 y1 y2) : S8x4096x512.Idx) = ix3 (seq t) (row t y1) y2 := by
    blk_ext [idx_out t, seq, row]
  exact (ob_cell m c t y1 y2).trans (congrArg (a_ob m c) e).symm

def a_ga (c : Dev nD) : FVec Ideal S8x4096x1024 .bf16 := fun i => MixRow.ga (X m c) (G m c) (Wt m c) (i 0) (i 1) (i 2)

theorem final21 (c : Dev nD) : (dats m 0 c).arrAt 21 cfg0.N = a_ga m c := by
  refine (dats m 0 c).arrAt_eq_of_covers 21 _ (by decide +kernel) fun t _ y => ?_
  blk_simp
  rw [after0_21]
  idx_vars y
  obtain rfl : y0 = 0 := Subsingleton.elim _ _
  have e : (((cfg0.win 21).blk t).view.emb (ix3 0 y1 y2) : S8x4096x1024.Idx) = ix3 (seq t) (row t y1) y2 := by
    blk_ext [idx_out t, seq, row]
  exact (ga_cell m c t y1 y2).trans (congrArg (a_ga m c) e).symm

def a_gb (c : Dev nD) : FVec Ideal S8x4096x1024 .bf16 := fun i => MixRow.gb (X m c) (G m c) (Wt m c) (i 0) (i 1) (i 2)

theorem final22 (c : Dev nD) : (dats m 0 c).arrAt 22 cfg0.N = a_gb m c := by
  refine (dats m 0 c).arrAt_eq_of_covers 22 _ (by decide +kernel) fun t _ y => ?_
  blk_simp
  rw [after0_22]
  idx_vars y
  obtain rfl : y0 = 0 := Subsingleton.elim _ _
  have e : (((cfg0.win 22).blk t).view.emb (ix3 0 y1 y2) : S8x4096x1024.Idx) = ix3 (seq t) (row t y1) y2 := by
    blk_ext [idx_out t, seq, row]
  exact (gb_cell m c t y1 y2).trans (congrArg (a_gb m c) e).symm

def a_grow (c : Dev nD) : FVec Ideal S8x16x8x256 .f32 := fun i => MixRow.gate (X m c) (G m c) (Wt m c) (Bi m c) (Bf m c) (i 0) (i 1) (i 3) (i 2)

theorem final23 (c : Dev nD) : (dats m 0 c).arrAt 23 cfg0.N = a_grow m c := by
  refine (dats m 0 c).arrAt_eq_of_covers 23 _ (by decide +kernel) fun t _ y => ?_
  blk_simp
  rw [after0_23]
  idx_vars y
  obtain rfl : y0 = 0 := Subsingleton.elim _ _
  have e : (((cfg0.win 23).blk t).view.emb (ix4 0 y1 y2 y3) : S8x16x8x256.Idx) = ix4 (seq t) ⟨t.val % 8 * 2 + y1.val, half_lt t y1⟩ y2 y3 := by
    blk_ext [idx_out t, seq, row]
  exact (row_cell m c t y1 y2 y3).trans (congrArg (a_grow m c) e).symm

def a_gcol (c : Dev nD) : FVec Ideal S8x4096x8 .f32 := fun i => MixRow.gate (X m c) (G m c) (Wt m c) (Bi m c) (Bf m c) (i 0) ⟨(i 1).val / 256, by have h : (i 1).val < 4096 := (i 1).isLt; omega⟩ ⟨(i 1).val % 256, by omega⟩ (i 2)

theorem final24 (c : Dev nD) : (dats m 0 c).arrAt 24 cfg0.N = a_gcol m c := by
  refine (dats m 0 c).arrAt_eq_of_covers 24 _ (by decide +kernel) fun t _ y => ?_
  blk_simp
  rw [after0_24]
  idx_vars y
  obtain rfl : y0 = 0 := Subsingleton.elim _ _
  have e : (((cfg0.win 24).blk t).view.emb (ix3 0 y1 y2) : S8x4096x8.Idx) = ix3 (seq t) (row t y1) y2 := by
    blk_ext [idx_out t, seq, row]
  exact (col_cell m c t y1 y2).trans (congrArg (a_gcol m c) e).symm

end Cert.MixIdeal.Array
end
-- ==== Proof.MixRows.lean ====
/- The reference of the input projection, read at an index. -/
module

public import proofs.«01_k».proof.Proof.Gen.MixRefIdeal.Read
public import proofs.«01_k».proof.Proof.MixSpec
public import Idealize.ShloMosaic.Lib.Pipeline.ValueKit
public import Idealize.ShloMosaic.Lib.Pointwise
public import Idealize.ShloMosaic.Lib.VecWindow

@[expose] public section
set_option maxRecDepth 16384
noncomputable section
namespace Cert.MixRefIdeal.Rows
open Cert.MixRefIdeal Cert.MixRefIdeal.Gen Idealize.ShloMosaic Idealize.ShloMosaic.TcCoe Idealize.ShloMosaic.Tactic Idealize.SL.Sem

variable (x0 : FVec Ideal S8x4096x1024 .f32) (x1 : FVec Ideal S1x1024 .f32) (x2 : FVec Ideal S1x1024x5640 .f32) (x3 : FVec Ideal S1x4x1024 .f32) (x4 x5 : FVec Ideal S1x4 .f32)

theorem z_at (i0 : Fin 8) (i1 : Fin 4096) (i2 : Fin 5640) : Read.val_main_v16 (F := Ideal) x0 x1 x2 (ix3 i0 i1 i2) = MixRow.z (fun b s k => x0 (ix3 b s k)) (fun k => x1 (ix2 0 k)) (fun k n => x2 (ix3 0 k n)) i0 i1 i2 := by
  pointwise [Read.val_main_cst, Read.val_main_cst_0, Read.val_main_cst_1, Read.val_main_v1, Read.val_main_v2, Read.val_main_v3, Read.val_main_v4, Read.val_main_v5, Read.val_main_v6, Read.val_main_v7, Read.val_main_v8, Read.val_main_v9, Read.val_main_v10, Read.val_main_v11, Read.val_main_v12, Read.val_main_v13, Read.val_main_v14, Read.val_main_v15, Read.val_main_v16, MixRow.z, MixRow.proj, Row.rms]

theorem cos_at (i0 : Fin 4096) (i1 : Fin 32) : Read.val_main_v41 (F := Ideal)  (ix2 i0 i1) = Ideal.cos (MixRow.angle i0 i1) := by
  pointwise [Read.val_main_cst_2, Read.val_main_cst_3, Read.val_main_v0, Read.val_main_v29, Read.val_main_v30, Read.val_main_v31, Read.val_main_v32, Read.val_main_v33, Read.val_main_v34, Read.val_main_v35, Read.val_main_v36, Read.val_main_v37, Read.val_main_v38, Read.val_main_v39, Read.val_main_v40, Read.val_main_v41, MixRow.angle]

theorem sin_at (i0 : Fin 4096) (i1 : Fin 32) : Read.val_main_v42 (F := Ideal)  (ix2 i0 i1) = Ideal.sin (MixRow.angle i0 i1) := by
  pointwise [Read.val_main_cst_2, Read.val_main_cst_3, Read.val_main_v0, Read.val_main_v29, Read.val_main_v30, Read.val_main_v31, Read.val_main_v32, Read.val_main_v33, Read.val_main_v34, Read.val_main_v35, Read.val_main_v36, Read.val_main_v37, Read.val_main_v38, Read.val_main_v39, Read.val_main_v40, Read.val_main_v42, MixRow.angle]

theorem cos_at2 (i0 : Fin 4096) (i1 : Fin 32) : Read.val_main_v76 (F := Ideal)  (ix2 i0 i1) = Ideal.cos (MixRow.angle i0 i1) := by
  pointwise [Read.val_main_cst_4, Read.val_main_cst_5, Read.val_main_v0, Read.val_main_v64, Read.val_main_v65, Read.val_main_v66, Read.val_main_v67, Read.val_main_v68, Read.val_main_v69, Read.val_main_v70, Read.val_main_v71, Read.val_main_v72, Read.val_main_v73, Read.val_main_v74, Read.val_main_v75, Read.val_main_v76, MixRow.angle]

theorem sin_at2 (i0 : Fin 4096) (i1 : Fin 32) : Read.val_main_v77 (F := Ideal)  (ix2 i0 i1) = Ideal.sin (MixRow.angle i0 i1) := by
  pointwise [Read.val_main_cst_4, Read.val_main_cst_5, Read.val_main_v0, Read.val_main_v64, Read.val_main_v65, Read.val_main_v66, Read.val_main_v67, Read.val_main_v68, Read.val_main_v69, Read.val_main_v70, Read.val_main_v71, Read.val_main_v72, Read.val_main_v73, Read.val_main_v74, Read.val_main_v75, Read.val_main_v77, MixRow.angle]

theorem rope_q (i0 : Fin 8) (i1 : Fin 4096) (i2 : Fin 512) : Read.val_main_v61 (F := Ideal) x0 x1 x2 (ix3 i0 i1 i2)
    = MixRow.rope (fun n => MixRow.z (fun b s k => x0 (ix3 b s k)) (fun k => x1 (ix2 0 k)) (fun k n => x2 (ix3 0 k n)) i0 i1 ⟨n.val, by omega⟩) i1 i2 := by
  simp only [← z_at x0 x1 x2]
  unfold MixRow.rope
  simp only [← cos_at, ← sin_at]
  pointwise [Read.val_main_v17, Read.val_main_v27, Read.val_main_v28, Read.val_main_v43, Read.val_main_v44, Read.val_main_v45, Read.val_main_v46, Read.val_main_v47, Read.val_main_v48, Read.val_main_v49, Read.val_main_v50, Read.val_main_v51, Read.val_main_v52, Read.val_main_v53, Read.val_main_v54, Read.val_main_v55, Read.val_main_v56, Read.val_main_v57, Read.val_main_v58, Read.val_main_v59, Read.val_main_v60, Read.val_main_v61]

theorem rope_k (i0 : Fin 8) (i1 : Fin 4096) (i2 : Fin 512) : Read.val_main_v96 (F := Ideal) x0 x1 x2 (ix3 i0 i1 i2)
    = MixRow.ka (fun b s k => x0 (ix3 b s k)) (fun k => x1 (ix2 0 k)) (fun k n => x2 (ix3 0 k n)) i0 i1 i2 := by
  unfold MixRow.ka
  simp only [← z_at x0 x1 x2]
  unfold MixRow.rope
  simp only [← cos_at2, ← sin_at2]
  pointwise [Read.val_main_v18, Read.val_main_v62, Read.val_main_v63, Read.val_main_v78, Read.val_main_v79, Read.val_main_v80, Read.val_main_v81, Read.val_main_v82, Read.val_main_v83, Read.val_main_v84, Read.val_main_v85, Read.val_main_v86, Read.val_main_v87, Read.val_main_v88, Read.val_main_v89, Read.val_main_v90, Read.val_main_v91, Read.val_main_v92, Read.val_main_v93, Read.val_main_v94, Read.val_main_v95, Read.val_main_v96]

theorem qa (i0 : Fin 8) (i1 : Fin 4096) (i2 : Fin 512) : Read.val_main_v160 (F := Ideal) x0 x1 x2 (ix3 i0 i1 i2) = MixRow.qa (fun b s k => x0 (ix3 b s k)) (fun k => x1 (ix2 0 k)) (fun k n => x2 (ix3 0 k n)) i0 i1 i2 := by
  rw [Read.val_main_v160_apply, Read.val_main_v157_apply, Read.val_main_v156_apply, Read.val_main_cst_10_apply, rope_q]
  unfold MixRow.qa
  generalize MixRow.rope _ _ _ = y
  rfl

theorem ka (i0 : Fin 8) (i1 : Fin 4096) (i2 : Fin 512) : Read.val_main_v161 (F := Ideal) x0 x1 x2 (ix3 i0 i1 i2) = MixRow.ka (fun b s k => x0 (ix3 b s k)) (fun k => x1 (ix2 0 k)) (fun k n => x2 (ix3 0 k n)) i0 i1 i2 := by
  rw [Read.val_main_v161_apply, rope_k]
  generalize MixRow.ka _ _ _ _ _ _ = y
  rfl

theorem kmean (i0 : Fin 8) (i1 : Fin 8) (i2 : Fin 2) (i3 : Fin 512) : Read.val_main_v100 (F := Ideal) x0 x1 x2 (ix4 i0 i1 i2 i3) = MixRow.kmean (fun b s k => x0 (ix3 b s k)) (fun k => x1 (ix2 0 k)) (fun k n => x2 (ix3 0 k n)) i0 i1 i2 i3 := by
  pointwise [Read.val_main_cst_6, Read.val_main_cst_7, Read.val_main_v97, Read.val_main_v98, Read.val_main_v99, Read.val_main_v100, rope_k, MixRow.kmean]

theorem vat (i0 : Fin 8) (i1 : Fin 16) (i2 : Fin 640) (i3 : Fin 256) : Read.val_main_v162 (F := Ideal) x0 x1 x2 (ix4 i0 i1 i2 i3)
    = MixRow.vat (fun b s k => x0 (ix3 b s k)) (fun k => x1 (ix2 0 k)) (fun k n => x2 (ix3 0 k n)) i0 i1 i2 i3 := by
  have e : Read.idx_main_v106 (ix4 i0 i1 i2 i3) = ix5 i0 i1 ⟨i2.val / 80, by omega⟩ ⟨i2.val % 80, by omega⟩ i3 := by
    have a0 := i0.isLt
    have a1 := i1.isLt
    have a2 := i2.isLt
    have a3 := i3.isLt
    have hN : (((i0.val * 16 + i1.val) * 640 + i2.val) * 256 + i3.val) / 256 = (i0.val * 16 + i1.val) * 640 + i2.val := by omega
    have hr : (((i0.val * 16 + i1.val) * 640 + i2.val) * 256 + i3.val) % 256 = i3.val := by omega
    have hM : ((i0.val * 16 + i1.val) * 640 + i2.val) / 80 = (i0.val * 16 + i1.val) * 8 + i2.val / 80 := by omega
    have hL : ((i0.val * 16 + i1.val) * 640 + i2.val) / 640 = i0.val * 16 + i1.val := by omega
    have c0 : (((i0.val * 16 + i1.val) * 640 + i2.val) * 256 + i3.val) / 2621440 = i0.val := by
      rw [show 2621440 = 256 * 640 * 16 from rfl, ← Nat.div_div_eq_div_mul, ← Nat.div_div_eq_div_mul, hN, hL]; omega
    have c1 : (((i0.val * 16 + i1.val) * 640 + i2.val) * 256 + i3.val) / 163840 % 16 = i1.val := by
      rw [show 163840 = 256 * 640 from rfl, ← Nat.div_div_eq_div_mul, hN, hL]; omega
    have c2 : (((i0.val * 16 + i1.val) * 640 + i2.val) * 256 + i3.val) / 20480 % 8 = i2.val / 80 := by
      rw [show 20480 = 256 * 80 from rfl, ← Nat.div_div_eq_div_mul, hN, hM]; omega
    have c3 : (((i0.val * 16 + i1.val) * 640 + i2.val) * 256 + i3.val) / 256 % 80 = i2.val % 80 := by
      rw [hN]; omega
    refine funext fun a => Fin.ext ?_
    match a with
    | ⟨0, _⟩ => exact c0
    | ⟨1, _⟩ => exact c1
    | ⟨2, _⟩ => exact c2
    | ⟨3, _⟩ => exact c3
    | ⟨4, _⟩ => exact hr
  rw [Read.val_main_v162_apply]
  refine (Eq.trans (b := Read.val_main_v106 (F := Ideal) x0 x1 x2 (ix4 i0 i1 i2 i3)) ?_ ?_)
  · generalize Read.val_main_v106 (F := Ideal) x0 x1 x2 (ix4 i0 i1 i2 i3) = y
    rfl
  rw [Read.val_main_v106_apply, e]
  pointwise [Read.val_main_cst_8, Read.val_main_cst_9, Read.val_main_v19, Read.val_main_v101, Read.val_main_v102, Read.val_main_v103, Read.val_main_v104, Read.val_main_v105]
  simp only [z_at, MixRow.vat]
  by_cases h : i2.val % 80 < 64
  · rw [dif_pos h, if_pos h]
    congr 2
    omega
  · rw [dif_neg h, if_neg h]
    by_cases h2 : i2.val % 80 < 65
    · rw [if_pos h2, dif_pos (by omega)]
    · rw [if_neg h2, dif_neg (by omega)]

theorem vbt (i0 : Fin 8) (i1 : Fin 16) (i2 : Fin 512) (i3 : Fin 256) : Read.val_main_v163 (F := Ideal) x0 x1 x2 (ix4 i0 i1 i2 i3)
    = MixRow.vbt (fun b s k => x0 (ix3 b s k)) (fun k => x1 (ix2 0 k)) (fun k n => x2 (ix3 0 k n)) i0 i1 i2 i3 := by
  show Read.val_main_v108 (F := Ideal) x0 x1 x2 (ix4 i0 i1 i2 i3) = _
  rw [Read.val_main_v108_apply, Read.val_main_v107_apply, Read.val_main_v21_apply]
  unfold MixRow.vbt
  rw [← z_at]
  congr 1
  funext a
  apply Fin.ext
  fin_cases a <;> simp [Read.idx_main_v21, Read.idx_main_v107, Read.idx_main_v108] <;> omega

theorem pad_at (i0 : Fin 8) (i1 : Fin 4099) (i2 : Fin 1024) : Read.val_main_v110 (F := Ideal) x0 x1 x2 (ix3 i0 i1 i2)
    = MixRow.padded (fun s => MixRow.z (fun b s k => x0 (ix3 b s k)) (fun k => x1 (ix2 0 k)) (fun k n => x2 (ix3 0 k n)) i0 s ⟨1536 + i2.val, by omega⟩) i1.val := by
  have e0 : FloatOps.sitofp (F := Ideal) FTy.f32 (0#32) = (0 : EReal) := by
    simp [FloatOps.sitofp]
  pointwise [Read.val_main_c, Read.val_main_call0_v0, Read.val_main_v20, Read.val_main_v110]
  simp only [z_at, MixRow.padded, e0]

theorem conv_at (i0 : Fin 8) (i1 : Fin 4096) (i2 : Fin 1024) : Read.val_main_v137 (F := Ideal) x0 x1 x2 x3 (ix3 i0 i1 i2) = MixRow.conv (fun s => MixRow.z (fun b s k => x0 (ix3 b s k)) (fun k => x1 (ix2 0 k)) (fun k n => x2 (ix3 0 k n)) i0 s ⟨1536 + i2.val, by omega⟩) (fun j => x3 (ix3 0 j i2)) i1.val := by
  pointwise [Read.val_main_v109, Read.val_main_v111, Read.val_main_v112, Read.val_main_v113, Read.val_main_v114, Read.val_main_v115, Read.val_main_v116, Read.val_main_v117, Read.val_main_v118, Read.val_main_v119, Read.val_main_v120, Read.val_main_v121, Read.val_main_v122, Read.val_main_v123, Read.val_main_v124, Read.val_main_v125, Read.val_main_v126, Read.val_main_v127, Read.val_main_v128, Read.val_main_v129, Read.val_main_v130, Read.val_main_v131, Read.val_main_v132, Read.val_main_v133, Read.val_main_v134, Read.val_main_v135, Read.val_main_v136, Read.val_main_v137, pad_at, MixRow.conv]

theorem act_at (i0 : Fin 8) (i1 : Fin 4096) (i2 : Fin 1024) : Read.val_main_v138 (F := Ideal) x0 x1 x2 x3 (ix3 i0 i1 i2) = MixRow.act (fun b s k => x0 (ix3 b s k)) (fun k => x1 (ix2 0 k)) (fun k n => x2 (ix3 0 k n)) (fun j n => x3 (ix3 0 j n)) i0 i1 i2 := by
  pointwise [Read.val_main_call1_cst, Read.val_main_call1_cst_0, Read.val_main_call1_v0, Read.val_main_call1_v1, Read.val_main_call1_v2, Read.val_main_call1_v3, Read.val_main_call1_v4, Read.val_main_call1_v5, Read.val_main_v138, conv_at, MixRow.act, MixRow.silu, Ideal.logistic]

theorem qb (i0 : Fin 8) (i1 : Fin 4096) (i2 : Fin 512) : Read.val_main_v164 (F := Ideal) x0 x1 x2 x3 (ix3 i0 i1 i2) = MixRow.qb (fun b s k => x0 (ix3 b s k)) (fun k => x1 (ix2 0 k)) (fun k n => x2 (ix3 0 k n)) (fun j n => x3 (ix3 0 j n)) i0 i1 i2 := by
  pointwise [Read.val_main_v139, Read.val_main_v164, act_at, MixRow.qb]

theorem kb (i0 : Fin 8) (i1 : Fin 4096) (i2 : Fin 512) : Read.val_main_v165 (F := Ideal) x0 x1 x2 x3 (ix3 i0 i1 i2) = MixRow.kb (fun b s k => x0 (ix3 b s k)) (fun k => x1 (ix2 0 k)) (fun k n => x2 (ix3 0 k n)) (fun j n => x3 (ix3 0 j n)) i0 i1 i2 := by
  pointwise [Read.val_main_cst_11, Read.val_main_v140, Read.val_main_v158, Read.val_main_v159, Read.val_main_v165, act_at, MixRow.kb]

theorem ob (i0 : Fin 8) (i1 : Fin 4096) (i2 : Fin 512) : Read.val_main_v166 (F := Ideal) x0 x1 x2 (ix3 i0 i1 i2) = MixRow.ob (fun b s k => x0 (ix3 b s k)) (fun k => x1 (ix2 0 k)) (fun k n => x2 (ix3 0 k n)) i0 i1 i2 := by
  pointwise [Read.val_main_v22, Read.val_main_v166, z_at, MixRow.ob]

theorem ga (i0 : Fin 8) (i1 : Fin 4096) (i2 : Fin 1024) : Read.val_main_v167 (F := Ideal) x0 x1 x2 (ix3 i0 i1 i2) = MixRow.ga (fun b s k => x0 (ix3 b s k)) (fun k => x1 (ix2 0 k)) (fun k n => x2 (ix3 0 k n)) i0 i1 i2 := by
  pointwise [Read.val_main_v25, Read.val_main_v167, z_at, MixRow.ga]

theorem gb (i0 : Fin 8) (i1 : Fin 4096) (i2 : Fin 1024) : Read.val_main_v168 (F := Ideal) x0 x1 x2 (ix3 i0 i1 i2) = MixRow.gb (fun b s k => x0 (ix3 b s k)) (fun k => x1 (ix2 0 k)) (fun k n => x2 (ix3 0 k n)) i0 i1 i2 := by
  pointwise [Read.val_main_v26, Read.val_main_v168, z_at, MixRow.gb]

end Cert.MixRefIdeal.Rows
end
-- ==== Proof.MixLog.lean ====
/- The logarithm of the logistic, written as a softplus and as a minimum. -/
module

public import proofs.«01_k».proof.Proof.MixSpec

@[expose] public section
noncomputable section
namespace Cert.MixRow
open Idealize.ShloMosaic Idealize.ShloMosaic.TcCoe Idealize.ShloMosaic.Tactic

/-- `exp` of minus a magnitude is a real number, so the logarithm is one. -/
theorem soft_real (y : EReal) : ∃ r : ℝ, Ideal.log (1 + Ideal.exp (-(max y (-y)))) = (r : EReal) := by
  induction y using EReal.rec with
  | bot =>
    refine ⟨0, ?_⟩
    have e : -(max (⊥ : EReal) (-⊥)) = ⊥ := by simp
    rw [e]
    show Ideal.log (1 + 0) = _
    rw [add_zero]
    show (if (1 : ℝ) ≤ 0 then ⊥ else ((Real.log 1 : ℝ) : EReal)) = _
    rw [if_neg (by norm_num), Real.log_one]
  | top =>
    refine ⟨0, ?_⟩
    have e : -(max (⊤ : EReal) (-⊤)) = ⊥ := by simp
    rw [e]
    show Ideal.log (1 + 0) = _
    rw [add_zero]
    show (if (1 : ℝ) ≤ 0 then ⊥ else ((Real.log 1 : ℝ) : EReal)) = _
    rw [if_neg (by norm_num), Real.log_one]
  | coe x =>
    have e : -(max (x : EReal) (-(x : EReal))) = ((-(max x (-x)) : ℝ) : EReal) := by
      rcases le_total x (-x) with h | h
      · rw [max_eq_right h, max_eq_right (show (x : EReal) ≤ -(x : EReal) from by exact_mod_cast h)]
        push_cast
        rfl
      · rw [max_eq_left h, max_eq_left (show -(x : EReal) ≤ (x : EReal) from by exact_mod_cast h)]
        push_cast
        rfl
    rw [e]
    refine ⟨Real.log (1 + Real.exp (-(max x (-x)))), ?_⟩
    show (if (1 + Real.exp (-(max x (-x))) : ℝ) ≤ 0 then (⊥ : EReal) else ((Real.log (1 + Real.exp (-(max x (-x)))) : ℝ) : EReal)) = _
    rw [if_neg (by have := Real.exp_pos (-(max x (-x))); linarith)]

theorem neg_max_zero (y : EReal) : -(max (-y) 0) = min y 0 := by
  rcases le_total y 0 with h | h
  · rw [min_eq_left h, max_eq_left (by rwa [EReal.le_neg, neg_zero]), neg_neg]
  · rw [min_eq_right h, max_eq_right (by rwa [EReal.neg_le, neg_zero]), neg_zero]

theorem soft_eq (y : EReal) : -(max (-y) 0 + Ideal.log (1 + Ideal.exp (-(max (-y) (-(-y)))))) = logSig y := by
  unfold logSig
  show _ = min y 0 - Ideal.log (1 + Ideal.exp (0 - max y (-y)))
  rw [neg_neg, max_comm (-y) y, zero_sub]
  obtain ⟨r, hr⟩ := soft_real y
  rw [hr, EReal.neg_add (Or.inr (EReal.coe_ne_top r)) (Or.inr (EReal.coe_ne_bot r)), neg_max_zero]

/-- A fold of sums from zero is the sum. -/
theorem fold_sum (N : Nat) (f : Fin N → EReal) : (List.finRange N).foldl (fun r n => r + f n) 0 = ∑ n : Fin N, f n := by
  rw [Fin.sum_univ_def, List.sum_eq_foldl, List.foldl_map]

/-- A window that ends at `j`, counted from its own start. -/
theorem window_sum (p : Fin 256 → EReal) (j : Fin 256) :
    (∑ x : Fin 256, if h : 255 ≤ j.val + x.val then p ⟨j.val + x.val - 255, by omega⟩ else 0) = cum p j := by
  unfold cum
  refine Finset.sum_nbij' (fun x => ⟨(x.val + j.val + 1) % 256, by omega⟩) (fun r => ⟨(r.val + 255 - j.val) % 256, by omega⟩)
    (fun _ _ => Finset.mem_univ _) (fun _ _ => Finset.mem_univ _) ?_ ?_ ?_
  · intro x _
    refine Fin.ext ?_
    show ((x.val + j.val + 1) % 256 + 255 - j.val) % 256 = x.val
    omega
  · intro x _
    refine Fin.ext ?_
    show ((x.val + 255 - j.val) % 256 + j.val + 1) % 256 = x.val
    omega
  · intro x _
    by_cases h : 255 ≤ j.val + x.val
    · rw [dif_pos h, if_pos (by show (x.val + j.val + 1) % 256 ≤ j.val; omega)]
      exact congrArg p (Fin.ext (by show j.val + x.val - 255 = (x.val + j.val + 1) % 256; omega))
    · rw [dif_neg h, if_neg (by show ¬(x.val + j.val + 1) % 256 ≤ j.val; omega)]

end Cert.MixRow
end
-- ==== Proof.MixCum.lean ====
/- The gates of the reference: the logarithm of the logistic, and the running sum as a window that grows. -/
module

public import proofs.«01_k».proof.Proof.MixRows
public import proofs.«01_k».proof.Proof.MixLog

@[expose] public section
set_option maxRecDepth 16384
noncomputable section
namespace Cert.MixRefIdeal.Rows
open Cert.MixRefIdeal Cert.MixRefIdeal.Gen Idealize.ShloMosaic Idealize.ShloMosaic.TcCoe Idealize.ShloMosaic.Tactic Idealize.SL.Sem
variable (x0 : FVec Ideal S8x4096x1024 .f32) (x1 : FVec Ideal S1x1024 .f32) (x2 : FVec Ideal S1x1024x5640 .f32) (x3 : FVec Ideal S1x4x1024 .f32) (x4 x5 : FVec Ideal S1x4 .f32)

theorem ipre (i0 : Fin 8) (i1 : Fin 4096) (i2 : Fin 4) : Read.val_main_v144 (F := Ideal) x0 x1 x2 x4 (ix3 i0 i1 i2)
    = MixRow.z (fun b s k => x0 (ix3 b s k)) (fun k => x1 (ix2 0 k)) (fun k n => x2 (ix3 0 k n)) i0 i1 ⟨3584 + i2.val, by omega⟩ + x4 (ix2 0 i2) := by
  rw [← z_at x0 x1 x2]
  pointwise [Read.val_main_v144, Read.val_main_v143, Read.val_main_v142, Read.val_main_v141, Read.val_main_v23]

theorem fpre (i0 : Fin 8) (i1 : Fin 4096) (i2 : Fin 4) : Read.val_main_v148 (F := Ideal) x0 x1 x2 x5 (ix3 i0 i1 i2)
    = MixRow.z (fun b s k => x0 (ix3 b s k)) (fun k => x1 (ix2 0 k)) (fun k n => x2 (ix3 0 k n)) i0 i1 ⟨3588 + i2.val, by omega⟩ + x5 (ix2 0 i2) := by
  rw [← z_at x0 x1 x2]
  pointwise [Read.val_main_v148, Read.val_main_v147, Read.val_main_v146, Read.val_main_v145, Read.val_main_v24]

theorem logf (i : S8x4096x4.Idx) : Read.val_main_v149 (F := Ideal) x0 x1 x2 x5 i = MixRow.logSig (Read.val_main_v148 (F := Ideal) x0 x1 x2 x5 i) := by
  simp only [Read.val_main_v149_apply, Read.val_main_call2_v1_apply, Read.val_main_call2_call0_v11_apply, Read.val_main_call2_call0_v10_apply, Read.val_main_call2_call0_v9_apply, Read.val_main_call2_call0_v8_apply, Read.val_main_call2_call0_v7_apply, Read.val_main_call2_call0_v6_apply, Read.val_main_call2_call0_v5_apply, Read.val_main_call2_call0_v4_apply, Read.val_main_call2_call0_v3_apply, Read.val_main_call2_call0_v2_apply, Read.val_main_call2_call0_v1_apply, Read.val_main_call2_call0_v0_apply, Read.val_main_call2_call0_cst_apply, Read.val_main_call2_v0_apply]
  generalize Read.val_main_v148 (F := Ideal) x0 x1 x2 x5 i = y
  have hc : Scalar.select (FloatOps.cmpf (F := Ideal) (φ := .f32) .une (FloatOps.subf (FloatOps.hostNegf y) (FloatOps.ofBits .f32 0x00000000#32)) (FloatOps.subf (FloatOps.hostNegf y) (FloatOps.ofBits .f32 0x00000000#32))) (FloatOps.addf (FloatOps.hostNegf y) (FloatOps.ofBits (F := Ideal) .f32 0x00000000#32)) (FloatOps.addf (FloatOps.maximumf (FloatOps.hostNegf y) (FloatOps.ofBits .f32 0x00000000#32)) (FloatOps.hostUnary .log1p (FloatOps.hostUnary .exp (FloatOps.hostNegf (FloatOps.hostAbsf (FloatOps.subf (FloatOps.hostNegf y) (FloatOps.ofBits .f32 0x00000000#32)))))))
      = FloatOps.addf (F := Ideal) (φ := .f32) (FloatOps.maximumf (FloatOps.hostNegf y) (FloatOps.ofBits .f32 0x00000000#32)) (FloatOps.hostUnary .log1p (FloatOps.hostUnary .exp (FloatOps.hostNegf (FloatOps.hostAbsf (FloatOps.subf (FloatOps.hostNegf y) (FloatOps.ofBits .f32 0x00000000#32)))))) := by
    generalize FloatOps.subf (F := Ideal) (φ := .f32) (FloatOps.hostNegf y) (FloatOps.ofBits .f32 0x00000000#32) = d
    have e : FloatOps.cmpf (F := Ideal) (φ := .f32) .une d d = 0#1 := by
      show BitVec.ofBool (decide ((d : EReal) ≠ d)) = 0#1
      rw [decide_eq_false (fun h => h rfl)]
      rfl
    rw [e]
    rfl
  have hz : (FloatOps.ofBits (F := Ideal) .f32 0x00000000#32 : EReal) = 0 := by simp
  rw [hc]
  show -(max (-y) (FloatOps.ofBits (F := Ideal) .f32 0x00000000#32 : EReal) + Ideal.log (1 + Ideal.exp (-(max (-y - (FloatOps.ofBits (F := Ideal) .f32 0x00000000#32 : EReal)) (-(-y - (FloatOps.ofBits (F := Ideal) .f32 0x00000000#32 : EReal))))))) = _
  rw [hz, sub_zero]
  exact MixRow.soft_eq y

/-- The window's positions. -/
def slots : Fin 256 ≃ (⟨4, ![1, 1, 256, 1]⟩ : Shape).Idx where
  toFun x := ix4 0 0 x 0
  invFun i := i 2
  left_inv x := rfl
  right_inv i := by
    idx_vars i
    obtain rfl : i0 = 0 := Subsingleton.elim _ _
    obtain rfl : i1 = 0 := Subsingleton.elim _ _
    obtain rfl : i3 = 0 := Subsingleton.elim _ _
    rfl

theorem window_at (x : FVec Ideal S8x16x256x4 .f32) (v : FVec Ideal S_ .f32) (hv : ∀ i, (v i : EReal) = 0) (b : Fin 8) (c : Fin 16) (j : Fin 256) (n : Fin 4) :
    (Host.reduceWindowAdd ![1, 1, 256, 1] ![1, 1, 1, 1] ![0, 0, 255, 0] ![0, 0, 0, 0] x v reduceWindows_S8x16x256x4_S8x16x256x4_w1s1p0_0_w1s1p0_0_w256s1p255_0_w1s1p0_0 h_S_ : FVec Ideal S8x16x256x4 .f32) (ix4 b c j n)
      = MixRow.cum (fun r => x (ix4 b c r n)) j := by
  unfold Host.reduceWindowAdd
  rw [hv]
  show Ideal.hostReduceWindowAdd _ _ _ _ reduceWindows_S8x16x256x4_S8x16x256x4_w1s1p0_0_w1s1p0_0_w256s1p255_0_w1s1p0_0 x 0 (ix4 b c j n) = _
  unfold Ideal.hostReduceWindowAdd Host.reduceWindow
  dsimp only
  rw [MixRow.fold_sum, ← Equiv.sum_comp (slots.trans (Shape.rowMajor _)), ← MixRow.window_sum]
  refine Finset.sum_congr rfl fun y _ => ?_
  simp only [Equiv.trans_apply, Equiv.symm_apply_apply]
  by_cases h : 255 ≤ j.val + y.val
  · rw [dif_pos h, dif_pos ?_]
    · refine congrArg x (funext fun a => Fin.ext ?_)
      match a with
      | 0 => show b.val * 1 + 0 - 0 = b.val; omega
      | 1 => show c.val * 1 + 0 - 0 = c.val; omega
      | 2 => show j.val * 1 + y.val - 255 = j.val + y.val - 255; omega
      | 3 => show n.val * 1 + 0 - 0 = n.val; omega
    · intro a
      match a with
      | 0 => show 0 ≤ b.val * 1 + 0 ∧ b.val * 1 + 0 - 0 < 8; omega
      | 1 => show 0 ≤ c.val * 1 + 0 ∧ c.val * 1 + 0 - 0 < 16; omega
      | 2 => show 255 ≤ j.val * 1 + y.val ∧ j.val * 1 + y.val - 255 < 256; omega
      | 3 => show 0 ≤ n.val * 1 + 0 ∧ n.val * 1 + 0 - 0 < 4; omega
  · rw [dif_neg h, dif_neg ?_]
    intro k
    have k2 : 255 ≤ j.val * 1 + y.val := (k 2).1
    omega

theorem sum_at (b : Fin 8) (c : Fin 16) (j : Fin 256) (n : Fin 4) : Read.val_main_v151 (F := Ideal) x0 x1 x2 x5 (ix4 b c j n)
    = MixRow.cum (fun r => MixRow.logSig (MixRow.z (fun b s k => x0 (ix3 b s k)) (fun k => x1 (ix2 0 k)) (fun k n => x2 (ix3 0 k n)) b ⟨c.val * 256 + r.val, by omega⟩ ⟨3588 + n.val, by omega⟩ + x5 (ix2 0 n))) j := by
  unfold Read.val_main_v151
  refine (window_at _ _ (fun i => ?_) b c j n).trans ?_
  · rw [Read.val_main_call3_call0_v0_apply, Read.val_main_call3_call0_cst_apply]
    simp
  · refine congrArg (fun p => MixRow.cum p j) (funext fun r => ?_)
    rw [Read.val_main_v150_apply, logf]
    refine congrArg MixRow.logSig ?_
    have e : Read.idx_main_v150 (ix4 b c r n) = ix3 b ⟨c.val * 256 + r.val, by omega⟩ n := by
      funext a
      refine Fin.ext ?_
      match a with
      | 0 => show (((b.val * 16 + c.val) * 256 + r.val) * 4 + n.val) / 16384 = b.val; omega
      | 1 => show (((b.val * 16 + c.val) * 256 + r.val) * 4 + n.val) / 4 % 4096 = c.val * 256 + r.val; omega
      | 2 => show (((b.val * 16 + c.val) * 256 + r.val) * 4 + n.val) % 4 = n.val; omega
    rw [e, fpre]

theorem cat_at (A B : FVec Ideal S8x4096x4 .f32) (b : Fin 8) (s : Fin 4096) (n : Fin 8) :
    (concatenate S8x4096x8 2 [⟨S8x4096x4, A⟩, ⟨S8x4096x4, B⟩] concatenates_S8x4096x4_S8x4096x4_S8x4096x8_d2 : FVec Ideal S8x4096x8 .f32) (ix3 b s n)
      = if h : n.val < 4 then A (ix3 b s ⟨n.val, h⟩) else B (ix3 b s ⟨n.val - 4, by omega⟩) := by
  pointwise

/-- A gate's cell of the reference. -/
theorem cell (b : Fin 8) (c : Fin 16) (j : Fin 256) (n : Fin 8) : Read.val_main_v153 (F := Ideal) x0 x1 x2 x4 x5 (ix3 b ⟨c.val * 256 + j.val, by omega⟩ n)
    = MixRow.gate (fun b s k => x0 (ix3 b s k)) (fun k => x1 (ix2 0 k)) (fun k n => x2 (ix3 0 k n)) (fun n => x4 (ix2 0 n)) (fun n => x5 (ix2 0 n)) b c j n := by
  unfold Read.val_main_v153
  rw [cat_at]
  unfold MixRow.gate
  by_cases h : n.val < 4
  · rw [dif_pos h, dif_pos h, Read.val_main_v152_apply]
    have e : Read.idx_main_v152 (ix3 b ⟨c.val * 256 + j.val, by omega⟩ ⟨n.val, h⟩) = ix4 b c j ⟨n.val, h⟩ := by
      funext a
      refine Fin.ext ?_
      match a with
      | 0 => show ((b.val * 4096 + (c.val * 256 + j.val)) * 4 + n.val) / 16384 = b.val; omega
      | 1 => show ((b.val * 4096 + (c.val * 256 + j.val)) * 4 + n.val) / 1024 % 16 = c.val; omega
      | 2 => show ((b.val * 4096 + (c.val * 256 + j.val)) * 4 + n.val) / 4 % 256 = j.val; omega
      | 3 => show ((b.val * 4096 + (c.val * 256 + j.val)) * 4 + n.val) % 4 = n.val; omega
    rw [e, sum_at]
  · rw [dif_neg h, dif_neg h, ipre]

theorem gcol (b : Fin 8) (s : Fin 4096) (n : Fin 8) : Read.val_main_v153 (F := Ideal) x0 x1 x2 x4 x5 (ix3 b s n)
    = MixRow.gate (fun b s k => x0 (ix3 b s k)) (fun k => x1 (ix2 0 k)) (fun k n => x2 (ix3 0 k n)) (fun n => x4 (ix2 0 n)) (fun n => x5 (ix2 0 n)) b ⟨s.val / 256, by omega⟩ ⟨s.val % 256, by omega⟩ n := by
  rw [← cell x0 x1 x2 x4 x5]
  exact congrArg (fun s => Read.val_main_v153 (F := Ideal) x0 x1 x2 x4 x5 (ix3 b s n)) (Fin.ext (by show s.val = s.val / 256 * 256 + s.val % 256; omega))

theorem grow (b : Fin 8) (c : Fin 16) (n : Fin 8) (j : Fin 256) : Read.val_main_v155 (F := Ideal) x0 x1 x2 x4 x5 (ix4 b c n j)
    = MixRow.gate (fun b s k => x0 (ix3 b s k)) (fun k => x1 (ix2 0 k)) (fun k n => x2 (ix3 0 k n)) (fun n => x4 (ix2 0 n)) (fun n => x5 (ix2 0 n)) b c j n := by
  rw [← cell x0 x1 x2 x4 x5, Read.val_main_v155_apply, Read.val_main_v154_apply]
  have e : Read.idx_main_v154 (Read.idx_main_v155 (ix4 b c n j)) = ix3 b ⟨c.val * 256 + j.val, by omega⟩ n := by
    funext a
    refine Fin.ext ?_
    match a with
    | 0 => show (((b.val * 16 + c.val) * 256 + j.val) * 8 + n.val) / 32768 = b.val; omega
    | 1 => show (((b.val * 16 + c.val) * 256 + j.val) * 8 + n.val) / 8 % 4096 = c.val * 256 + j.val; omega
    | 2 => show (((b.val * 16 + c.val) * 256 + j.val) * 8 + n.val) % 8 = n.val; omega
  rw [e]

end Cert.MixRefIdeal.Rows
end
-- ==== Proof.MixClaim.lean ====
/- The projection call: the reference's arrays equal the arrays the kernel leaves, and the claims about the three
   programs. -/
module

public import proofs.«01_k».proof.Defs
public import proofs.«01_k».proof.Proof.MixArray
public import proofs.«01_k».proof.Proof.MixRows
public import proofs.«01_k».proof.Proof.MixCum
public import proofs.«01_k».proof.Proof.MixFrame
public import proofs.«01_k».proof.Proof.MixBitsFrame
public import proofs.«01_k».proof.Proof.Gen.MixRefIdeal.Run
public import proofs.«01_k».proof.Proof.Gen.MixRefIdeal.Read
public import Idealize.ShloMosaic.Adequacy
public import Idealize.ShloMosaic.Init
public import Idealize.ShloMosaic.Lib.Claim

@[expose] public section
set_option maxRecDepth 16384
noncomputable section
namespace Cert.MixClaim
open Idealize.ShloMosaic Idealize.ShloMosaic.TcCoe Idealize.ShloMosaic.Tactic Idealize.SL.Sem

instance : Cert.Mix.Facts := Cert.Mix.Gen.facts
instance : Cert.MixIdeal.Facts := Cert.MixIdeal.Gen.facts
instance : Cert.MixRefIdeal.Facts := Cert.MixRefIdeal.Gen.facts

/-! The reference's arrays, over the kernel's arguments. -/
section
variable (m : (ℓ : Loc MixIdeal.nD MixIdeal.τ MixIdeal.sig) → Buf (Elt Ideal) ℓ) (c : Dev MixIdeal.nD)

theorem qa (x0 : FVec Ideal MixRefIdeal.S8x4096x1024 .f32) (x1 : FVec Ideal MixRefIdeal.S1x1024 .f32) (x2 : FVec Ideal MixRefIdeal.S1x1024x5640 .f32)
    (h0 : x0 = (m ((c.tc : Thread MixIdeal.nD MixIdeal.τ).loc MixIdeal.main_arg0) : FVec Ideal MixIdeal.S8x4096x1024 .f32)) (h1 : x1 = (m ((c.tc : Thread MixIdeal.nD MixIdeal.τ).loc MixIdeal.main_arg1) : FVec Ideal MixIdeal.S1x1024 .f32)) (h2 : x2 = (m ((c.tc : Thread MixIdeal.nD MixIdeal.τ).loc MixIdeal.main_arg2) : FVec Ideal MixIdeal.S1x1024x5640 .f32)) :
    MixRefIdeal.Read.val_main_v160 (F := Ideal) x0 x1 x2 = MixIdeal.Array.a_qa m c := by
  subst h0 h1 h2
  funext i
  idx_vars i
  exact MixRefIdeal.Rows.qa _ _ _ _ _ _

theorem ka (x0 : FVec Ideal MixRefIdeal.S8x4096x1024 .f32) (x1 : FVec Ideal MixRefIdeal.S1x1024 .f32) (x2 : FVec Ideal MixRefIdeal.S1x1024x5640 .f32)
    (h0 : x0 = (m ((c.tc : Thread MixIdeal.nD MixIdeal.τ).loc MixIdeal.main_arg0) : FVec Ideal MixIdeal.S8x4096x1024 .f32)) (h1 : x1 = (m ((c.tc : Thread MixIdeal.nD MixIdeal.τ).loc MixIdeal.main_arg1) : FVec Ideal MixIdeal.S1x1024 .f32)) (h2 : x2 = (m ((c.tc : Thread MixIdeal.nD MixIdeal.τ).loc MixIdeal.main_arg2) : FVec Ideal MixIdeal.S1x1024x5640 .f32)) :
    MixRefIdeal.Read.val_main_v161 (F := Ideal) x0 x1 x2 = MixIdeal.Array.a_ka m c := by
  subst h0 h1 h2
  funext i
  idx_vars i
  exact MixRefIdeal.Rows.ka _ _ _ _ _ _

theorem kmean (x0 : FVec Ideal MixRefIdeal.S8x4096x1024 .f32) (x1 : FVec Ideal MixRefIdeal.S1x1024 .f32) (x2 : FVec Ideal MixRefIdeal.S1x1024x5640 .f32)
    (h0 : x0 = (m ((c.tc : Thread MixIdeal.nD MixIdeal.τ).loc MixIdeal.main_arg0) : FVec Ideal MixIdeal.S8x4096x1024 .f32)) (h1 : x1 = (m ((c.tc : Thread MixIdeal.nD MixIdeal.τ).loc MixIdeal.main_arg1) : FVec Ideal MixIdeal.S1x1024 .f32)) (h2 : x2 = (m ((c.tc : Thread MixIdeal.nD MixIdeal.τ).loc MixIdeal.main_arg2) : FVec Ideal MixIdeal.S1x1024x5640 .f32)) :
    MixRefIdeal.Read.val_main_v100 (F := Ideal) x0 x1 x2 = MixIdeal.Array.a_kmean m c := by
  subst h0 h1 h2
  funext i
  idx_vars i
  exact MixRefIdeal.Rows.kmean _ _ _ _ _ _ _

theorem vat (x0 : FVec Ideal MixRefIdeal.S8x4096x1024 .f32) (x1 : FVec Ideal MixRefIdeal.S1x1024 .f32) (x2 : FVec Ideal MixRefIdeal.S1x1024x5640 .f32)
    (h0 : x0 = (m ((c.tc : Thread MixIdeal.nD MixIdeal.τ).loc MixIdeal.main_arg0) : FVec Ideal MixIdeal.S8x4096x1024 .f32)) (h1 : x1 = (m ((c.tc : Thread MixIdeal.nD MixIdeal.τ).loc MixIdeal.main_arg1) : FVec Ideal MixIdeal.S1x1024 .f32)) (h2 : x2 = (m ((c.tc : Thread MixIdeal.nD MixIdeal.τ).loc MixIdeal.main_arg2) : FVec Ideal MixIdeal.S1x1024x5640 .f32)) :
    MixRefIdeal.Read.val_main_v162 (F := Ideal) x0 x1 x2 = MixIdeal.Array.a_vat m c := by
  subst h0 h1 h2
  funext i
  idx_vars i
  exact MixRefIdeal.Rows.vat _ _ _ _ _ _ _

theorem vbt (x0 : FVec Ideal MixRefIdeal.S8x4096x1024 .f32) (x1 : FVec Ideal MixRefIdeal.S1x1024 .f32) (x2 : FVec Ideal MixRefIdeal.S1x1024x5640 .f32)
    (h0 : x0 = (m ((c.tc : Thread MixIdeal.nD MixIdeal.τ).loc MixIdeal.main_arg0) : FVec Ideal MixIdeal.S8x4096x1024 .f32)) (h1 : x1 = (m ((c.tc : Thread MixIdeal.nD MixIdeal.τ).loc MixIdeal.main_arg1) : FVec Ideal MixIdeal.S1x1024 .f32)) (h2 : x2 = (m ((c.tc : Thread MixIdeal.nD MixIdeal.τ).loc MixIdeal.main_arg2) : FVec Ideal MixIdeal.S1x1024x5640 .f32)) :
    MixRefIdeal.Read.val_main_v163 (F := Ideal) x0 x1 x2 = MixIdeal.Array.a_vbt m c := by
  subst h0 h1 h2
  funext i
  idx_vars i
  exact MixRefIdeal.Rows.vbt _ _ _ _ _ _ _

theorem qb (x0 : FVec Ideal MixRefIdeal.S8x4096x1024 .f32) (x1 : FVec Ideal MixRefIdeal.S1x1024 .f32) (x2 : FVec Ideal MixRefIdeal.S1x1024x5640 .f32) (x3 : FVec Ideal MixRefIdeal.S1x4x1024 .f32)
    (h0 : x0 = (m ((c.tc : Thread MixIdeal.nD MixIdeal.τ).loc MixIdeal.main_arg0) : FVec Ideal MixIdeal.S8x4096x1024 .f32)) (h1 : x1 = (m ((c.tc : Thread MixIdeal.nD MixIdeal.τ).loc MixIdeal.main_arg1) : FVec Ideal MixIdeal.S1x1024 .f32)) (h2 : x2 = (m ((c.tc : Thread MixIdeal.nD MixIdeal.τ).loc MixIdeal.main_arg2) : FVec Ideal MixIdeal.S1x1024x5640 .f32)) (h3 : x3 = (m ((c.tc : Thread MixIdeal.nD MixIdeal.τ).loc MixIdeal.main_arg3) : FVec Ideal MixIdeal.S1x4x1024 .f32)) :
    MixRefIdeal.Read.val_main_v164 (F := Ideal) x0 x1 x2 x3 = MixIdeal.Array.a_qb m c := by
  subst h0 h1 h2 h3
  funext i
  idx_vars i
  exact MixRefIdeal.Rows.qb _ _ _ _ _ _ _

theorem kb (x0 : FVec Ideal MixRefIdeal.S8x4096x1024 .f32) (x1 : FVec Ideal MixRefIdeal.S1x1024 .f32) (x2 : FVec Ideal MixRefIdeal.S1x1024x5640 .f32) (x3 : FVec Ideal MixRefIdeal.S1x4x1024 .f32)
    (h0 : x0 = (m ((c.tc : Thread MixIdeal.nD MixIdeal.τ).loc MixIdeal.main_arg0) : FVec Ideal MixIdeal.S8x4096x1024 .f32)) (h1 : x1 = (m ((c.tc : Thread MixIdeal.nD MixIdeal.τ).loc MixIdeal.main_arg1) : FVec Ideal MixIdeal.S1x1024 .f32)) (h2 : x2 = (m ((c.tc : Thread MixIdeal.nD MixIdeal.τ).loc MixIdeal.main_arg2) : FVec Ideal MixIdeal.S1x1024x5640 .f32)) (h3 : x3 = (m ((c.tc : Thread MixIdeal.nD MixIdeal.τ).loc MixIdeal.main_arg3) : FVec Ideal MixIdeal.S1x4x1024 .f32)) :
    MixRefIdeal.Read.val_main_v165 (F := Ideal) x0 x1 x2 x3 = MixIdeal.Array.a_kb m c := by
  subst h0 h1 h2 h3
  funext i
  idx_vars i
  exact MixRefIdeal.Rows.kb _ _ _ _ _ _ _

theorem ob (x0 : FVec Ideal MixRefIdeal.S8x4096x1024 .f32) (x1 : FVec Ideal MixRefIdeal.S1x1024 .f32) (x2 : FVec Ideal MixRefIdeal.S1x1024x5640 .f32)
    (h0 : x0 = (m ((c.tc : Thread MixIdeal.nD MixIdeal.τ).loc MixIdeal.main_arg0) : FVec Ideal MixIdeal.S8x4096x1024 .f32)) (h1 : x1 = (m ((c.tc : Thread MixIdeal.nD MixIdeal.τ).loc MixIdeal.main_arg1) : FVec Ideal MixIdeal.S1x1024 .f32)) (h2 : x2 = (m ((c.tc : Thread MixIdeal.nD MixIdeal.τ).loc MixIdeal.main_arg2) : FVec Ideal MixIdeal.S1x1024x5640 .f32)) :
    MixRefIdeal.Read.val_main_v166 (F := Ideal) x0 x1 x2 = MixIdeal.Array.a_ob m c := by
  subst h0 h1 h2
  funext i
  idx_vars i
  exact MixRefIdeal.Rows.ob _ _ _ _ _ _

theorem ga (x0 : FVec Ideal MixRefIdeal.S8x4096x1024 .f32) (x1 : FVec Ideal MixRefIdeal.S1x1024 .f32) (x2 : FVec Ideal MixRefIdeal.S1x1024x5640 .f32)
    (h0 : x0 = (m ((c.tc : Thread MixIdeal.nD MixIdeal.τ).loc MixIdeal.main_arg0) : FVec Ideal MixIdeal.S8x4096x1024 .f32)) (h1 : x1 = (m ((c.tc : Thread MixIdeal.nD MixIdeal.τ).loc MixIdeal.main_arg1) : FVec Ideal MixIdeal.S1x1024 .f32)) (h2 : x2 = (m ((c.tc : Thread MixIdeal.nD MixIdeal.τ).loc MixIdeal.main_arg2) : FVec Ideal MixIdeal.S1x1024x5640 .f32)) :
    MixRefIdeal.Read.val_main_v167 (F := Ideal) x0 x1 x2 = MixIdeal.Array.a_ga m c := by
  subst h0 h1 h2
  funext i
  idx_vars i
  exact MixRefIdeal.Rows.ga _ _ _ _ _ _

theorem gb (x0 : FVec Ideal MixRefIdeal.S8x4096x1024 .f32) (x1 : FVec Ideal MixRefIdeal.S1x1024 .f32) (x2 : FVec Ideal MixRefIdeal.S1x1024x5640 .f32)
    (h0 : x0 = (m ((c.tc : Thread MixIdeal.nD MixIdeal.τ).loc MixIdeal.main_arg0) : FVec Ideal MixIdeal.S8x4096x1024 .f32)) (h1 : x1 = (m ((c.tc : Thread MixIdeal.nD MixIdeal.τ).loc MixIdeal.main_arg1) : FVec Ideal MixIdeal.S1x1024 .f32)) (h2 : x2 = (m ((c.tc : Thread MixIdeal.nD MixIdeal.τ).loc MixIdeal.main_arg2) : FVec Ideal MixIdeal.S1x1024x5640 .f32)) :
    MixRefIdeal.Read.val_main_v168 (F := Ideal) x0 x1 x2 = MixIdeal.Array.a_gb m c := by
  subst h0 h1 h2
  funext i
  idx_vars i
  exact MixRefIdeal.Rows.gb _ _ _ _ _ _

theorem grow (x0 : FVec Ideal MixRefIdeal.S8x4096x1024 .f32) (x1 : FVec Ideal MixRefIdeal.S1x1024 .f32) (x2 : FVec Ideal MixRefIdeal.S1x1024x5640 .f32) (x4 : FVec Ideal MixRefIdeal.S1x4 .f32) (x5 : FVec Ideal MixRefIdeal.S1x4 .f32)
    (h0 : x0 = (m ((c.tc : Thread MixIdeal.nD MixIdeal.τ).loc MixIdeal.main_arg0) : FVec Ideal MixIdeal.S8x4096x1024 .f32)) (h1 : x1 = (m ((c.tc : Thread MixIdeal.nD MixIdeal.τ).loc MixIdeal.main_arg1) : FVec Ideal MixIdeal.S1x1024 .f32)) (h2 : x2 = (m ((c.tc : Thread MixIdeal.nD MixIdeal.τ).loc MixIdeal.main_arg2) : FVec Ideal MixIdeal.S1x1024x5640 .f32)) (h4 : x4 = (m ((c.tc : Thread MixIdeal.nD MixIdeal.τ).loc MixIdeal.main_arg4) : FVec Ideal MixIdeal.S1x4 .f32)) (h5 : x5 = (m ((c.tc : Thread MixIdeal.nD MixIdeal.τ).loc MixIdeal.main_arg5) : FVec Ideal MixIdeal.S1x4 .f32)) :
    MixRefIdeal.Read.val_main_v155 (F := Ideal) x0 x1 x2 x4 x5 = MixIdeal.Array.a_grow m c := by
  subst h0 h1 h2 h4 h5
  funext i
  idx_vars i
  exact MixRefIdeal.Rows.grow _ _ _ _ _ _ _ _ _

theorem gcol (x0 : FVec Ideal MixRefIdeal.S8x4096x1024 .f32) (x1 : FVec Ideal MixRefIdeal.S1x1024 .f32) (x2 : FVec Ideal MixRefIdeal.S1x1024x5640 .f32) (x4 : FVec Ideal MixRefIdeal.S1x4 .f32) (x5 : FVec Ideal MixRefIdeal.S1x4 .f32)
    (h0 : x0 = (m ((c.tc : Thread MixIdeal.nD MixIdeal.τ).loc MixIdeal.main_arg0) : FVec Ideal MixIdeal.S8x4096x1024 .f32)) (h1 : x1 = (m ((c.tc : Thread MixIdeal.nD MixIdeal.τ).loc MixIdeal.main_arg1) : FVec Ideal MixIdeal.S1x1024 .f32)) (h2 : x2 = (m ((c.tc : Thread MixIdeal.nD MixIdeal.τ).loc MixIdeal.main_arg2) : FVec Ideal MixIdeal.S1x1024x5640 .f32)) (h4 : x4 = (m ((c.tc : Thread MixIdeal.nD MixIdeal.τ).loc MixIdeal.main_arg4) : FVec Ideal MixIdeal.S1x4 .f32)) (h5 : x5 = (m ((c.tc : Thread MixIdeal.nD MixIdeal.τ).loc MixIdeal.main_arg5) : FVec Ideal MixIdeal.S1x4 .f32)) :
    MixRefIdeal.Read.val_main_v153 (F := Ideal) x0 x1 x2 x4 x5 = MixIdeal.Array.a_gcol m c := by
  subst h0 h1 h2 h4 h5
  funext i
  idx_vars i
  exact MixRefIdeal.Rows.gcol _ _ _ _ _ _ _ _
end

theorem frame : Cert.quiescent_Mix := fun m g _ => Cert.MixBitsRun.frame m g

theorem frame_ideal : Cert.quiescent_MixIdeal := fun m g _ => Cert.MixRun.frame m g

theorem frame_ref : Cert.quiescent_MixRefIdeal := by
  intro m g _
  refine (Cert.MixRefIdeal.Value.run (F := Ideal) m g).mono ?_
  intro r h
  refine ⟨fun c => (h c).2.2.2.2.2.2.2.2.2.2.2.2, ?_⟩
  exact Idealize.ShloMosaic.sem_eq_zero_of_no_sems (by decide) r

set_option maxHeartbeats 1600000 in
/-- At the ideal instance the kernel and the reference leave equal arrays. -/
theorem algebraic : Cert.algebraic_MixIdeal_MixRefIdeal := by
  intro m g m' g' _ hagree
  refine ⟨fun c => MixIdeal.Array.a_qa m c, fun c => MixIdeal.Array.a_ka m c, fun c => MixIdeal.Array.a_kmean m c, fun c => MixIdeal.Array.a_vat m c, fun c => MixIdeal.Array.a_vbt m c, fun c => MixIdeal.Array.a_qb m c, fun c => MixIdeal.Array.a_kb m c, fun c => MixIdeal.Array.a_ob m c, fun c => MixIdeal.Array.a_ga m c, fun c => MixIdeal.Array.a_gb m c, fun c => MixIdeal.Array.a_grow m c, fun c => MixIdeal.Array.a_gcol m c, ?_, ?_⟩
  · refine (θ_run_and (Cert.MixRun.run_blocks (F := Ideal) m g) (Cert.MixRun.unchanged (F := Ideal) m g)).mono ?_
    intro r h c
    obtain ⟨h0, h1, h2, h3, h4, h5, h6, h7, h8, h9, h10, h11⟩ := h.1 c
    exact ⟨h0.trans (MixIdeal.Array.final13 m c), h1.trans (MixIdeal.Array.final14 m c), h2.trans (MixIdeal.Array.final15 m c), h3.trans (MixIdeal.Array.final16 m c), h4.trans (MixIdeal.Array.final17 m c), h5.trans (MixIdeal.Array.final18 m c), h6.trans (MixIdeal.Array.final19 m c), h7.trans (MixIdeal.Array.final20 m c), h8.trans (MixIdeal.Array.final21 m c), h9.trans (MixIdeal.Array.final22 m c), h10.trans (MixIdeal.Array.final23 m c), h11.trans (MixIdeal.Array.final24 m c), h.2 c⟩
  · refine (Cert.MixRefIdeal.Value.run (F := Ideal) m' g').mono ?_
    intro r h c
    obtain ⟨h0, h1, h2, h3, h4, h5, h6, h7, h8, h9, h10, h11, hr⟩ := h c
    obtain ⟨e0, e1, e2, e3, e4, e5⟩ := hagree c
    refine ⟨h0.trans ?_, h1.trans ?_, h2.trans ?_, h3.trans ?_, h4.trans ?_, h5.trans ?_, h6.trans ?_, h7.trans ?_, h8.trans ?_, h9.trans ?_, h10.trans ?_, h11.trans ?_, hr⟩
    · exact (MixRefIdeal.Read.val_main_v160_eq (F := Ideal) _).trans (qa m c _ _ _ e0 e1 e2)
    · exact (MixRefIdeal.Read.val_main_v161_eq (F := Ideal) _).trans (ka m c _ _ _ e0 e1 e2)
    · exact (MixRefIdeal.Read.val_main_v100_eq (F := Ideal) _).trans (kmean m c _ _ _ e0 e1 e2)
    · exact (MixRefIdeal.Read.val_main_v162_eq (F := Ideal) _).trans (vat m c _ _ _ e0 e1 e2)
    · exact (MixRefIdeal.Read.val_main_v163_eq (F := Ideal) _).trans (vbt m c _ _ _ e0 e1 e2)
    · exact (MixRefIdeal.Read.val_main_v164_eq (F := Ideal) _).trans (qb m c _ _ _ _ e0 e1 e2 e3)
    · exact (MixRefIdeal.Read.val_main_v165_eq (F := Ideal) _).trans (kb m c _ _ _ _ e0 e1 e2 e3)
    · exact (MixRefIdeal.Read.val_main_v166_eq (F := Ideal) _).trans (ob m c _ _ _ e0 e1 e2)
    · exact (MixRefIdeal.Read.val_main_v167_eq (F := Ideal) _).trans (ga m c _ _ _ e0 e1 e2)
    · exact (MixRefIdeal.Read.val_main_v168_eq (F := Ideal) _).trans (gb m c _ _ _ e0 e1 e2)
    · exact (MixRefIdeal.Read.val_main_v155_eq (F := Ideal) _).trans (grow m c _ _ _ _ _ e0 e1 e2 e4 e5)
    · exact (MixRefIdeal.Read.val_main_v153_eq (F := Ideal) _).trans (gcol m c _ _ _ _ _ e0 e1 e2 e4 e5)

end Cert.MixClaim

end
-- ==== Proof.MlstmClaim.lean ====
/- The recurrence's call: it runs without a fault, leaves its arguments as they were and ends quiet, in both
   semantics. -/
module

public import proofs.«01_k».proof.Defs
public import proofs.«01_k».proof.Proof.Gen.Mlstm.Frame
public import proofs.«01_k».proof.Proof.Gen.MlstmIdeal.Frame

@[expose] public section
noncomputable section
namespace Cert.MlstmClaim

instance : Cert.Mlstm.Facts := Cert.Mlstm.Gen.facts
instance : Cert.MlstmIdeal.Facts := Cert.MlstmIdeal.Gen.facts

theorem frame : Cert.quiescent_Mlstm := fun m g _ => Cert.Mlstm.Gen.frame m g

theorem frame_ideal : Cert.quiescent_MlstmIdeal := fun m g _ => Cert.MlstmIdeal.Gen.frame m g

end Cert.MlstmClaim

end
-- ==== Proof.lean ====
/- Every claim of the certificate, assembled from the modules that prove them call by call. -/
module

public import proofs.«01_k».proof.Defs
public import proofs.«01_k».proof.Proof.MergeClaim
public import proofs.«01_k».proof.Proof.MixClaim
public import proofs.«01_k».proof.Proof.MlstmClaim

@[expose] public section

noncomputable section

namespace Cert.Proof

theorem claim : Cert.Claim :=
  ⟨Cert.Merge.Gen.facts, Cert.MergeIdeal.Gen.facts, Cert.MergeRefIdeal.Gen.facts,
    Cert.Mix.Gen.facts, Cert.MixIdeal.Gen.facts, Cert.MixRefIdeal.Gen.facts,
    Cert.Mlstm.Gen.facts, Cert.MlstmIdeal.Gen.facts,
    Cert.MergeClaim.frame, Cert.MergeClaim.frame_ideal, Cert.MergeClaim.frame_ref,
    Cert.MixClaim.frame, Cert.MixClaim.frame_ideal, Cert.MixClaim.frame_ref,
    Cert.MlstmClaim.frame, Cert.MlstmClaim.frame_ideal,
    trivial, Cert.MergeClaim.algebraic, trivial, Cert.MixClaim.algebraic, trivial⟩

end Cert.Proof

end
